-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  IdealRules.named_const.Statement Cert.Kernel2Ideal.κ "q_fold" .f32 0x3E38AA3B#32 (((1 / 8) * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v36_0)) (v1 : (c : Dev Cert.Kernel2Ideal.nD) → Buf (Elt Ideal) ((c.tc : Thread Cert.Kernel2Ideal.nD Cert.Kernel2Ideal.τ).loc Cert.Kernel2Ideal.main_v36_1)) (v2 : (c : Dev Cert.Kernel2Ideal.nD) → Buf (Elt Ideal) ((c.tc : Thread Cert.Kernel2Ideal.nD Cert.Kernel2Ideal.τ).loc Cert.Kernel2Ideal.main_v36_2)) (v3 : (c : Dev Cert.Kernel2Ideal.nD) → Buf (Elt Ideal) ((c.tc : Thread Cert.Kernel2Ideal.nD Cert.Kernel2Ideal.τ).loc Cert.Kernel2Ideal.main_v36_3)) (v4 : (c : Dev Cert.Kernel2Ideal.nD) → Buf (Elt Ideal) ((c.tc : Thread Cert.Kernel2Ideal.nD Cert.Kernel2Ideal.τ).loc Cert.Kernel2Ideal.main_v36_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v36_0) = v0 c
          ∧ r.2.mem ((c.tc : Thread Cert.Kernel2Ideal.nD Cert.Kernel2Ideal.τ).loc Cert.Kernel2Ideal.main_v36_1) = v1 c
          ∧ r.2.mem ((c.tc : Thread Cert.Kernel2Ideal.nD Cert.Kernel2Ideal.τ).loc Cert.Kernel2Ideal.main_v36_2) = v2 c
          ∧ r.2.mem ((c.tc : Thread Cert.Kernel2Ideal.nD Cert.Kernel2Ideal.τ).loc Cert.Kernel2Ideal.main_v36_3) = v3 c
          ∧ r.2.mem ((c.tc : Thread Cert.Kernel2Ideal.nD Cert.Kernel2Ideal.τ).loc Cert.Kernel2Ideal.main_v36_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v108) = v0 c
          ∧ r.2.mem ((c.tc : Thread Cert.Reference2Ideal.nD Cert.Reference2Ideal.τ).loc Cert.Reference2Ideal.main_v110) = v1 c
          ∧ r.2.mem ((c.tc : Thread Cert.Reference2Ideal.nD Cert.Reference2Ideal.τ).loc Cert.Reference2Ideal.main_v112) = v2 c
          ∧ r.2.mem ((c.tc : Thread Cert.Reference2Ideal.nD Cert.Reference2Ideal.τ).loc Cert.Reference2Ideal.main_v114) = v3 c
          ∧ r.2.mem ((c.tc : Thread Cert.Reference2Ideal.nD Cert.Reference2Ideal.τ).loc Cert.Reference2Ideal.main_v116) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  IdealRules.named_const.Statement Cert.Kernel4Ideal.κ "q_fold" .f32 0x3E38AA3B#32 (((1 / 8) * (Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v37_0)) (v1 : (c : Dev Cert.Kernel4Ideal.nD) → Buf (Elt Ideal) ((c.tc : Thread Cert.Kernel4Ideal.nD Cert.Kernel4Ideal.τ).loc Cert.Kernel4Ideal.main_v37_1)) (v2 : (c : Dev Cert.Kernel4Ideal.nD) → Buf (Elt Ideal) ((c.tc : Thread Cert.Kernel4Ideal.nD Cert.Kernel4Ideal.τ).loc Cert.Kernel4Ideal.main_v37_2)) (v3 : (c : Dev Cert.Kernel4Ideal.nD) → Buf (Elt Ideal) ((c.tc : Thread Cert.Kernel4Ideal.nD Cert.Kernel4Ideal.τ).loc Cert.Kernel4Ideal.main_v37_3)) (v4 : (c : Dev Cert.Kernel4Ideal.nD) → Buf (Elt Ideal) ((c.tc : Thread Cert.Kernel4Ideal.nD Cert.Kernel4Ideal.τ).loc Cert.Kernel4Ideal.main_v37_4)) (v5 : (c : Dev Cert.Kernel4Ideal.nD) → Buf (Elt Ideal) ((c.tc : Thread Cert.Kernel4Ideal.nD Cert.Kernel4Ideal.τ).loc Cert.Kernel4Ideal.main_v37_5)) (v6 : (c : Dev Cert.Kernel4Ideal.nD) → Buf (Elt Ideal) ((c.tc : Thread Cert.Kernel4Ideal.nD Cert.Kernel4Ideal.τ).loc Cert.Kernel4Ideal.main_v37_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v37_0) = v0 c
          ∧ r.2.mem ((c.tc : Thread Cert.Kernel4Ideal.nD Cert.Kernel4Ideal.τ).loc Cert.Kernel4Ideal.main_v37_1) = v1 c
          ∧ r.2.mem ((c.tc : Thread Cert.Kernel4Ideal.nD Cert.Kernel4Ideal.τ).loc Cert.Kernel4Ideal.main_v37_2) = v2 c
          ∧ r.2.mem ((c.tc : Thread Cert.Kernel4Ideal.nD Cert.Kernel4Ideal.τ).loc Cert.Kernel4Ideal.main_v37_3) = v3 c
          ∧ r.2.mem ((c.tc : Thread Cert.Kernel4Ideal.nD Cert.Kernel4Ideal.τ).loc Cert.Kernel4Ideal.main_v37_4) = v4 c
          ∧ r.2.mem ((c.tc : Thread Cert.Kernel4Ideal.nD Cert.Kernel4Ideal.τ).loc Cert.Kernel4Ideal.main_v37_5) = v5 c
          ∧ r.2.mem ((c.tc : Thread Cert.Kernel4Ideal.nD Cert.Kernel4Ideal.τ).loc Cert.Kernel4Ideal.main_v37_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v146) = v0 c
          ∧ r.2.mem ((c.tc : Thread Cert.Reference4Ideal.nD Cert.Reference4Ideal.τ).loc Cert.Reference4Ideal.main_v148) = v1 c
          ∧ r.2.mem ((c.tc : Thread Cert.Reference4Ideal.nD Cert.Reference4Ideal.τ).loc Cert.Reference4Ideal.main_v154) = v2 c
          ∧ r.2.mem ((c.tc : Thread Cert.Reference4Ideal.nD Cert.Reference4Ideal.τ).loc Cert.Reference4Ideal.main_v156) = v3 c
          ∧ r.2.mem ((c.tc : Thread Cert.Reference4Ideal.nD Cert.Reference4Ideal.τ).loc Cert.Reference4Ideal.main_v158) = v4 c
          ∧ r.2.mem ((c.tc : Thread Cert.Reference4Ideal.nD Cert.Reference4Ideal.τ).loc Cert.Reference4Ideal.main_v164) = v5 c
          ∧ r.2.mem ((c.tc : Thread Cert.Reference4Ideal.nD Cert.Reference4Ideal.τ).loc Cert.Reference4Ideal.main_v165) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S4x8192x8x2x64 : Shape := ⟨5, ![4, 8192, 8, 2, 64]⟩
abbrev S4x8192x8x128 : Shape := ⟨4, ![4, 8192, 8, 128]⟩
abbrev S4x8192x1024 : Shape := ⟨3, ![4, 8192, 1024]⟩
abbrev S1x128 : Shape := ⟨2, ![1, 128]⟩
abbrev S1x64 : Shape := ⟨2, ![1, 64]⟩
abbrev S_ : Shape := ⟨0, ![]⟩

class Facts : Prop where
  bcast_S_S4x8192x8x2x64 : S_.BroadcastsInDim S4x8192x8x2x64 (![] : Fin 0 → Fin S4x8192x8x2x64.rank)
  bcast_S_S4x8192x8x128 : S_.BroadcastsInDim S4x8192x8x128 (![] : Fin 0 → Fin S4x8192x8x128.rank)
  bcast_S_S1x64 : S_.BroadcastsInDim S1x64 (![] : Fin 0 → Fin S1x64.rank)

variable [Facts]

def fn_part1 {F : FTy → Type} [FloatOps F] (main_arg8 : FVec F S1x64 .f32) (main_v2 : IVec S4x8192x8x2x64 1) (main_v5 : IVec S4x8192x8x2x64 1) (main_v8 : IVec S4x8192x8x128 1) (main_v11 : IVec S1x64 1) (main_v14 : IVec S1x64 1) (main_v17 : IVec S1x64 1) : IVec S4x8192x8x2x64 1 × IVec S4x8192x8x2x64 1 × IVec S4x8192x8x128 1 × IVec S1x64 1 × IVec S1x64 1 × IVec S1x64 1 × IVec S1x64 1 :=
  let main_v18 : FVec F S1x64 .f32 := Host.absf main_arg8
  let main_cst_5 : FVec F S_ .f32 := constant S_ .f32 0x7F800000#32
  let main_v19 : FVec F S1x64 .f32 := broadcastInDim S1x64 ![] bcast_S_S1x64 main_cst_5
  let main_v20 : IVec S1x64 1 := cmpf .olt main_v18 main_v19
  (main_v2, main_v5, main_v8, main_v11, main_v14, main_v17, main_v20)

def fn {F : FTy → Type} [FloatOps F] (main_arg0 : FVec F S4x8192x8x2x64 .f32) (main_arg1 : FVec F S4x8192x8x2x64 .f32) (main_arg2 : FVec F S4x8192x8x128 .f32) (main_arg3 : FVec F S4x8192x1024 .f32) (main_arg4 : FVec F S1x128 .f32) (main_arg5 : FVec F S1x64 .f32) (main_arg6 : FVec F S1x64 .f32) (main_arg7 : FVec F S1x64 .f32) (main_arg8 : FVec F S1x64 .f32) : IVec S4x8192x8x2x64 1 × IVec S4x8192x8x2x64 1 × IVec S4x8192x8x128 1 × IVec S1x64 1 × IVec S1x64 1 × IVec S1x64 1 × IVec S1x64 1 :=
  let main_v0 : FVec F S4x8192x8x2x64 .f32 := Host.absf main_arg0
  let main_cst : FVec F S_ .f32 := constant S_ .f32 0x7F800000#32
  let main_v1 : FVec F S4x8192x8x2x64 .f32 := broadcastInDim S4x8192x8x2x64 ![] bcast_S_S4x8192x8x2x64 main_cst
  let main_v2 : IVec S4x8192x8x2x64 1 := cmpf .olt main_v0 main_v1
  let main_v3 : FVec F S4x8192x8x2x64 .f32 := Host.absf main_arg1
  let main_cst_0 : FVec F S_ .f32 := constant S_ .f32 0x7F800000#32
  let main_v4 : FVec F S4x8192x8x2x64 .f32 := broadcastInDim S4x8192x8x2x64 ![] bcast_S_S4x8192x8x2x64 main_cst_0
  let main_v5 : IVec S4x8192x8x2x64 1 := cmpf .olt main_v3 main_v4
  let main_v6 : FVec F S4x8192x8x128 .f32 := Host.absf main_arg2
  let main_cst_1 : FVec F S_ .f32 := constant S_ .f32 0x7F800000#32
  let main_v7 : FVec F S4x8192x8x128 .f32 := broadcastInDim S4x8192x8x128 ![] bcast_S_S4x8192x8x128 main_cst_1
  let main_v8 : IVec S4x8192x8x128 1 := cmpf .olt main_v6 main_v7
  let main_v9 : FVec F S1x64 .f32 := Host.absf main_arg5
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S1x64 .f32 := Host.absf main_arg6
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  let main_v15 : FVec F S1x64 .f32 := Host.absf main_arg7
  let main_cst_4 : FVec F S_ .f32 := constant S_ .f32 0x7F800000#32
  let main_v16 : FVec F S1x64 .f32 := broadcastInDim S1x64 ![] bcast_S_S1x64 main_cst_4
  let main_v17 : IVec S1x64 1 := cmpf .olt main_v15 main_v16
  fn_part1 (F := F) main_arg8 main_v2 main_v5 main_v8 main_v11 main_v14 main_v17
-- ==== Kernel.lean ====
abbrev S4x8192x8x2x64 : Shape := ⟨5, ![4, 8192, 8, 2, 64]⟩
abbrev S4x8192x8x128 : Shape := ⟨4, ![4, 8192, 8, 128]⟩
abbrev S4x8192x1024 : Shape := ⟨3, ![4, 8192, 1024]⟩
abbrev S1x128 : Shape := ⟨2, ![1, 128]⟩
abbrev S1x64 : Shape := ⟨2, ![1, 64]⟩
abbrev S4x1024x8192 : Shape := ⟨3, ![4, 1024, 8192]⟩
abbrev S_ : Shape := ⟨0, ![]⟩
abbrev S128 : Shape := ⟨1, ![128]⟩
abbrev S128x1 : Shape := ⟨2, ![128, 1]⟩
abbrev S128x2048 : Shape := ⟨2, ![128, 2048]⟩
abbrev S64 : Shape := ⟨1, ![64]⟩
abbrev S1x128x2048 : Shape := ⟨3, ![1, 128, 2048]⟩
abbrev S1x8192x128 : Shape := ⟨3, ![1, 8192, 128]⟩
abbrev S1x128x8192 : Shape := ⟨3, ![1, 128, 8192]⟩
abbrev S1 : Shape := ⟨1, ![1]⟩
abbrev S1x1 : Shape := ⟨2, ![1, 1]⟩
abbrev S1x2048 : Shape := ⟨2, ![1, 2048]⟩
abbrev S1x512x128 : Shape := ⟨3, ![1, 512, 128]⟩
abbrev S512x128 : Shape := ⟨2, ![512, 128]⟩
abbrev S1x128x512 : Shape := ⟨3, ![1, 128, 512]⟩
abbrev S128x512 : Shape := ⟨2, ![128, 512]⟩
abbrev S512x2048 : Shape := ⟨2, ![512, 2048]⟩
abbrev S2048 : Shape := ⟨1, ![2048]⟩
abbrev S1x256x128 : Shape := ⟨3, ![1, 256, 128]⟩
abbrev S256x128 : Shape := ⟨2, ![256, 128]⟩
abbrev S1x128x256 : Shape := ⟨3, ![1, 128, 256]⟩
abbrev S128x256 : Shape := ⟨2, ![128, 256]⟩
abbrev S256x2048 : Shape := ⟨2, ![256, 2048]⟩
abbrev S256x1792 : Shape := ⟨2, ![256, 1792]⟩
abbrev S128x1792 : Shape := ⟨2, ![128, 1792]⟩
abbrev S256x1536 : Shape := ⟨2, ![256, 1536]⟩
abbrev S128x1536 : Shape := ⟨2, ![128, 1536]⟩
abbrev S256x1280 : Shape := ⟨2, ![256, 1280]⟩
abbrev S128x1280 : Shape := ⟨2, ![128, 1280]⟩
abbrev S256x1024 : Shape := ⟨2, ![256, 1024]⟩
abbrev S128x1024 : Shape := ⟨2, ![128, 1024]⟩
abbrev S256x768 : Shape := ⟨2, ![256, 768]⟩
abbrev S128x768 : Shape := ⟨2, ![128, 768]⟩
abbrev S256x512 : Shape := ⟨2, ![256, 512]⟩
abbrev S256x256 : Shape := ⟨2, ![256, 256]⟩
abbrev S1x256 : Shape := ⟨2, ![1, 256]⟩
abbrev S1792 : Shape := ⟨1, ![1792]⟩
abbrev S1x1792 : Shape := ⟨2, ![1, 1792]⟩
abbrev S256 : Shape := ⟨1, ![256]⟩
abbrev S1536 : Shape := ⟨1, ![1536]⟩
abbrev S1x1536 : Shape := ⟨2, ![1, 1536]⟩
abbrev S1280 : Shape := ⟨1, ![1280]⟩
abbrev S1x1280 : Shape := ⟨2, ![1, 1280]⟩
abbrev S1024 : Shape := ⟨1, ![1024]⟩
abbrev S1x1024 : Shape := ⟨2, ![1, 1024]⟩
abbrev S768 : Shape := ⟨1, ![768]⟩
abbrev S1x768 : Shape := ⟨2, ![1, 768]⟩
abbrev S512 : Shape := ⟨1, ![512]⟩
abbrev S1x512 : Shape := ⟨2, ![1, 512]⟩

abbrev nBuf : Space → Nat
  | .hbm => 37
  | .vmem => 17
  | .smem => 0
  | _ => 0

abbrev bufTy : (tb : Table) → Fin (tcTables nBuf tb) → BufTy
  | .hbm, ⟨0, _⟩ => ⟨S4x8192x8x2x64, .f32⟩
  | .hbm, ⟨1, _⟩ => ⟨S4x8192x8x2x64, .f32⟩
  | .hbm, ⟨2, _⟩ => ⟨S4x8192x8x128, .f32⟩
  | .hbm, ⟨3, _⟩ => ⟨S4x8192x1024, .f32⟩
  | .hbm, ⟨4, _⟩ => ⟨S1x128, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S4x8192x1024, .f32⟩
  | .hbm, ⟨10, _⟩ => ⟨S4x1024x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x1024x8192, .f32⟩
  | .hbm, ⟨17, _⟩ => ⟨S4x1024x8192, .f32⟩
  | .hbm, ⟨18, _⟩ => ⟨S4x1024x8192, .bf16⟩
  | .hbm, ⟨19, _⟩ => ⟨S4x8192x1024, .f32⟩
  | .hbm, ⟨20, _⟩ => ⟨S4x8192x1024, .bf16⟩
  | .hbm, ⟨21, _⟩ => ⟨S4x8192x1024, .f32⟩
  | .hbm, ⟨22, _⟩ => ⟨S4x1024x8192, .f32⟩
  | .hbm, ⟨23, _⟩ => ⟨S4x1024x8192, .bf16⟩
  | .hbm, ⟨24, _⟩ => ⟨S4x1024x8192, .f32⟩
  | .hbm, ⟨25, _⟩ => ⟨S128, .f32⟩
  | .hbm, ⟨26, _⟩ => ⟨S128x1, .f32⟩
  | .hbm, ⟨27, _⟩ => ⟨S128x2048, .f32⟩
  | .hbm, ⟨28, _⟩ => ⟨S64, .f32⟩
  | .hbm, ⟨29, _⟩ => ⟨S1x64, .f32⟩
  | .hbm, ⟨30, _⟩ => ⟨S64, .f32⟩
  | .hbm, ⟨31, _⟩ => ⟨S1x64, .f32⟩
  | .hbm, ⟨32, _⟩ => ⟨S64, .f32⟩
  | .hbm, ⟨33, _⟩ => ⟨S1x64, .f32⟩
  | .hbm, ⟨34, _⟩ => ⟨S64, .f32⟩
  | .hbm, ⟨35, _⟩ => ⟨S1x64, .f32⟩
  | .hbm, ⟨36, _⟩ => ⟨S4x1024x8192, .bf16⟩
  | .local _ .vmem, ⟨0, _⟩ => ⟨S1x128x2048, .bf16⟩
  | .local _ .vmem, ⟨1, _⟩ => ⟨S1x128x2048, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x128x8192, .bf16⟩
  | .local _ .vmem, ⟨5, _⟩ => ⟨S1x128x8192, .bf16⟩
  | .local _ .vmem, ⟨6, _⟩ => ⟨S1x128x2048, .f32⟩
  | .local _ .vmem, ⟨7, _⟩ => ⟨S1x128x2048, .f32⟩
  | .local _ .vmem, ⟨8, _⟩ => ⟨S128x2048, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x128x2048, .bf16⟩
  | .local _ .vmem, ⟨14, _⟩ => ⟨S1x128x2048, .bf16⟩
  | .local _ .vmem, ⟨15, _⟩ => ⟨S128x2048, .f32⟩
  | .local _ .vmem, ⟨16, _⟩ => ⟨S128x2048, .f32⟩
  | _, _ => ⟨S4x8192x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![4, 8, 4], ![false, false, false]⟩

@[reducible] def k0_t1_loop (i : grid0.Coords) : Scf.Loop 32 :=
  let c0_i32 : BitVec 32 := 0#32
  let arg2 : BitVec 32 := BitVec.ofNat 32 (i 2).val
  let v39 : BitVec 32 := Scalar.subi arg2 c0_i32
  let c1_i32 : BitVec 32 := 1#32
  let v41 : BitVec 32 := Scalar.divsi v39 c1_i32
  let v42 : BitVec 32 := Scalar.muli v41 c1_i32
  let v43 : BitVec 32 := Scalar.addi c0_i32 v42
  let c1_i32_21 : BitVec 32 := 1#32
  ⟨c0_i32, v43, c1_i32_21⟩
def k0_mult1 (i : grid0.Coords) (k0_t1 : Fin (k0_t1_loop i).trips) : BitVec 32 :=
  let c0_i32 : BitVec 32 := 0#32
  let c1_i32_21 : BitVec 32 := 1#32
  let arg15 : BitVec 32 := Scf.iv c0_i32 c1_i32_21 k0_t1
  let c2048_i32_417 : BitVec 32 := 2048#32
  let v1336 : BitVec 32 := Scalar.muli arg15 c2048_i32_417
  let c0_i32_418 : BitVec 32 := 0#32
  let v1337 : BitVec 32 := Scalar.addi v1336 c0_i32_418
  v1337
def k0_off1 (i : grid0.Coords) (k0_t1 : Fin (k0_t1_loop i).trips) (c0_i32_418 : BitVec 32) : Fin 3 → Nat :=
  let c0_419 : Index := 0#32
  let c0_i32 : BitVec 32 := 0#32
  let c1_i32_21 : BitVec 32 := 1#32
  let arg15 : BitVec 32 := Scf.iv c0_i32 c1_i32_21 k0_t1
  let c2048_i32_417 : BitVec 32 := 2048#32
  let v1336 : BitVec 32 := Scalar.muli arg15 c2048_i32_417
  let v1337 : BitVec 32 := Scalar.addi v1336 c0_i32_418
  let v1338 : BitVec 32 := v1337
  let v1339 : Index := Scalar.indexCast v1338
  let c0_420 : Index := 0#32
  ![0, v1339.toNat, 0]
def k0_off2 (i : grid0.Coords) (k0_t1 : Fin (k0_t1_loop i).trips) (c0_i32_418 : BitVec 32) : Fin 3 → Nat :=
  let c0_421 : Index := 0#32
  let c0_422 : Index := 0#32
  let c0_i32 : BitVec 32 := 0#32
  let c1_i32_21 : BitVec 32 := 1#32
  let arg15 : BitVec 32 := Scf.iv c0_i32 c1_i32_21 k0_t1
  let c2048_i32_417 : BitVec 32 := 2048#32
  let v1336 : BitVec 32 := Scalar.muli arg15 c2048_i32_417
  let v1337 : BitVec 32 := Scalar.addi v1336 c0_i32_418
  let v1338 : BitVec 32 := v1337
  let v1342 : Index := Scalar.indexCast v1338
  ![0, 0, v1342.toNat]
def k0_mult2 (i : grid0.Coords) (k0_t1 : Fin (k0_t1_loop i).trips) : BitVec 32 :=
  let c0_i32 : BitVec 32 := 0#32
  let c1_i32_21 : BitVec 32 := 1#32
  let arg15 : BitVec 32 := Scf.iv c0_i32 c1_i32_21 k0_t1
  let c2048_i32_423 : BitVec 32 := 2048#32
  let v1345 : BitVec 32 := Scalar.muli arg15 c2048_i32_423
  let c512_i32_424 : BitVec 32 := 512#32
  let v1346 : BitVec 32 := Scalar.addi v1345 c512_i32_424
  v1346
def k0_mult3 (i : grid0.Coords) (k0_t1 : Fin (k0_t1_loop i).trips) : BitVec 32 :=
  let c0_i32 : BitVec 32 := 0#32
  let c1_i32_21 : BitVec 32 := 1#32
  let arg15 : BitVec 32 := Scf.iv c0_i32 c1_i32_21 k0_t1
  let c2048_i32_429 : BitVec 32 := 2048#32
  let v1354 : BitVec 32 := Scalar.muli arg15 c2048_i32_429
  let c1024_i32_430 : BitVec 32 := 1024#32
  let v1355 : BitVec 32 := Scalar.addi v1354 c1024_i32_430
  v1355
def k0_mult4 (i : grid0.Coords) (k0_t1 : Fin (k0_t1_loop i).trips) : BitVec 32 :=
  let c0_i32 : BitVec 32 := 0#32
  let c1_i32_21 : BitVec 32 := 1#32
  let arg15 : BitVec 32 := Scf.iv c0_i32 c1_i32_21 k0_t1
  let c2048_i32_435 : BitVec 32 := 2048#32
  let v1363 : BitVec 32 := Scalar.muli arg15 c2048_i32_435
  let c1536_i32_436 : BitVec 32 := 1536#32
  let v1364 : BitVec 32 := Scalar.addi v1363 c1536_i32_436
  v1364
@[reducible] def k0_t2_loop (i : grid0.Coords) : Scf.Loop 32 :=
  let c0_i32 : BitVec 32 := 0#32
  let arg2 : BitVec 32 := BitVec.ofNat 32 (i 2).val
  let v39 : BitVec 32 := Scalar.subi arg2 c0_i32
  let c1_i32 : BitVec 32 := 1#32
  let v41 : BitVec 32 := Scalar.divsi v39 c1_i32
  let v42 : BitVec 32 := Scalar.muli v41 c1_i32
  let v43 : BitVec 32 := Scalar.addi c0_i32 v42
  let v40 : BitVec 32 := Scalar.addi c0_i32 v39
  let c1_i32_22 : BitVec 32 := 1#32
  ⟨v43, v40, c1_i32_22⟩
def k0_mult5 (i : grid0.Coords) (k0_t2 : Fin (k0_t2_loop i).trips) : BitVec 32 :=
  let c0_i32 : BitVec 32 := 0#32
  let arg2 : BitVec 32 := BitVec.ofNat 32 (i 2).val
  let v39 : BitVec 32 := Scalar.subi arg2 c0_i32
  let c1_i32 : BitVec 32 := 1#32
  let v41 : BitVec 32 := Scalar.divsi v39 c1_i32
  let v42 : BitVec 32 := Scalar.muli v41 c1_i32
  let v43 : BitVec 32 := Scalar.addi c0_i32 v42
  let c1_i32_22 : BitVec 32 := 1#32
  let arg15 : BitVec 32 := Scf.iv v43 c1_i32_22 k0_t2
  let c2048_i32_417 : BitVec 32 := 2048#32
  let v1336 : BitVec 32 := Scalar.muli arg15 c2048_i32_417
  let c0_i32_418 : BitVec 32 := 0#32
  let v1337 : BitVec 32 := Scalar.addi v1336 c0_i32_418
  v1337
def k0_off3 (i : grid0.Coords) (k0_t2 : Fin (k0_t2_loop i).trips) (c0_i32_418 : BitVec 32) : Fin 3 → Nat :=
  let c0_419 : Index := 0#32
  let c0_i32 : BitVec 32 := 0#32
  let arg2 : BitVec 32 := BitVec.ofNat 32 (i 2).val
  let v39 : BitVec 32 := Scalar.subi arg2 c0_i32
  let c1_i32 : BitVec 32 := 1#32
  let v41 : BitVec 32 := Scalar.divsi v39 c1_i32
  let v42 : BitVec 32 := Scalar.muli v41 c1_i32
  let v43 : BitVec 32 := Scalar.addi c0_i32 v42
  let c1_i32_22 : BitVec 32 := 1#32
  let arg15 : BitVec 32 := Scf.iv v43 c1_i32_22 k0_t2
  let c2048_i32_417 : BitVec 32 := 2048#32
  let v1336 : BitVec 32 := Scalar.muli arg15 c2048_i32_417
  let v1337 : BitVec 32 := Scalar.addi v1336 c0_i32_418
  let v1338 : BitVec 32 := v1337
  let v1339 : Index := Scalar.indexCast v1338
  let c0_420 : Index := 0#32
  ![0, v1339.toNat, 0]
def k0_off4 (i : grid0.Coords) (k0_t2 : Fin (k0_t2_loop i).trips) (c0_i32_418 : BitVec 32) : Fin 3 → Nat :=
  let c0_421 : Index := 0#32
  let c0_422 : Index := 0#32
  let c0_i32 : BitVec 32 := 0#32
  let arg2 : BitVec 32 := BitVec.ofNat 32 (i 2).val
  let v39 : BitVec 32 := Scalar.subi arg2 c0_i32
  let c1_i32 : BitVec 32 := 1#32
  let v41 : BitVec 32 := Scalar.divsi v39 c1_i32
  let v42 : BitVec 32 := Scalar.muli v41 c1_i32
  let v43 : BitVec 32 := Scalar.addi c0_i32 v42
  let c1_i32_22 : BitVec 32 := 1#32
  let arg15 : BitVec 32 := Scf.iv v43 c1_i32_22 k0_t2
  let c2048_i32_417 : BitVec 32 := 2048#32
  let v1336 : BitVec 32 := Scalar.muli arg15 c2048_i32_417
  let v1337 : BitVec 32 := Scalar.addi v1336 c0_i32_418
  let v1338 : BitVec 32 := v1337
  let v1342 : Index := Scalar.indexCast v1338
  ![0, 0, v1342.toNat]
def k0_mult6 (i : grid0.Coords) (k0_t2 : Fin (k0_t2_loop i).trips) : BitVec 32 :=
  let c0_i32 : BitVec 32 := 0#32
  let arg2 : BitVec 32 := BitVec.ofNat 32 (i 2).val
  let v39 : BitVec 32 := Scalar.subi arg2 c0_i32
  let c1_i32 : BitVec 32 := 1#32
  let v41 : BitVec 32 := Scalar.divsi v39 c1_i32
  let v42 : BitVec 32 := Scalar.muli v41 c1_i32
  let v43 : BitVec 32 := Scalar.addi c0_i32 v42
  let c1_i32_22 : BitVec 32 := 1#32
  let arg15 : BitVec 32 := Scf.iv v43 c1_i32_22 k0_t2
  let c2048_i32_423 : BitVec 32 := 2048#32
  let v1345 : BitVec 32 := Scalar.muli arg15 c2048_i32_423
  let c512_i32_424 : BitVec 32 := 512#32
  let v1346 : BitVec 32 := Scalar.addi v1345 c512_i32_424
  v1346
def k0_mult7 (i : grid0.Coords) (k0_t2 : Fin (k0_t2_loop i).trips) : BitVec 32 :=
  let c0_i32 : BitVec 32 := 0#32
  let arg2 : BitVec 32 := BitVec.ofNat 32 (i 2).val
  let v39 : BitVec 32 := Scalar.subi arg2 c0_i32
  let c1_i32 : BitVec 32 := 1#32
  let v41 : BitVec 32 := Scalar.divsi v39 c1_i32
  let v42 : BitVec 32 := Scalar.muli v41 c1_i32
  let v43 : BitVec 32 := Scalar.addi c0_i32 v42
  let c1_i32_22 : BitVec 32 := 1#32
  let arg15 : BitVec 32 := Scf.iv v43 c1_i32_22 k0_t2
  let c2048_i32_429 : BitVec 32 := 2048#32
  let v1354 : BitVec 32 := Scalar.muli arg15 c2048_i32_429
  let c1024_i32_430 : BitVec 32 := 1024#32
  let v1355 : BitVec 32 := Scalar.addi v1354 c1024_i32_430
  v1355
def k0_mult8 (i : grid0.Coords) (k0_t2 : Fin (k0_t2_loop i).trips) : BitVec 32 :=
  let c0_i32 : BitVec 32 := 0#32
  let arg2 : BitVec 32 := BitVec.ofNat 32 (i 2).val
  let v39 : BitVec 32 := Scalar.subi arg2 c0_i32
  let c1_i32 : BitVec 32 := 1#32
  let v41 : BitVec 32 := Scalar.divsi v39 c1_i32
  let v42 : BitVec 32 := Scalar.muli v41 c1_i32
  let v43 : BitVec 32 := Scalar.addi c0_i32 v42
  let c1_i32_22 : BitVec 32 := 1#32
  let arg15 : BitVec 32 := Scf.iv v43 c1_i32_22 k0_t2
  let c2048_i32_435 : BitVec 32 := 2048#32
  let v1363 : BitVec 32 := Scalar.muli arg15 c2048_i32_435
  let c1536_i32_436 : BitVec 32 := 1536#32
  let v1364 : BitVec 32 := Scalar.addi v1363 c1536_i32_436
  v1364
def k0_mult9 (i : grid0.Coords) : BitVec 32 :=
  let arg2 : BitVec 32 := BitVec.ofNat 32 (i 2).val
  let c2048_i32 : BitVec 32 := 2048#32
  let v29 : BitVec 32 := Scalar.muli arg2 c2048_i32
  let c0_i32_23 : BitVec 32 := 0#32
  let v46 : BitVec 32 := Scalar.addi v29 c0_i32_23
  v46
def k0_off5 (i : grid0.Coords) (c0_i32_23 : BitVec 32) : Fin 3 → Nat :=
  let c0_24 : Index := 0#32
  let arg2 : BitVec 32 := BitVec.ofNat 32 (i 2).val
  let c2048_i32 : BitVec 32 := 2048#32
  let v29 : BitVec 32 := Scalar.muli arg2 c2048_i32
  let v46 : BitVec 32 := Scalar.addi v29 c0_i32_23
  let v47 : BitVec 32 := v46
  let v48 : Index := Scalar.indexCast v47
  let c0_25 : Index := 0#32
  ![0, v48.toNat, 0]
def k0_off6 (i : grid0.Coords) (c0_i32_23 : BitVec 32) : Fin 3 → Nat :=
  let c0_26 : Index := 0#32
  let c0_27 : Index := 0#32
  let arg2 : BitVec 32 := BitVec.ofNat 32 (i 2).val
  let c2048_i32 : BitVec 32 := 2048#32
  let v29 : BitVec 32 := Scalar.muli arg2 c2048_i32
  let v46 : BitVec 32 := Scalar.addi v29 c0_i32_23
  let v47 : BitVec 32 := v46
  let v51 : Index := Scalar.indexCast v47
  ![0, 0, v51.toNat]
def k0_mult10 (i : grid0.Coords) : BitVec 32 :=
  let arg2 : BitVec 32 := BitVec.ofNat 32 (i 2).val
  let c2048_i32 : BitVec 32 := 2048#32
  let v29 : BitVec 32 := Scalar.muli arg2 c2048_i32
  let c256_i32 : BitVec 32 := 256#32
  let v109 : BitVec 32 := Scalar.addi v29 c256_i32
  v109
def k0_mult11 (i : grid0.Coords) : BitVec 32 :=
  let arg2 : BitVec 32 := BitVec.ofNat 32 (i 2).val
  let c2048_i32 : BitVec 32 := 2048#32
  let v29 : BitVec 32 := Scalar.muli arg2 c2048_i32
  let c512_i32 : BitVec 32 := 512#32
  let v174 : BitVec 32 := Scalar.addi v29 c512_i32
  v174
def k0_mult12 (i : grid0.Coords) : BitVec 32 :=
  let arg2 : BitVec 32 := BitVec.ofNat 32 (i 2).val
  let c2048_i32 : BitVec 32 := 2048#32
  let v29 : BitVec 32 := Scalar.muli arg2 c2048_i32
  let c768_i32 : BitVec 32 := 768#32
  let v239 : BitVec 32 := Scalar.addi v29 c768_i32
  v239
def k0_mult13 (i : grid0.Coords) : BitVec 32 :=
  let arg2 : BitVec 32 := BitVec.ofNat 32 (i 2).val
  let c2048_i32 : BitVec 32 := 2048#32
  let v29 : BitVec 32 := Scalar.muli arg2 c2048_i32
  let c1024_i32 : BitVec 32 := 1024#32
  let v304 : BitVec 32 := Scalar.addi v29 c1024_i32
  v304
def k0_mult14 (i : grid0.Coords) : BitVec 32 :=
  let arg2 : BitVec 32 := BitVec.ofNat 32 (i 2).val
  let c2048_i32 : BitVec 32 := 2048#32
  let v29 : BitVec 32 := Scalar.muli arg2 c2048_i32
  let c1280_i32 : BitVec 32 := 1280#32
  let v369 : BitVec 32 := Scalar.addi v29 c1280_i32
  v369
def k0_mult15 (i : grid0.Coords) : BitVec 32 :=
  let arg2 : BitVec 32 := BitVec.ofNat 32 (i 2).val
  let c2048_i32 : BitVec 32 := 2048#32
  let v29 : BitVec 32 := Scalar.muli arg2 c2048_i32
  let c1536_i32 : BitVec 32 := 1536#32
  let v434 : BitVec 32 := Scalar.addi v29 c1536_i32
  v434
def k0_mult16 (i : grid0.Coords) : BitVec 32 :=
  let arg2 : BitVec 32 := BitVec.ofNat 32 (i 2).val
  let c2048_i32 : BitVec 32 := 2048#32
  let v29 : BitVec 32 := Scalar.muli arg2 c2048_i32
  let c1792_i32 : BitVec 32 := 1792#32
  let v499 : BitVec 32 := Scalar.addi v29 c1792_i32
  v499
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ReferenceIdeal.lean ====
abbrev S4x8192x8x2x64 : Shape := ⟨5, ![4, 8192, 8, 2, 64]⟩
abbrev S4x8192x8x128 : Shape := ⟨4, ![4, 8192, 8, 128]⟩
abbrev S4x8192x1024 : Shape := ⟨3, ![4, 8192, 1024]⟩
abbrev S1x128 : Shape := ⟨2, ![1, 128]⟩
abbrev S1x64 : Shape := ⟨2, ![1, 64]⟩
abbrev S64 : Shape := ⟨1, ![64]⟩
abbrev S_ : Shape := ⟨0, ![]⟩
abbrev S4x8192x8x1x64 : Shape := ⟨5, ![4, 8192, 8, 1, 64]⟩
abbrev S4x8192x8x64 : Shape := ⟨4, ![4, 8192, 8, 64]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S4x8x8192x8192 : Shape := ⟨4, ![4, 8, 8192, 8192]⟩
abbrev S4x8x8192 : Shape := ⟨3, ![4, 8, 8192]⟩
abbrev S4x8x8192x1 : Shape := ⟨4, ![4, 8, 8192, 1]⟩
abbrev S4x8x128x8192 : Shape := ⟨4, ![4, 8, 128, 8192]⟩
abbrev S4x8192x8 : Shape := ⟨3, ![4, 8192, 8]⟩
abbrev S4x8192x8x1 : Shape := ⟨4, ![4, 8192, 8, 1]⟩
abbrev S128 : Shape := ⟨1, ![128]⟩
abbrev S1x1x1x128 : Shape := ⟨4, ![1, 1, 1, 128]⟩
abbrev S4x1024x8192 : Shape := ⟨3, ![4, 1024, 8192]⟩

abbrev nBuf : Space → Nat
  | .hbm => 117
  | .vmem => 0
  | .smem => 0
  | _ => 0

abbrev bufTy : (tb : Table) → Fin (tcTables nBuf tb) → BufTy
  | .hbm, ⟨0, _⟩ => ⟨S4x8192x8x2x64, .f32⟩
  | .hbm, ⟨1, _⟩ => ⟨S4x8192x8x2x64, .f32⟩
  | .hbm, ⟨2, _⟩ => ⟨S4x8192x8x128, .f32⟩
  | .hbm, ⟨3, _⟩ => ⟨S4x8192x1024, .f32⟩
  | .hbm, ⟨4, _⟩ => ⟨S1x128, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x8192x8x1x64, .f32⟩
  | .hbm, ⟨25, _⟩ => ⟨S4x8192x8x64, .f32⟩
  | .hbm, ⟨26, _⟩ => ⟨S4x8192x8x1x64, .f32⟩
  | .hbm, ⟨27, _⟩ => ⟨S4x8192x8x64, .f32⟩
  | .hbm, ⟨28, _⟩ => ⟨S4x8192x8x1x64, .f32⟩
  | .hbm, ⟨29, _⟩ => ⟨S4x8192x8x64, .f32⟩
  | .hbm, ⟨30, _⟩ => ⟨S4x8192x8x1x64, .f32⟩
  | .hbm, ⟨31, _⟩ => ⟨S4x8192x8x64, .f32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S1x8192, .i32⟩
  | .hbm, ⟨37, _⟩ => ⟨S8192x1, .i32⟩
  | .hbm, ⟨38, _⟩ => ⟨S8192x8192, .i32⟩
  | .hbm, ⟨39, _⟩ => ⟨S8192x8192, .i32⟩
  | .hbm, ⟨40, _⟩ => ⟨S8192x8192, .i1⟩
  | .hbm, ⟨41, _⟩ => ⟨S1x1x8192x8192, .i1⟩
  | .hbm, ⟨42, _⟩ => ⟨S4x8x8192x8192, .f32⟩
  | .hbm, ⟨43, _⟩ => ⟨S_, .f32⟩
  | .hbm, ⟨44, _⟩ => ⟨S4x8x8192x8192, .f32⟩
  | .hbm, ⟨45, _⟩ => ⟨S4x8x8192x8192, .f32⟩
  | .hbm, ⟨46, _⟩ => ⟨S4x8x8192x8192, .f32⟩
  | .hbm, ⟨47, _⟩ => ⟨S_, .f32⟩
  | .hbm, ⟨48, _⟩ => ⟨S4x8x8192x8192, .f32⟩
  | .hbm, ⟨49, _⟩ => ⟨S4x8x8192x8192, .f32⟩
  | .hbm, ⟨50, _⟩ => ⟨S_, .f32⟩
  | .hbm, ⟨51, _⟩ => ⟨S_, .f32⟩
  | .hbm, ⟨52, _⟩ => ⟨S4x8x8192x8192, .i1⟩
  | .hbm, ⟨53, _⟩ => ⟨S4x8x8192x8192, .f32⟩
  | .hbm, ⟨54, _⟩ => ⟨S4x8x8192x8192, .f32⟩
  | .hbm, ⟨55, _⟩ => ⟨S_, .f32⟩
  | .hbm, ⟨56, _⟩ => ⟨S4x8x8192, .f32⟩
  | .hbm, ⟨57, _⟩ => ⟨S_, .f32⟩
  | .hbm, ⟨58, _⟩ => ⟨S4x8x8192, .f32⟩
  | .hbm, ⟨59, _⟩ => ⟨S4x8x8192, .f32⟩
  | .hbm, ⟨60, _⟩ => ⟨S4x8x8192x1, .f32⟩
  | .hbm, ⟨61, _⟩ => ⟨S4x8x8192x8192, .f32⟩
  | .hbm, ⟨62, _⟩ => ⟨S4x8x8192x8192, .f32⟩
  | .hbm, ⟨63, _⟩ => ⟨S4x8x8192x8192, .f32⟩
  | .hbm, ⟨64, _⟩ => ⟨S_, .f32⟩
  | .hbm, ⟨65, _⟩ => ⟨S4x8x8192, .f32⟩
  | .hbm, ⟨66, _⟩ => ⟨S4x8x8192x1, .f32⟩
  | .hbm, ⟨67, _⟩ => ⟨S4x8x8192x8192, .f32⟩
  | .hbm, ⟨68, _⟩ => ⟨S4x8x8192x8192, .f32⟩
  | .hbm, ⟨69, _⟩ => ⟨S_, .f32⟩
  | .hbm, ⟨70, _⟩ => ⟨S_, .f32⟩
  | .hbm, ⟨71, _⟩ => ⟨S4x8x8192x8192, .i1⟩
  | .hbm, ⟨72, _⟩ => ⟨S4x8x8192x8192, .f32⟩
  | .hbm, ⟨73, _⟩ => ⟨S4x8x8192x8192, .f32⟩
  | .hbm, ⟨74, _⟩ => ⟨S_, .f32⟩
  | .hbm, ⟨75, _⟩ => ⟨S4x8x8192, .f32⟩
  | .hbm, ⟨76, _⟩ => ⟨S_, .f32⟩
  | .hbm, ⟨77, _⟩ => ⟨S4x8x8192, .f32⟩
  | .hbm, ⟨78, _⟩ => ⟨S4x8x8192, .f32⟩
  | .hbm, ⟨79, _⟩ => ⟨S4x8x8192x1, .f32⟩
  | .hbm, ⟨80, _⟩ => ⟨S4x8x8192x8192, .f32⟩
  | .hbm, ⟨81, _⟩ => ⟨S4x8x8192x8192, .f32⟩
  | .hbm, ⟨82, _⟩ => ⟨S4x8x8192x8192, .f32⟩
  | .hbm, ⟨83, _⟩ => ⟨S_, .f32⟩
  | .hbm, ⟨84, _⟩ => ⟨S4x8x8192, .f32⟩
  | .hbm, ⟨85, _⟩ => ⟨S4x8x8192x1, .f32⟩
  | .hbm, ⟨86, _⟩ => ⟨S4x8x8192x8192, .f32⟩
  | .hbm, ⟨87, _⟩ => ⟨S4x8x8192x8192, .f32⟩
  | .hbm, ⟨88, _⟩ => ⟨S4x8x8192x8192, .f32⟩
  | .hbm, ⟨89, _⟩ => ⟨S4x8x8192x8192, .f32⟩
  | .hbm, ⟨90, _⟩ => ⟨S4x8x8192x8192, .f32⟩
  | .hbm, ⟨91, _⟩ => ⟨S4x8x128x8192, .f32⟩
  | .hbm, ⟨92, _⟩ => ⟨S4x8192x8x128, .f32⟩
  | .hbm, ⟨93, _⟩ => ⟨S4x8192x8x128, .f32⟩
  | .hbm, ⟨94, _⟩ => ⟨S_, .f32⟩
  | .hbm, ⟨95, _⟩ => ⟨S4x8192x8, .f32⟩
  | .hbm, ⟨96, _⟩ => ⟨S4x8192x8x1, .f32⟩
  | .hbm, ⟨97, _⟩ => ⟨S_, .f32⟩
  | .hbm, ⟨98, _⟩ => ⟨S4x8192x8x1, .f32⟩
  | .hbm, ⟨99, _⟩ => ⟨S4x8192x8x1, .f32⟩
  | .hbm, ⟨100, _⟩ => ⟨S_, .f32⟩
  | .hbm, ⟨101, _⟩ => ⟨S4x8192x8x1, .f32⟩
  | .hbm, ⟨102, _⟩ => ⟨S4x8192x8x1, .f32⟩
  | .hbm, ⟨103, _⟩ => ⟨S4x8192x8x1, .f32⟩
  | .hbm, ⟨104, _⟩ => ⟨S4x8192x8x128, .f32⟩
  | .hbm, ⟨105, _⟩ => ⟨S4x8192x8x128, .f32⟩
  | .hbm, ⟨106, _⟩ => ⟨S128, .f32⟩
  | .hbm, ⟨107, _⟩ => ⟨S1x1x1x128, .f32⟩
  | .hbm, ⟨108, _⟩ => ⟨S4x8192x8x128, .f32⟩
  | .hbm, ⟨109, _⟩ => ⟨S4x8192x8x128, .f32⟩
  | .hbm, ⟨110, _⟩ => ⟨S_, .f32⟩
  | .hbm, ⟨111, _⟩ => ⟨S4x8192x8x128, .f32⟩
  | .hbm, ⟨112, _⟩ => ⟨S4x8192x8x128, .f32⟩
  | .hbm, ⟨113, _⟩ => ⟨S4x8192x1024, .f32⟩
  | .hbm, ⟨114, _⟩ => ⟨S4x8192x1024, .f32⟩
  | .hbm, ⟨115, _⟩ => ⟨S4x1024x8192, .f32⟩
  | .hbm, ⟨116, _⟩ => ⟨S4x1024x8192, .bf16⟩
  | _, _ => ⟨S4x8192x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_cst_10 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_12 : Ref sig .tc := ⟨.hbm, 94, rfl⟩
abbrev main_v65 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_15 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩

abbrev nD : Nat := 1
abbrev τ : Topo := Topo.v7x

variable {F : FTy → Type} [FloatOps F]
-- ==== Kernel2.lean ====
abbrev S4x8192x1024 : Shape := ⟨3, ![4, 8192, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x64 : Shape := ⟨2, ![1, 64]⟩
abbrev S32 : Shape := ⟨1, ![32]⟩
abbrev S_ : Shape := ⟨0, ![]⟩
abbrev S32x1 : Shape := ⟨2, ![32, 1]⟩
abbrev S8192 : Shape := ⟨1, ![8192]⟩
abbrev S1x8192 : Shape := ⟨2, ![1, 8192]⟩
abbrev S32x8192 : Shape := ⟨2, ![32, 8192]⟩
abbrev S32768x1024 : Shape := ⟨2, ![32768, 1024]⟩
abbrev S4x1024x8192 : Shape := ⟨3, ![4, 1024, 8192]⟩
abbrev S1024x1024 : Shape := ⟨2, ![1024, 1024]⟩
abbrev S1024 : Shape := ⟨1, ![1024]⟩
abbrev S1024x1 : Shape := ⟨2, ![1024, 1]⟩
abbrev S1024x4096 : Shape := ⟨2, ![1024, 4096]⟩
abbrev S4096x1024 : Shape := ⟨2, ![4096, 1024]⟩
abbrev S64 : Shape := ⟨1, ![64]⟩
abbrev S64x1 : Shape := ⟨2, ![64, 1]⟩
abbrev S64x512 : Shape := ⟨2, ![64, 512]⟩
abbrev S512x1024 : Shape := ⟨2, ![512, 1024]⟩
abbrev S1x1024x512 : Shape := ⟨3, ![1, 1024, 512]⟩
abbrev S32x512 : Shape := ⟨2, ![32, 512]⟩
abbrev S1024x512 : Shape := ⟨2, ![1024, 512]⟩
abbrev S512 : Shape := ⟨1, ![512]⟩
abbrev S1x512 : Shape := ⟨2, ![1, 512]⟩
abbrev S16x64x512 : Shape := ⟨3, ![16, 64, 512]⟩
abbrev S16x512 : Shape := ⟨2, ![16, 512]⟩
abbrev S16x1x512 : Shape := ⟨3, ![16, 1, 512]⟩
abbrev S1x64x512 : Shape := ⟨3, ![1, 64, 512]⟩
abbrev S16x32x512 : Shape := ⟨3, ![16, 32, 512]⟩
abbrev S1x32x512 : Shape := ⟨3, ![1, 32, 512]⟩

abbrev nBuf : Space → Nat
  | .hbm => 53
  | .vmem => 23
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1x1024x1024, .f32⟩
  | .hbm, ⟨3, _⟩ => ⟨S1x1024, .f32⟩
  | .hbm, ⟨4, _⟩ => ⟨S1x1024x4096, .f32⟩
  | .hbm, ⟨5, _⟩ => ⟨S1x64, .f32⟩
  | .hbm, ⟨6, _⟩ => ⟨S1x64, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S32x1, .f32⟩
  | .hbm, ⟨24, _⟩ => ⟨S8192, .f32⟩
  | .hbm, ⟨25, _⟩ => ⟨S1x8192, .f32⟩
  | .hbm, ⟨26, _⟩ => ⟨S32x8192, .f32⟩
  | .hbm, ⟨27, _⟩ => ⟨S32x8192, .f32⟩
  | .hbm, ⟨28, _⟩ => ⟨S32x8192, .f32⟩
  | .hbm, ⟨29, _⟩ => ⟨S32x8192, .f32⟩
  | .hbm, ⟨30, _⟩ => ⟨S32x8192, .f32⟩
  | .hbm, ⟨31, _⟩ => ⟨S32768x1024, .f32⟩
  | .hbm, ⟨32, _⟩ => ⟨S4x1024x8192, .f32⟩
  | .hbm, ⟨33, _⟩ => ⟨S4x1024x8192, .bf16⟩
  | .hbm, ⟨34, _⟩ => ⟨S1024x1024, .f32⟩
  | .hbm, ⟨35, _⟩ => ⟨S1024x1024, .f32⟩
  | .hbm, ⟨36, _⟩ => ⟨S1024x1024, .bf16⟩
  | .hbm, ⟨37, _⟩ => ⟨S1024, .f32⟩
  | .hbm, ⟨38, _⟩ => ⟨S1024x1, .f32⟩
  | .hbm, ⟨39, _⟩ => ⟨S1024x4096, .f32⟩
  | .hbm, ⟨40, _⟩ => ⟨S4096x1024, .f32⟩
  | .hbm, ⟨41, _⟩ => ⟨S4096x1024, .bf16⟩
  | .hbm, ⟨42, _⟩ => ⟨S64, .f32⟩
  | .hbm, ⟨43, _⟩ => ⟨S64x1, .f32⟩
  | .hbm, ⟨44, _⟩ => ⟨S64x512, .f32⟩
  | .hbm, ⟨45, _⟩ => ⟨S64, .f32⟩
  | .hbm, ⟨46, _⟩ => ⟨S64x1, .f32⟩
  | .hbm, ⟨47, _⟩ => ⟨S64x512, .f32⟩
  | .hbm, ⟨48, _⟩ => ⟨S4x1024x8192, .f32⟩
  | .hbm, ⟨49, _⟩ => ⟨S4x1024x8192, .bf16⟩
  | .hbm, ⟨50, _⟩ => ⟨S32768x1024, .bf16⟩
  | .hbm, ⟨51, _⟩ => ⟨S4x1024x8192, .bf16⟩
  | .hbm, ⟨52, _⟩ => ⟨S4x1024x8192, .f32⟩
  | .local _ .vmem, ⟨0, _⟩ => ⟨S512x1024, .f32⟩
  | .local _ .vmem, ⟨1, _⟩ => ⟨S512x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .bf16⟩
  | .local _ .vmem, ⟨5, _⟩ => ⟨S1024x1, .f32⟩
  | .local _ .vmem, ⟨6, _⟩ => ⟨S4096x1024, .bf16⟩
  | .local _ .vmem, ⟨7, _⟩ => ⟨S32x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S64x512, .f32⟩
  | .local _ .vmem, ⟨12, _⟩ => ⟨S64x512, .f32⟩
  | .local _ .vmem, ⟨13, _⟩ => ⟨S1x1024x512, .f32⟩
  | .local _ .vmem, ⟨14, _⟩ => ⟨S1x1024x512, .f32⟩
  | .local _ .vmem, ⟨15, _⟩ => ⟨S1x1024x512, .bf16⟩
  | .local _ .vmem, ⟨16, _⟩ => ⟨S1x1024x512, .bf16⟩
  | .local _ .vmem, ⟨17, _⟩ => ⟨S512x1024, .bf16⟩
  | .local _ .vmem, ⟨18, _⟩ => ⟨S512x1024, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x1024x512, .f32⟩
  | .local _ .vmem, ⟨22, _⟩ => ⟨S1x1024x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36_0 : Ref sig .tc := ⟨.hbm, 48, rfl⟩
abbrev main_v36_1 : Ref sig .tc := ⟨.hbm, 49, rfl⟩
abbrev main_v36_2 : Ref sig .tc := ⟨.hbm, 50, rfl⟩
abbrev main_v36_3 : Ref sig .tc := ⟨.hbm, 51, rfl⟩
abbrev main_v36_4 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Kernel2Ideal.lean ====
variable {F : FTy → Type} [FloatOps F] [Named F]
def κ : String → Option EReal := fun
  | "q_fold" => some (((1 / 8) * (Real.log 2)⁻¹ : ℝ) : EReal)
  | _ => none
-- ==== Reference2Ideal.lean ====
abbrev S4x8192x1024 : Shape := ⟨3, ![4, 8192, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x64 : Shape := ⟨2, ![1, 64]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1024x1024 : Shape := ⟨2, ![1024, 1024]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S1024x4096 : Shape := ⟨2, ![1024, 4096]⟩
abbrev S4x8192x4096 : Shape := ⟨3, ![4, 8192, 4096]⟩
abbrev S4x8192x16x64 : Shape := ⟨4, ![4, 8192, 16, 64]⟩
abbrev S64 : Shape := ⟨1, ![64]⟩
abbrev S4x8192x16 : Shape := ⟨3, ![4, 8192, 16]⟩
abbrev S4x8192x16x1 : Shape := ⟨4, ![4, 8192, 16, 1]⟩
abbrev S1x1x1x64 : Shape := ⟨4, ![1, 1, 1, 64]⟩
abbrev S4x8192x16x32 : Shape := ⟨4, ![4, 8192, 16, 32]⟩
abbrev S1x8192x1x32 : Shape := ⟨4, ![1, 8192, 1, 32]⟩
abbrev S4x1024x8192 : Shape := ⟨3, ![4, 1024, 8192]⟩
abbrev S32768x1024 : Shape := ⟨2, ![32768, 1024]⟩

abbrev nBuf : Space → Nat
  | .hbm => 148
  | .vmem => 0
  | .smem => 0
  | _ => 0

abbrev hbmTy0_0 (i : Nat) : BufTy := match i % 128 with
  | 0 => ⟨S4x8192x1024, .f32⟩
  | 1 => ⟨S4x8192x1024, .f32⟩
  | 2 => ⟨S1x1024x1024, .f32⟩
  | 3 => ⟨S1x1024, .f32⟩
  | 4 => ⟨S1x1024x4096, .f32⟩
  | 5 => ⟨S1x64, .f32⟩
  | 6 => ⟨S1x64, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S8192, .f32⟩
  | 24 => ⟨S8192x1, .f32⟩
  | 25 => ⟨S1x32, .f32⟩
  | 26 => ⟨S8192x32, .f32⟩
  | 27 => ⟨S8192x32, .f32⟩
  | 28 => ⟨S8192x32, .f32⟩
  | 29 => ⟨S8192x32, .f32⟩
  | 30 => ⟨S8192x32, .f32⟩
  | 31 => ⟨S1024x1024, .f32⟩
  | 32 => ⟨S4x8192x1024, .f32⟩
  | 33 => ⟨S4x8192x1024, .f32⟩
  | 34 => ⟨S1024, .f32⟩
  | 35 => ⟨S4x8192x1024, .f32⟩
  | 36 => ⟨S_, .f32⟩
  | 37 => ⟨S4x8192, .f32⟩
  | 38 => ⟨S4x8192x1, .f32⟩
  | 39 => ⟨S_, .f32⟩
  | 40 => ⟨S4x8192x1, .f32⟩
  | 41 => ⟨S4x8192x1, .f32⟩
  | 42 => ⟨S_, .f32⟩
  | 43 => ⟨S4x8192x1, .f32⟩
  | 44 => ⟨S4x8192x1, .f32⟩
  | 45 => ⟨S4x8192x1, .f32⟩
  | 46 => ⟨S4x8192x1024, .f32⟩
  | 47 => ⟨S4x8192x1024, .f32⟩
  | 48 => ⟨S1x1x1024, .f32⟩
  | 49 => ⟨S4x8192x1024, .f32⟩
  | 50 => ⟨S4x8192x1024, .f32⟩
  | 51 => ⟨S1024x4096, .f32⟩
  | 52 => ⟨S4x8192x4096, .f32⟩
  | 53 => ⟨S4x8192x1024, .f32⟩
  | 54 => ⟨S4x8192x1024, .f32⟩
  | 55 => ⟨S4x8192x1024, .f32⟩
  | 56 => ⟨S4x8192x1024, .f32⟩
  | 57 => ⟨S4x8192x16x64, .f32⟩
  | 58 => ⟨S64, .f32⟩
  | 59 => ⟨S4x8192x16x64, .f32⟩
  | 60 => ⟨S_, .f32⟩
  | 61 => ⟨S4x8192x16, .f32⟩
  | 62 => ⟨S4x8192x16x1, .f32⟩
  | 63 => ⟨S_, .f32⟩
  | 64 => ⟨S4x8192x16x1, .f32⟩
  | 65 => ⟨S4x8192x16x1, .f32⟩
  | 66 => ⟨S_, .f32⟩
  | 67 => ⟨S4x8192x16x1, .f32⟩
  | 68 => ⟨S4x8192x16x1, .f32⟩
  | 69 => ⟨S4x8192x16x1, .f32⟩
  | 70 => ⟨S4x8192x16x64, .f32⟩
  | 71 => ⟨S4x8192x16x64, .f32⟩
  | 72 => ⟨S1x1x1x64, .f32⟩
  | 73 => ⟨S4x8192x16x64, .f32⟩
  | 74 => ⟨S4x8192x16x64, .f32⟩
  | 75 => ⟨S4x8192x16x32, .f32⟩
  | 76 => ⟨S4x8192x16x32, .f32⟩
  | 77 => ⟨S1x8192x1x32, .f32⟩
  | 78 => ⟨S1x8192x1x32, .f32⟩
  | 79 => ⟨S4x8192x16x32, .f32⟩
  | 80 => ⟨S4x8192x16x32, .f32⟩
  | 81 => ⟨S4x8192x16x32, .f32⟩
  | 82 => ⟨S4x8192x16x32, .f32⟩
  | 83 => ⟨S4x8192x16x32, .f32⟩
  | 84 => ⟨S4x8192x16x32, .f32⟩
  | 85 => ⟨S4x8192x16x32, .f32⟩
  | 86 => ⟨S4x8192x16x32, .f32⟩
  | 87 => ⟨S4x8192x16x32, .f32⟩
  | 88 => ⟨S4x8192x16x32, .f32⟩
  | 89 => ⟨S4x8192x16x64, .f32⟩
  | 90 => ⟨S4x8192x16x64, .f32⟩
  | 91 => ⟨S64, .f32⟩
  | 92 => ⟨S4x8192x16x64, .f32⟩
  | 93 => ⟨S_, .f32⟩
  | 94 => ⟨S4x8192x16, .f32⟩
  | 95 => ⟨S4x8192x16x1, .f32⟩
  | 96 => ⟨S_, .f32⟩
  | 97 => ⟨S4x8192x16x1, .f32⟩
  | 98 => ⟨S4x8192x16x1, .f32⟩
  | 99 => ⟨S_, .f32⟩
  | 100 => ⟨S4x8192x16x1, .f32⟩
  | 101 => ⟨S4x8192x16x1, .f32⟩
  | 102 => ⟨S4x8192x16x1, .f32⟩
  | 103 => ⟨S4x8192x16x64, .f32⟩
  | 104 => ⟨S4x8192x16x64, .f32⟩
  | 105 => ⟨S1x1x1x64, .f32⟩
  | 106 => ⟨S4x8192x16x64, .f32⟩
  | 107 => ⟨S4x8192x16x64, .f32⟩
  | 108 => ⟨S4x8192x16x32, .f32⟩
  | 109 => ⟨S4x8192x16x32, .f32⟩
  | 110 => ⟨S1x8192x1x32, .f32⟩
  | 111 => ⟨S1x8192x1x32, .f32⟩
  | 112 => ⟨S4x8192x16x32, .f32⟩
  | 113 => ⟨S4x8192x16x32, .f32⟩
  | 114 => ⟨S4x8192x16x32, .f32⟩
  | 115 => ⟨S4x8192x16x32, .f32⟩
  | 116 => ⟨S4x8192x16x32, .f32⟩
  | 117 => ⟨S4x8192x16x32, .f32⟩
  | 118 => ⟨S4x8192x16x32, .f32⟩
  | 119 => ⟨S4x8192x16x32, .f32⟩
  | 120 => ⟨S4x8192x16x32, .f32⟩
  | 121 => ⟨S4x8192x16x32, .f32⟩
  | 122 => ⟨S4x8192x16x64, .f32⟩
  | 123 => ⟨S4x8192x1024, .f32⟩
  | 124 => ⟨S_, .f32⟩
  | 125 => ⟨S_, .f32⟩
  | 126 => ⟨S_, .f32⟩
  | 127 => ⟨S_, .f32⟩
  | _ => ⟨S4x8192x1024, .f32⟩

abbrev hbmTy0_1 (i : Nat) : BufTy := match i % 128 with
  | 0 => ⟨S_, .f32⟩
  | 1 => ⟨S4x8192x1024, .f32⟩
  | 2 => ⟨S4x8192x1024, .f32⟩
  | 3 => ⟨S4x1024x8192, .f32⟩
  | 4 => ⟨S4x1024x8192, .f32⟩
  | 5 => ⟨S4x1024x8192, .bf16⟩
  | 6 => ⟨S32768x1024, .f32⟩
  | 7 => ⟨S32768x1024, .bf16⟩
  | 8 => ⟨S4x1024x8192, .f32⟩
  | 9 => ⟨S4x1024x8192, .bf16⟩
  | 10 => ⟨S4x8192x1024, .f32⟩
  | 11 => ⟨S4x8192x1024, .f32⟩
  | 12 => ⟨S_, .f32⟩
  | 13 => ⟨S4x8192x1024, .f32⟩
  | 14 => ⟨S4x8192x1024, .f32⟩
  | 15 => ⟨S_, .f32⟩
  | 16 => ⟨S4x8192x1024, .f32⟩
  | 17 => ⟨S4x8192x1024, .f32⟩
  | 18 => ⟨S4x8192x1024, .f32⟩
  | 19 => ⟨S4x1024x8192, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_10 : Ref sig .tc := ⟨.hbm, 93, rfl⟩
abbrev main_v75 : Ref sig .tc := ⟨.hbm, 94, rfl⟩
abbrev main_v76 : Ref sig .tc := ⟨.hbm, 95, rfl⟩
abbrev main_cst_11 : Ref sig .tc := ⟨.hbm, 96, rfl⟩
abbrev main_v77 : Ref sig .tc := ⟨.hbm, 97, rfl⟩
abbrev main_v78 : Ref sig .tc := ⟨.hbm, 98, rfl⟩
abbrev main_cst_12 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_cst_13 : Ref sig .tc := ⟨.hbm, 124, rfl⟩
abbrev main_v103 : Ref sig .tc := ⟨.hbm, 125, rfl⟩
abbrev main_cst_14 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_call0_v0 : Ref sig .tc := ⟨.hbm, 138, rfl⟩
abbrev main_call0_v1 : Ref sig .tc := ⟨.hbm, 139, rfl⟩
abbrev main_call0_cst : Ref sig .tc := ⟨.hbm, 140, rfl⟩
abbrev main_call0_v2 : Ref sig .tc := ⟨.hbm, 141, rfl⟩
abbrev main_call0_v3 : Ref sig .tc := ⟨.hbm, 142, rfl⟩
abbrev main_call0_cst_0 : Ref sig .tc := ⟨.hbm, 143, rfl⟩
abbrev main_call0_v4 : Ref sig .tc := ⟨.hbm, 144, rfl⟩
abbrev main_call0_v5 : Ref sig .tc := ⟨.hbm, 145, rfl⟩
abbrev main_v115 : Ref sig .tc := ⟨.hbm, 146, rfl⟩
abbrev main_v116 : Ref sig .tc := ⟨.hbm, 147, rfl⟩

abbrev nD : Nat := 1
abbrev τ : Topo := Topo.v7x

variable {F : FTy → Type} [FloatOps F]
-- ==== Kernel3.lean ====
abbrev S4x8192x1024 : Shape := ⟨3, ![4, 8192, 1024]⟩
abbrev S1x1024x1024 : Shape := ⟨3, ![1, 1024, 1024]⟩
abbrev S4x1024x8192 : Shape := ⟨3, ![4, 1024, 8192]⟩
abbrev S1024x1024 : Shape := ⟨2, ![1024, 1024]⟩
abbrev S32768x1024 : Shape := ⟨2, ![32768, 1024]⟩
abbrev S3x1024x1024 : Shape := ⟨3, ![3, 1024, 1024]⟩
abbrev S2x3 : Shape := ⟨2, ![2, 3]⟩
abbrev S1x1 : Shape := ⟨2, ![1, 1]⟩
abbrev S_ : Shape := ⟨0, ![]⟩

abbrev nBuf : Space → Nat
  | .hbm => 10
  | .vmem => 5
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1x1024x1024, .f32⟩
  | .hbm, ⟨3, _⟩ => ⟨S4x1024x8192, .f32⟩
  | .hbm, ⟨4, _⟩ => ⟨S4x1024x8192, .f32⟩
  | .hbm, ⟨5, _⟩ => ⟨S4x1024x8192, .bf16⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S32768x1024, .f32⟩
  | .local _ .vmem, ⟨0, _⟩ => ⟨S1024x1024, .bf16⟩
  | .local _ .vmem, ⟨1, _⟩ => ⟨S1024x1024, .f32⟩
  | .local _ .vmem, ⟨2, _⟩ => ⟨S1024x1024, .f32⟩
  | .local _ .vmem, ⟨3, _⟩ => ⟨S3x1024x1024, .f32⟩
  | .local _ .vmem, ⟨4, _⟩ => ⟨S3x1024x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_39 : BitVec 32 := 0#32
  c0_i32_39
def k0_mult2 : BitVec 32 :=
  let c1024_i32_54 : BitVec 32 := 1024#32
  c1024_i32_54
def k0_cond2 (i : grid0.Coords) : BitVec 1 :=
  let arg0 : BitVec 32 := BitVec.ofNat 32 (i 0).val
  let c2_i32 : BitVec 32 := 2#32
  let v3 : BitVec 32 := Scalar.addi arg0 c2_i32
  let c32_i32 : BitVec 32 := 32#32
  let v4 : BitVec 1 := Scalar.cmpi .slt v3 c32_i32
  let v5 : BitVec 32 := Scalar.extui v4
  let c0_i32_1 : BitVec 32 := 0#32
  let v6 : BitVec 1 := Scalar.cmpi .ne v5 c0_i32_1
  v6

def k0_mult3 (i : grid0.Coords) : BitVec 32 :=
  let arg0 : BitVec 32 := BitVec.ofNat 32 (i 0).val
  let c2_i32_39 : BitVec 32 := 2#32
  let v80 : BitVec 32 := Scalar.addi arg0 c2_i32_39
  let c8_i32_46 : BitVec 32 := 8#32
  let c0_i32_47 : BitVec 32 := 0#32
  let v91 : BitVec 1 := Scalar.cmpi .eq c8_i32_46 c0_i32_47
  let c1_i32_48 : BitVec 32 := 1#32
  let v92 : BitVec 32 := Scalar.select v91 c1_i32_48 c8_i32_46
  let v93 : BitVec 32 := Scalar.remsi v80 v92
  let c0_i32_50 : BitVec 32 := 0#32
  let v95 : BitVec 1 := Scalar.cmpi .slt v93 c0_i32_50
  let c0_i32_51 : BitVec 32 := 0#32
  let v96 : BitVec 1 := Scalar.cmpi .slt v92 c0_i32_51
  let v97 : BitVec 1 := Scalar.xori v95 v96
  let c0_i32_49 : BitVec 32 := 0#32
  let v94 : BitVec 1 := Scalar.cmpi .ne v93 c0_i32_49
  let v98 : BitVec 1 := Scalar.andi v97 v94
  let v99 : BitVec 32 := Scalar.addi v93 v92
  let v100 : BitVec 32 := Scalar.select v98 v99 v93
  let c1024_i32_52 : BitVec 32 := 1024#32
  let v101 : BitVec 32 := Scalar.muli v100 c1024_i32_52
  v101
def k0_off1 (i : grid0.Coords) : Fin 2 → Nat :=
  let c0_i32_60 : BitVec 32 := 0#32
  let arg0 : BitVec 32 := BitVec.ofNat 32 (i 0).val
  let c2_i32_39 : BitVec 32 := 2#32
  let v80 : BitVec 32 := Scalar.addi arg0 c2_i32_39
  let c3_i32_40 : BitVec 32 := 3#32
  let c0_i32_41 : BitVec 32 := 0#32
  let v81 : BitVec 1 := Scalar.cmpi .eq c3_i32_40 c0_i32_41
  let c1_i32_42 : BitVec 32 := 1#32
  let v82 : BitVec 32 := Scalar.select v81 c1_i32_42 c3_i32_40
  let v83 : BitVec 32 := Scalar.remsi v80 v82
  let c0_i32_44 : BitVec 32 := 0#32
  let v85 : BitVec 1 := Scalar.cmpi .slt v83 c0_i32_44
  let c0_i32_45 : BitVec 32 := 0#32
  let v86 : BitVec 1 := Scalar.cmpi .slt v82 c0_i32_45
  let v87 : BitVec 1 := Scalar.xori v85 v86
  let c0_i32_43 : BitVec 32 := 0#32
  let v84 : BitVec 1 := Scalar.cmpi .ne v83 c0_i32_43
  let v88 : BitVec 1 := Scalar.andi v87 v84
  let v89 : BitVec 32 := Scalar.addi v83 v82
  let v90 : BitVec 32 := Scalar.select v88 v89 v83
  ![0, v90.toNat]
def k0_off2 (i : grid0.Coords) : Fin 3 → Nat :=
  let arg0 : BitVec 32 := BitVec.ofNat 32 (i 0).val
  let c2_i32_39 : BitVec 32 := 2#32
  let v80 : BitVec 32 := Scalar.addi arg0 c2_i32_39
  let c3_i32_40 : BitVec 32 := 3#32
  let c0_i32_41 : BitVec 32 := 0#32
  let v81 : BitVec 1 := Scalar.cmpi .eq c3_i32_40 c0_i32_41
  let c1_i32_42 : BitVec 32 := 1#32
  let v82 : BitVec 32 := Scalar.select v81 c1_i32_42 c3_i32_40
  let v83 : BitVec 32 := Scalar.remsi v80 v82
  let c0_i32_44 : BitVec 32 := 0#32
  let v85 : BitVec 1 := Scalar.cmpi .slt v83 c0_i32_44
  let c0_i32_45 : BitVec 32 := 0#32
  let v86 : BitVec 1 := Scalar.cmpi .slt v82 c0_i32_45
  let v87 : BitVec 1 := Scalar.xori v85 v86
  let c0_i32_43 : BitVec 32 := 0#32
  let v84 : BitVec 1 := Scalar.cmpi .ne v83 c0_i32_43
  let v88 : BitVec 1 := Scalar.andi v87 v84
  let v89 : BitVec 32 := Scalar.addi v83 v82
  let v90 : BitVec 32 := Scalar.select v88 v89 v83
  let c0_i32_61 : BitVec 32 := 0#32
  let c0_i32_62 : BitVec 32 := 0#32
  ![v90.toNat, 0, 0]
def k0_off3 (i : grid0.Coords) : Fin 3 → Nat :=
  let arg0 : BitVec 32 := BitVec.ofNat 32 (i 0).val
  let c2_i32_39 : BitVec 32 := 2#32
  let v80 : BitVec 32 := Scalar.addi arg0 c2_i32_39
  let c0_i32_54 : BitVec 32 := 0#32
  let v104 : BitVec 1 := Scalar.cmpi .sgt v80 c0_i32_54
  let v105 : BitVec 32 := Scalar.extui v104
  let c0_i32_55 : BitVec 32 := 0#32
  let v106 : BitVec 1 := Scalar.cmpi .slt v80 c0_i32_55
  let v107 : BitVec 32 := Scalar.extui v106
  let v108 : BitVec 32 := Scalar.subi v105 v107
  let c8_i32_53 : BitVec 32 := 8#32
  let c0_i32_56 : BitVec 32 := 0#32
  let v109 : BitVec 1 := Scalar.cmpi .sgt c8_i32_53 c0_i32_56
  let v110 : BitVec 32 := Scalar.extui v109
  let c0_i32_57 : BitVec 32 := 0#32
  let v111 : BitVec 1 := Scalar.cmpi .slt c8_i32_53 c0_i32_57
  let v112 : BitVec 32 := Scalar.extui v111
  let v113 : BitVec 32 := Scalar.subi v110 v112
  let v114 : BitVec 1 := Scalar.cmpi .ne v108 v113
  let v115 : BitVec 32 := Scalar.remsi v80 c8_i32_53
  let c0_i32_58 : BitVec 32 := 0#32
  let v116 : BitVec 1 := Scalar.cmpi .ne v115 c0_i32_58
  let v117 : BitVec 1 := Scalar.andi v114 v116
  let v103 : BitVec 32 := Scalar.divsi v80 c8_i32_53
  let c1_i32_59 : BitVec 32 := 1#32
  let v118 : BitVec 32 := Scalar.subi v103 c1_i32_59
  let v119 : BitVec 32 := Scalar.select v117 v118 v103
  let c0_i32_63 : BitVec 32 := 0#32
  let c8_i32_46 : BitVec 32 := 8#32
  let c0_i32_47 : BitVec 32 := 0#32
  let v91 : BitVec 1 := Scalar.cmpi .eq c8_i32_46 c0_i32_47
  let c1_i32_48 : BitVec 32 := 1#32
  let v92 : BitVec 32 := Scalar.select v91 c1_i32_48 c8_i32_46
  let v93 : BitVec 32 := Scalar.remsi v80 v92
  let c0_i32_50 : BitVec 32 := 0#32
  let v95 : BitVec 1 := Scalar.cmpi .slt v93 c0_i32_50
  let c0_i32_51 : BitVec 32 := 0#32
  let v96 : BitVec 1 := Scalar.cmpi .slt v92 c0_i32_51
  let v97 : BitVec 1 := Scalar.xori v95 v96
  let c0_i32_49 : BitVec 32 := 0#32
  let v94 : BitVec 1 := Scalar.cmpi .ne v93 c0_i32_49
  let v98 : BitVec 1 := Scalar.andi v97 v94
  let v99 : BitVec 32 := Scalar.addi v93 v92
  let v100 : BitVec 32 := Scalar.select v98 v99 v93
  let c1024_i32_52 : BitVec 32 := 1024#32
  let v101 : BitVec 32 := Scalar.muli v100 c1024_i32_52
  let v102 : BitVec 32 := v101
  ![v119.toNat, 0, v102.toNat]
def k0_off4 (i : grid0.Coords) : Fin 2 → Nat :=
  let c1_i32_64 : BitVec 32 := 1#32
  let arg0 : BitVec 32 := BitVec.ofNat 32 (i 0).val
  let c2_i32_39 : BitVec 32 := 2#32
  let v80 : BitVec 32 := Scalar.addi arg0 c2_i32_39
  let c3_i32_40 : BitVec 32 := 3#32
  let c0_i32_41 : BitVec 32 := 0#32
  let v81 : BitVec 1 := Scalar.cmpi .eq c3_i32_40 c0_i32_41
  let c1_i32_42 : BitVec 32 := 1#32
  let v82 : BitVec 32 := Scalar.select v81 c1_i32_42 c3_i32_40
  let v83 : BitVec 32 := Scalar.remsi v80 v82
  let c0_i32_44 : BitVec 32 := 0#32
  let v85 : BitVec 1 := Scalar.cmpi .slt v83 c0_i32_44
  let c0_i32_45 : BitVec 32 := 0#32
  let v86 : BitVec 1 := Scalar.cmpi .slt v82 c0_i32_45
  let v87 : BitVec 1 := Scalar.xori v85 v86
  let c0_i32_43 : BitVec 32 := 0#32
  let v84 : BitVec 1 := Scalar.cmpi .ne v83 c0_i32_43
  let v88 : BitVec 1 := Scalar.andi v87 v84
  let v89 : BitVec 32 := Scalar.addi v83 v82
  let v90 : BitVec 32 := Scalar.select v88 v89 v83
  ![1, v90.toNat]
def k0_mult4 (i : grid0.Coords) : BitVec 32 :=
  let arg0 : BitVec 32 := BitVec.ofNat 32 (i 0).val
  let c8_i32 : BitVec 32 := 8#32
  let c0_i32_6 : BitVec 32 := 0#32
  let v17 : BitVec 1 := Scalar.cmpi .eq c8_i32 c0_i32_6
  let c1_i32_7 : BitVec 32 := 1#32
  let v18 : BitVec 32 := Scalar.select v17 c1_i32_7 c8_i32
  let v19 : BitVec 32 := Scalar.remsi arg0 v18
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let c0_i32_8 : BitVec 32 := 0#32
  let v20 : BitVec 1 := Scalar.cmpi .ne v19 c0_i32_8
  let v24 : BitVec 1 := Scalar.andi v23 v20
  let v25 : BitVec 32 := Scalar.addi v19 v18
  let v26 : BitVec 32 := Scalar.select v24 v25 v19
  let c1024_i32 : BitVec 32 := 1024#32
  let v27 : BitVec 32 := Scalar.muli v26 c1024_i32
  v27
def k0_off5 (i : grid0.Coords) : Fin 2 → Nat :=
  let c0_i32_18 : BitVec 32 := 0#32
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  ![0, v16.toNat]
def k0_off6 (i : grid0.Coords) : Fin 3 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_19 : BitVec 32 := 0#32
  let c0_i32_20 : BitVec 32 := 0#32
  ![v16.toNat, 0, 0]
def k0_off7 (i : grid0.Coords) : Fin 3 → Nat :=
  let arg0 : BitVec 32 := BitVec.ofNat 32 (i 0).val
  let c0_i32_12 : BitVec 32 := 0#32
  let v30 : BitVec 1 := Scalar.cmpi .sgt arg0 c0_i32_12
  let v31 : BitVec 32 := Scalar.extui v30
  let c0_i32_13 : BitVec 32 := 0#32
  let v32 : BitVec 1 := Scalar.cmpi .slt arg0 c0_i32_13
  let v33 : BitVec 32 := Scalar.extui v32
  let v34 : BitVec 32 := Scalar.subi v31 v33
  let c8_i32_11 : BitVec 32 := 8#32
  let c0_i32_14 : BitVec 32 := 0#32
  let v35 : BitVec 1 := Scalar.cmpi .sgt c8_i32_11 c0_i32_14
  let v36 : BitVec 32 := Scalar.extui v35
  let c0_i32_15 : BitVec 32 := 0#32
  let v37 : BitVec 1 := Scalar.cmpi .slt c8_i32_11 c0_i32_15
  let v38 : BitVec 32 := Scalar.extui v37
  let v39 : BitVec 32 := Scalar.subi v36 v38
  let v40 : BitVec 1 := Scalar.cmpi .ne v34 v39
  let v41 : BitVec 32 := Scalar.remsi arg0 c8_i32_11
  let c0_i32_16 : BitVec 32 := 0#32
  let v42 : BitVec 1 := Scalar.cmpi .ne v41 c0_i32_16
  let v43 : BitVec 1 := Scalar.andi v40 v42
  let v29 : BitVec 32 := Scalar.divsi arg0 c8_i32_11
  let c1_i32_17 : BitVec 32 := 1#32
  let v44 : BitVec 32 := Scalar.subi v29 c1_i32_17
  let v45 : BitVec 32 := Scalar.select v43 v44 v29
  let c0_i32_21 : BitVec 32 := 0#32
  let c8_i32 : BitVec 32 := 8#32
  let c0_i32_6 : BitVec 32 := 0#32
  let v17 : BitVec 1 := Scalar.cmpi .eq c8_i32 c0_i32_6
  let c1_i32_7 : BitVec 32 := 1#32
  let v18 : BitVec 32 := Scalar.select v17 c1_i32_7 c8_i32
  let v19 : BitVec 32 := Scalar.remsi arg0 v18
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let c0_i32_8 : BitVec 32 := 0#32
  let v20 : BitVec 1 := Scalar.cmpi .ne v19 c0_i32_8
  let v24 : BitVec 1 := Scalar.andi v23 v20
  let v25 : BitVec 32 := Scalar.addi v19 v18
  let v26 : BitVec 32 := Scalar.select v24 v25 v19
  let c1024_i32 : BitVec 32 := 1024#32
  let v27 : BitVec 32 := Scalar.muli v26 c1024_i32
  let v28 : BitVec 32 := v27
  ![v45.toNat, 0, v28.toNat]
def k0_off8 (i : grid0.Coords) : Fin 2 → Nat :=
  let c1_i32_22 : BitVec 32 := 1#32
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  ![1, v16.toNat]
def k0_off9 (i : grid0.Coords) : Fin 3 → Nat :=
  let arg0 : BitVec 32 := BitVec.ofNat 32 (i 0).val
  let c3_i32_26 : BitVec 32 := 3#32
  let c0_i32_27 : BitVec 32 := 0#32
  let v58 : BitVec 1 := Scalar.cmpi .eq c3_i32_26 c0_i32_27
  let c1_i32_28 : BitVec 32 := 1#32
  let v59 : BitVec 32 := Scalar.select v58 c1_i32_28 c3_i32_26
  let v60 : BitVec 32 := Scalar.remsi arg0 v59
  let c0_i32_30 : BitVec 32 := 0#32
  let v62 : BitVec 1 := Scalar.cmpi .slt v60 c0_i32_30
  let c0_i32_31 : BitVec 32 := 0#32
  let v63 : BitVec 1 := Scalar.cmpi .slt v59 c0_i32_31
  let v64 : BitVec 1 := Scalar.xori v62 v63
  let c0_i32_29 : BitVec 32 := 0#32
  let v61 : BitVec 1 := Scalar.cmpi .ne v60 c0_i32_29
  let v65 : BitVec 1 := Scalar.andi v64 v61
  let v66 : BitVec 32 := Scalar.addi v60 v59
  let v67 : BitVec 32 := Scalar.select v65 v66 v60
  let v70 : Index := Scalar.indexCast v67
  let c0_33 : Index := 0#32
  let c0_34 : Index := 0#32
  ![v70.toNat, 0, 0]
def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference3Ideal.lean ====
abbrev S4x8192x1024 : Shape := ⟨3, ![4, 8192, 1024]⟩
abbrev S1x1024x1024 : Shape := ⟨3, ![1, 1024, 1024]⟩
abbrev S1024x1024 : Shape := ⟨2, ![1024, 1024]⟩
abbrev S32768x1024 : Shape := ⟨2, ![32768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1x1024x1024, .f32⟩
  | .hbm, ⟨3, _⟩ => ⟨S1024x1024, .f32⟩
  | .hbm, ⟨4, _⟩ => ⟨S4x8192x1024, .f32⟩
  | .hbm, ⟨5, _⟩ => ⟨S4x8192x1024, .f32⟩
  | .hbm, ⟨6, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S4x8192x1024 : Shape := ⟨3, ![4, 8192, 1024]⟩
abbrev S1x1024 : Shape := ⟨2, ![1, 1024]⟩
abbrev S1x1024x3328 : Shape := ⟨3, ![1, 1024, 3328]⟩
abbrev S1x64 : Shape := ⟨2, ![1, 64]⟩
abbrev S32 : Shape := ⟨1, ![32]⟩
abbrev S_ : Shape := ⟨0, ![]⟩
abbrev S32x1 : Shape := ⟨2, ![32, 1]⟩
abbrev S8192 : Shape := ⟨1, ![8192]⟩
abbrev S1x8192 : Shape := ⟨2, ![1, 8192]⟩
abbrev S32x8192 : Shape := ⟨2, ![32, 8192]⟩
abbrev S32768x1024 : Shape := ⟨2, ![32768, 1024]⟩
abbrev S1024 : Shape := ⟨1, ![1024]⟩
abbrev S1024x3328 : Shape := ⟨2, ![1024, 3328]⟩
abbrev S3328x1024 : Shape := ⟨2, ![3328, 1024]⟩
abbrev S64 : Shape := ⟨1, ![64]⟩
abbrev S64x1 : Shape := ⟨2, ![64, 1]⟩
abbrev S64x1024 : Shape := ⟨2, ![64, 1024]⟩
abbrev S4x512x8192 : Shape := ⟨3, ![4, 512, 8192]⟩
abbrev S32768x128 : Shape := ⟨2, ![32768, 128]⟩
abbrev S4x160x8192 : Shape := ⟨3, ![4, 160, 8192]⟩
abbrev S32768x512 : Shape := ⟨2, ![32768, 512]⟩
abbrev S4x640x8192 : Shape := ⟨3, ![4, 640, 8192]⟩
abbrev S4x1024x8192 : Shape := ⟨3, ![4, 1024, 8192]⟩
abbrev S1024x1024 : Shape := ⟨2, ![1024, 1024]⟩
abbrev S32x1024 : Shape := ⟨2, ![32, 1024]⟩
abbrev S1x512x1024 : Shape := ⟨3, ![1, 512, 1024]⟩
abbrev S1024x128 : Shape := ⟨2, ![1024, 128]⟩
abbrev S1x160x1024 : Shape := ⟨3, ![1, 160, 1024]⟩
abbrev S1024x512 : Shape := ⟨2, ![1024, 512]⟩
abbrev S1x640x1024 : Shape := ⟨3, ![1, 640, 1024]⟩
abbrev S1x1024x1024 : Shape := ⟨3, ![1, 1024, 1024]⟩
abbrev S1024x1 : Shape := ⟨2, ![1024, 1]⟩
abbrev S1280x1024 : Shape := ⟨2, ![1280, 1024]⟩
abbrev S128x1024 : Shape := ⟨2, ![128, 1024]⟩
abbrev S2x64x1024 : Shape := ⟨3, ![2, 64, 1024]⟩
abbrev S2x1024 : Shape := ⟨2, ![2, 1024]⟩
abbrev S2x1x1024 : Shape := ⟨3, ![2, 1, 1024]⟩
abbrev S1x64x1024 : Shape := ⟨3, ![1, 64, 1024]⟩
abbrev S2x32x1024 : Shape := ⟨3, ![2, 32, 1024]⟩
abbrev S1x32x1024 : Shape := ⟨3, ![1, 32, 1024]⟩
abbrev S512x1024 : Shape := ⟨2, ![512, 1024]⟩
abbrev S8x64x1024 : Shape := ⟨3, ![8, 64, 1024]⟩
abbrev S8x1024 : Shape := ⟨2, ![8, 1024]⟩
abbrev S8x1x1024 : Shape := ⟨3, ![8, 1, 1024]⟩
abbrev S8x32x1024 : Shape := ⟨3, ![8, 32, 1024]⟩
abbrev S16x1024 : Shape := ⟨2, ![16, 1024]⟩
abbrev S1x16x1024 : Shape := ⟨3, ![1, 16, 1024]⟩

abbrev nBuf : Space → Nat
  | .hbm => 56
  | .vmem => 26
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x3328, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S32x1, .f32⟩
  | .hbm, ⟨24, _⟩ => ⟨S8192, .f32⟩
  | .hbm, ⟨25, _⟩ => ⟨S1x8192, .f32⟩
  | .hbm, ⟨26, _⟩ => ⟨S32x8192, .f32⟩
  | .hbm, ⟨27, _⟩ => ⟨S32x8192, .f32⟩
  | .hbm, ⟨28, _⟩ => ⟨S32x8192, .f32⟩
  | .hbm, ⟨29, _⟩ => ⟨S32x8192, .f32⟩
  | .hbm, ⟨30, _⟩ => ⟨S32x8192, .f32⟩
  | .hbm, ⟨31, _⟩ => ⟨S32768x1024, .f32⟩
  | .hbm, ⟨32, _⟩ => ⟨S1024, .f32⟩
  | .hbm, ⟨33, _⟩ => ⟨S1x1024, .f32⟩
  | .hbm, ⟨34, _⟩ => ⟨S1024x3328, .f32⟩
  | .hbm, ⟨35, _⟩ => ⟨S3328x1024, .f32⟩
  | .hbm, ⟨36, _⟩ => ⟨S3328x1024, .bf16⟩
  | .hbm, ⟨37, _⟩ => ⟨S64, .f32⟩
  | .hbm, ⟨38, _⟩ => ⟨S64x1, .f32⟩
  | .hbm, ⟨39, _⟩ => ⟨S64x1024, .f32⟩
  | .hbm, ⟨40, _⟩ => ⟨S64, .f32⟩
  | .hbm, ⟨41, _⟩ => ⟨S64x1, .f32⟩
  | .hbm, ⟨42, _⟩ => ⟨S64x1024, .f32⟩
  | .hbm, ⟨43, _⟩ => ⟨S64, .f32⟩
  | .hbm, ⟨44, _⟩ => ⟨S64x1, .f32⟩
  | .hbm, ⟨45, _⟩ => ⟨S64x1024, .f32⟩
  | .hbm, ⟨46, _⟩ => ⟨S64, .f32⟩
  | .hbm, ⟨47, _⟩ => ⟨S64x1, .f32⟩
  | .hbm, ⟨48, _⟩ => ⟨S64x1024, .f32⟩
  | .hbm, ⟨49, _⟩ => ⟨S4x512x8192, .bf16⟩
  | .hbm, ⟨50, _⟩ => ⟨S32768x128, .bf16⟩
  | .hbm, ⟨51, _⟩ => ⟨S4x160x8192, .bf16⟩
  | .hbm, ⟨52, _⟩ => ⟨S4x512x8192, .bf16⟩
  | .hbm, ⟨53, _⟩ => ⟨S32768x512, .bf16⟩
  | .hbm, ⟨54, _⟩ => ⟨S4x640x8192, .bf16⟩
  | .hbm, ⟨55, _⟩ => ⟨S4x1024x8192, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S3328x1024, .bf16⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S1x512x1024, .bf16⟩
  | .local _ .vmem, ⟨13, _⟩ => ⟨S1x512x1024, .bf16⟩
  | .local _ .vmem, ⟨14, _⟩ => ⟨S1024x128, .bf16⟩
  | .local _ .vmem, ⟨15, _⟩ => ⟨S1024x128, .bf16⟩
  | .local _ .vmem, ⟨16, _⟩ => ⟨S1x160x1024, .bf16⟩
  | .local _ .vmem, ⟨17, _⟩ => ⟨S1x160x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1024x512, .bf16⟩
  | .local _ .vmem, ⟨21, _⟩ => ⟨S1024x512, .bf16⟩
  | .local _ .vmem, ⟨22, _⟩ => ⟨S1x640x1024, .bf16⟩
  | .local _ .vmem, ⟨23, _⟩ => ⟨S1x640x1024, .bf16⟩
  | .local _ .vmem, ⟨24, _⟩ => ⟨S1x1024x1024, .f32⟩
  | .local _ .vmem, ⟨25, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37_0 : Ref sig .tc := ⟨.hbm, 49, rfl⟩
abbrev main_v37_1 : Ref sig .tc := ⟨.hbm, 50, rfl⟩
abbrev main_v37_2 : Ref sig .tc := ⟨.hbm, 51, rfl⟩
abbrev main_v37_3 : Ref sig .tc := ⟨.hbm, 52, rfl⟩
abbrev main_v37_4 : Ref sig .tc := ⟨.hbm, 53, rfl⟩
abbrev main_v37_5 : Ref sig .tc := ⟨.hbm, 54, rfl⟩
abbrev main_v37_6 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3328x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x160x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x640x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Kernel4Ideal.lean ====
variable {F : FTy → Type} [FloatOps F] [Named F]
def κ : String → Option EReal := fun
  | "q_fold" => some (((1 / 8) * (Real.log 2)⁻¹ : ℝ) : EReal)
  | _ => none
-- ==== Reference4Ideal.lean ====
abbrev S4x8192x1024 : Shape := ⟨3, ![4, 8192, 1024]⟩
abbrev S1x1024 : Shape := ⟨2, ![1, 1024]⟩
abbrev S1x1024x3328 : Shape := ⟨3, ![1, 1024, 3328]⟩
abbrev S1x64 : Shape := ⟨2, ![1, 64]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S1024x3328 : Shape := ⟨2, ![1024, 3328]⟩
abbrev S4x8192x3328 : Shape := ⟨3, ![4, 8192, 3328]⟩
abbrev S4x8192x512 : Shape := ⟨3, ![4, 8192, 512]⟩
abbrev S4x8192x128 : Shape := ⟨3, ![4, 8192, 128]⟩
abbrev S4x8192x8x64 : Shape := ⟨4, ![4, 8192, 8, 64]⟩
abbrev S64 : Shape := ⟨1, ![64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S4x8192x8x32 : Shape := ⟨4, ![4, 8192, 8, 32]⟩
abbrev S1x8192x1x32 : Shape := ⟨4, ![1, 8192, 1, 32]⟩
abbrev S4x8192x2x64 : Shape := ⟨4, ![4, 8192, 2, 64]⟩
abbrev S4x8192x2 : Shape := ⟨3, ![4, 8192, 2]⟩
abbrev S4x8192x2x1 : Shape := ⟨4, ![4, 8192, 2, 1]⟩
abbrev S4x8192x2x32 : Shape := ⟨4, ![4, 8192, 2, 32]⟩
abbrev S4x512x8192 : Shape := ⟨3, ![4, 512, 8192]⟩
abbrev S32768x128 : Shape := ⟨2, ![32768, 128]⟩
abbrev S4x8192x2x16 : Shape := ⟨4, ![4, 8192, 2, 16]⟩
abbrev S4x8192x2x80 : Shape := ⟨4, ![4, 8192, 2, 80]⟩
abbrev S4x8192x160 : Shape := ⟨3, ![4, 8192, 160]⟩
abbrev S4x160x8192 : Shape := ⟨3, ![4, 160, 8192]⟩
abbrev S32768x512 : Shape := ⟨2, ![32768, 512]⟩
abbrev S4x8192x8x16 : Shape := ⟨4, ![4, 8192, 8, 16]⟩
abbrev S4x8192x8x80 : Shape := ⟨4, ![4, 8192, 8, 80]⟩
abbrev S4x8192x640 : Shape := ⟨3, ![4, 8192, 640]⟩
abbrev S4x640x8192 : Shape := ⟨3, ![4, 640, 8192]⟩
abbrev S4x1024x8192 : Shape := ⟨3, ![4, 1024, 8192]⟩

abbrev nBuf : Space → Nat
  | .hbm => 205
  | .vmem => 0
  | .smem => 0
  | _ => 0

abbrev hbmTy0_0 (i : Nat) : BufTy := match i % 128 with
  | 0 => ⟨S4x8192x1024, .f32⟩
  | 1 => ⟨S1x1024, .f32⟩
  | 2 => ⟨S1x1024x3328, .f32⟩
  | 3 => ⟨S1x64, .f32⟩
  | 4 => ⟨S1x64, .f32⟩
  | 5 => ⟨S1x64, .f32⟩
  | 6 => ⟨S1x64, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S8192, .f32⟩
  | 24 => ⟨S8192x1, .f32⟩
  | 25 => ⟨S1x32, .f32⟩
  | 26 => ⟨S8192x32, .f32⟩
  | 27 => ⟨S8192x32, .f32⟩
  | 28 => ⟨S8192x32, .f32⟩
  | 29 => ⟨S8192x32, .f32⟩
  | 30 => ⟨S8192x32, .f32⟩
  | 31 => ⟨S1024, .f32⟩
  | 32 => ⟨S4x8192x1024, .f32⟩
  | 33 => ⟨S_, .f32⟩
  | 34 => ⟨S4x8192, .f32⟩
  | 35 => ⟨S4x8192x1, .f32⟩
  | 36 => ⟨S_, .f32⟩
  | 37 => ⟨S4x8192x1, .f32⟩
  | 38 => ⟨S4x8192x1, .f32⟩
  | 39 => ⟨S_, .f32⟩
  | 40 => ⟨S4x8192x1, .f32⟩
  | 41 => ⟨S4x8192x1, .f32⟩
  | 42 => ⟨S4x8192x1, .f32⟩
  | 43 => ⟨S4x8192x1024, .f32⟩
  | 44 => ⟨S4x8192x1024, .f32⟩
  | 45 => ⟨S1x1x1024, .f32⟩
  | 46 => ⟨S4x8192x1024, .f32⟩
  | 47 => ⟨S4x8192x1024, .f32⟩
  | 48 => ⟨S1024x3328, .f32⟩
  | 49 => ⟨S4x8192x3328, .f32⟩
  | 50 => ⟨S4x8192x512, .f32⟩
  | 51 => ⟨S4x8192x128, .f32⟩
  | 52 => ⟨S4x8192x128, .f32⟩
  | 53 => ⟨S4x8192x512, .f32⟩
  | 54 => ⟨S4x8192x512, .f32⟩
  | 55 => ⟨S4x8192x512, .f32⟩
  | 56 => ⟨S4x8192x512, .f32⟩
  | 57 => ⟨S4x8192x512, .f32⟩
  | 58 => ⟨S_, .f32⟩
  | 59 => ⟨S_, .f32⟩
  | 60 => ⟨S_, .f32⟩
  | 61 => ⟨S_, .f32⟩
  | 62 => ⟨S4x8192x8x64, .f32⟩
  | 63 => ⟨S64, .f32⟩
  | 64 => ⟨S4x8192x8x64, .f32⟩
  | 65 => ⟨S_, .f32⟩
  | 66 => ⟨S4x8192x8, .f32⟩
  | 67 => ⟨S4x8192x8x1, .f32⟩
  | 68 => ⟨S_, .f32⟩
  | 69 => ⟨S4x8192x8x1, .f32⟩
  | 70 => ⟨S4x8192x8x1, .f32⟩
  | 71 => ⟨S_, .f32⟩
  | 72 => ⟨S4x8192x8x1, .f32⟩
  | 73 => ⟨S4x8192x8x1, .f32⟩
  | 74 => ⟨S4x8192x8x1, .f32⟩
  | 75 => ⟨S4x8192x8x64, .f32⟩
  | 76 => ⟨S4x8192x8x64, .f32⟩
  | 77 => ⟨S1x1x1x64, .f32⟩
  | 78 => ⟨S4x8192x8x64, .f32⟩
  | 79 => ⟨S4x8192x8x64, .f32⟩
  | 80 => ⟨S4x8192x8x32, .f32⟩
  | 81 => ⟨S4x8192x8x32, .f32⟩
  | 82 => ⟨S1x8192x1x32, .f32⟩
  | 83 => ⟨S1x8192x1x32, .f32⟩
  | 84 => ⟨S4x8192x8x32, .f32⟩
  | 85 => ⟨S4x8192x8x32, .f32⟩
  | 86 => ⟨S4x8192x8x32, .f32⟩
  | 87 => ⟨S4x8192x8x32, .f32⟩
  | 88 => ⟨S4x8192x8x32, .f32⟩
  | 89 => ⟨S4x8192x8x32, .f32⟩
  | 90 => ⟨S4x8192x8x32, .f32⟩
  | 91 => ⟨S4x8192x8x32, .f32⟩
  | 92 => ⟨S4x8192x8x32, .f32⟩
  | 93 => ⟨S4x8192x8x32, .f32⟩
  | 94 => ⟨S4x8192x8x64, .f32⟩
  | 95 => ⟨S4x8192x512, .f32⟩
  | 96 => ⟨S_, .f32⟩
  | 97 => ⟨S4x8192x512, .f32⟩
  | 98 => ⟨S4x8192x512, .f32⟩
  | 99 => ⟨S4x8192x2x64, .f32⟩
  | 100 => ⟨S64, .f32⟩
  | 101 => ⟨S4x8192x2x64, .f32⟩
  | 102 => ⟨S_, .f32⟩
  | 103 => ⟨S4x8192x2, .f32⟩
  | 104 => ⟨S4x8192x2x1, .f32⟩
  | 105 => ⟨S_, .f32⟩
  | 106 => ⟨S4x8192x2x1, .f32⟩
  | 107 => ⟨S4x8192x2x1, .f32⟩
  | 108 => ⟨S_, .f32⟩
  | 109 => ⟨S4x8192x2x1, .f32⟩
  | 110 => ⟨S4x8192x2x1, .f32⟩
  | 111 => ⟨S4x8192x2x1, .f32⟩
  | 112 => ⟨S4x8192x2x64, .f32⟩
  | 113 => ⟨S4x8192x2x64, .f32⟩
  | 114 => ⟨S1x1x1x64, .f32⟩
  | 115 => ⟨S4x8192x2x64, .f32⟩
  | 116 => ⟨S4x8192x2x64, .f32⟩
  | 117 => ⟨S4x8192x2x32, .f32⟩
  | 118 => ⟨S4x8192x2x32, .f32⟩
  | 119 => ⟨S1x8192x1x32, .f32⟩
  | 120 => ⟨S1x8192x1x32, .f32⟩
  | 121 => ⟨S4x8192x2x32, .f32⟩
  | 122 => ⟨S4x8192x2x32, .f32⟩
  | 123 => ⟨S4x8192x2x32, .f32⟩
  | 124 => ⟨S4x8192x2x32, .f32⟩
  | 125 => ⟨S4x8192x2x32, .f32⟩
  | 126 => ⟨S4x8192x2x32, .f32⟩
  | 127 => ⟨S4x8192x2x32, .f32⟩
  | _ => ⟨S4x8192x1024, .f32⟩

abbrev hbmTy0_1 (i : Nat) : BufTy := match i % 128 with
  | 0 => ⟨S4x8192x2x32, .f32⟩
  | 1 => ⟨S4x8192x2x32, .f32⟩
  | 2 => ⟨S4x8192x2x32, .f32⟩
  | 3 => ⟨S4x8192x2x64, .f32⟩
  | 4 => ⟨S4x8192x8x64, .f32⟩
  | 5 => ⟨S64, .f32⟩
  | 6 => ⟨S4x8192x8x64, .f32⟩
  | 7 => ⟨S_, .f32⟩
  | 8 => ⟨S4x8192x8, .f32⟩
  | 9 => ⟨S4x8192x8x1, .f32⟩
  | 10 => ⟨S_, .f32⟩
  | 11 => ⟨S4x8192x8x1, .f32⟩
  | 12 => ⟨S4x8192x8x1, .f32⟩
  | 13 => ⟨S_, .f32⟩
  | 14 => ⟨S4x8192x8x1, .f32⟩
  | 15 => ⟨S4x8192x8x1, .f32⟩
  | 16 => ⟨S4x8192x8x1, .f32⟩
  | 17 => ⟨S4x8192x8x64, .f32⟩
  | 18 => ⟨S4x8192x8x64, .f32⟩
  | 19 => ⟨S1x1x1x64, .f32⟩
  | 20 => ⟨S4x8192x8x64, .f32⟩
  | 21 => ⟨S4x8192x8x64, .f32⟩
  | 22 => ⟨S4x8192x512, .f32⟩
  | 23 => ⟨S_, .f32⟩
  | 24 => ⟨S4x8192x512, .f32⟩
  | 25 => ⟨S4x8192x512, .f32⟩
  | 26 => ⟨S4x8192x8x64, .f32⟩
  | 27 => ⟨S64, .f32⟩
  | 28 => ⟨S4x8192x8x64, .f32⟩
  | 29 => ⟨S_, .f32⟩
  | 30 => ⟨S4x8192x8, .f32⟩
  | 31 => ⟨S4x8192x8x1, .f32⟩
  | 32 => ⟨S_, .f32⟩
  | 33 => ⟨S4x8192x8x1, .f32⟩
  | 34 => ⟨S4x8192x8x1, .f32⟩
  | 35 => ⟨S_, .f32⟩
  | 36 => ⟨S4x8192x8x1, .f32⟩
  | 37 => ⟨S4x8192x8x1, .f32⟩
  | 38 => ⟨S4x8192x8x1, .f32⟩
  | 39 => ⟨S4x8192x8x64, .f32⟩
  | 40 => ⟨S4x8192x8x64, .f32⟩
  | 41 => ⟨S1x1x1x64, .f32⟩
  | 42 => ⟨S4x8192x8x64, .f32⟩
  | 43 => ⟨S4x8192x8x64, .f32⟩
  | 44 => ⟨S4x8192x1024, .f32⟩
  | 45 => ⟨S4x8192x1024, .f32⟩
  | 46 => ⟨S4x8192x1024, .f32⟩
  | 47 => ⟨S_, .f32⟩
  | 48 => ⟨S4x8192x1024, .f32⟩
  | 49 => ⟨S4x8192x1024, .f32⟩
  | 50 => ⟨S_, .f32⟩
  | 51 => ⟨S4x8192x1024, .f32⟩
  | 52 => ⟨S4x8192x1024, .f32⟩
  | 53 => ⟨S4x8192x1024, .f32⟩
  | 54 => ⟨S4x512x8192, .f32⟩
  | 55 => ⟨S4x512x8192, .bf16⟩
  | 56 => ⟨S32768x128, .f32⟩
  | 57 => ⟨S32768x128, .bf16⟩
  | 58 => ⟨S4x8192x2x64, .f32⟩
  | 59 => ⟨S_, .f32⟩
  | 60 => ⟨S4x8192x2x16, .f32⟩
  | 61 => ⟨S4x8192x2x80, .f32⟩
  | 62 => ⟨S4x8192x160, .f32⟩
  | 63 => ⟨S4x160x8192, .f32⟩
  | 64 => ⟨S4x160x8192, .bf16⟩
  | 65 => ⟨S4x512x8192, .f32⟩
  | 66 => ⟨S4x512x8192, .bf16⟩
  | 67 => ⟨S32768x512, .f32⟩
  | 68 => ⟨S32768x512, .bf16⟩
  | 69 => ⟨S4x8192x8x64, .f32⟩
  | 70 => ⟨S_, .f32⟩
  | 71 => ⟨S4x8192x8x16, .f32⟩
  | 72 => ⟨S4x8192x8x80, .f32⟩
  | 73 => ⟨S4x8192x640, .f32⟩
  | 74 => ⟨S4x640x8192, .f32⟩
  | 75 => ⟨S4x640x8192, .bf16⟩
  | 76 => ⟨S4x1024x8192, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_12 : Ref sig .tc := ⟨.hbm, 102, rfl⟩
abbrev main_v82 : Ref sig .tc := ⟨.hbm, 103, rfl⟩
abbrev main_v83 : Ref sig .tc := ⟨.hbm, 104, rfl⟩
abbrev main_cst_13 : Ref sig .tc := ⟨.hbm, 105, rfl⟩
abbrev main_v84 : Ref sig .tc := ⟨.hbm, 106, rfl⟩
abbrev main_v85 : Ref sig .tc := ⟨.hbm, 107, rfl⟩
abbrev main_cst_14 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_cst_15 : Ref sig .tc := ⟨.hbm, 135, rfl⟩
abbrev main_v112 : Ref sig .tc := ⟨.hbm, 136, rfl⟩
abbrev main_v113 : Ref sig .tc := ⟨.hbm, 137, rfl⟩
abbrev main_cst_16 : Ref sig .tc := ⟨.hbm, 138, rfl⟩
abbrev main_v114 : Ref sig .tc := ⟨.hbm, 139, rfl⟩
abbrev main_v115 : Ref sig .tc := ⟨.hbm, 140, rfl⟩
abbrev main_cst_17 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_cst_18 : Ref sig .tc := ⟨.hbm, 157, rfl⟩
abbrev main_v131 : Ref sig .tc := ⟨.hbm, 158, rfl⟩
abbrev main_v132 : Ref sig .tc := ⟨.hbm, 159, rfl⟩
abbrev main_cst_19 : Ref sig .tc := ⟨.hbm, 160, rfl⟩
abbrev main_v133 : Ref sig .tc := ⟨.hbm, 161, rfl⟩
abbrev main_v134 : Ref sig .tc := ⟨.hbm, 162, rfl⟩
abbrev main_cst_20 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_call0_v0 : Ref sig .tc := ⟨.hbm, 173, rfl⟩
abbrev main_call0_v1 : Ref sig .tc := ⟨.hbm, 174, rfl⟩
abbrev main_call0_cst : Ref sig .tc := ⟨.hbm, 175, rfl⟩
abbrev main_call0_v2 : Ref sig .tc := ⟨.hbm, 176, rfl⟩
abbrev main_call0_v3 : Ref sig .tc := ⟨.hbm, 177, rfl⟩
abbrev main_call0_cst_0 : Ref sig .tc := ⟨.hbm, 178, rfl⟩
abbrev main_call0_v4 : Ref sig .tc := ⟨.hbm, 179, rfl⟩
abbrev main_call0_v5 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_cst_21 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_cst_22 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩

abbrev nD : Nat := 1
abbrev τ : Topo := Topo.v7x

variable {F : FTy → Type} [FloatOps F]
-- ==== Proof.Loop.lean ====
module
public import proofs.«01_k».proof.Proof.Gen.KernelIdeal.Value
public import Idealize.ShloMosaic.Lib.Pointwise
public import Idealize.ShloMosaic.Lib.Pipeline.ValueKit.Basic
@[expose] public section
noncomputable section
open Idealize.ShloMosaic Idealize.ShloMosaic.TcCoe Idealize.SL.Sem
namespace Cert.Proof.Attn
open Cert.KernelIdeal Cert.KernelIdeal.Gen

/-- Key row `j` of the keys' block, at feature `f`. -/
def kx (x1 : Vec Ideal S1x8192x128 .bf16) (j : ℕ) (f : Fin 128) : EReal :=
  x1 (ix3 0 ⟨j % 8192, Nat.mod_lt _ (by decide)⟩ f)

/-- Value column `j` of the values' block, at feature `d`. -/
def vx (x2 : Vec Ideal S1x128x8192 .bf16) (d : Fin 128) (j : ℕ) : EReal :=
  x2 (ix3 0 d ⟨j % 8192, Nat.mod_lt _ (by decide)⟩)

/-- The weight before normalization of key `j` for query column `n`: two to the power of their product. -/
def ex (x1 : Vec Ideal S1x8192x128 .bf16) (q : FVec Ideal S128x2048 .bf16) (n : Fin 2048) (j : ℕ) : EReal :=
  FloatOps.exp2 (F := Ideal) (φ := .f32) (∑ f : Fin 128, kx x1 j f * q (ix2 f n))

/-- A read of the keys' block at an index below 8192 is the key row of that number. -/
theorem kx_eq (x1 : Vec Ideal S1x8192x128 .bf16) (a : ℕ) (h : a < 8192) (f : Fin 128) :
    x1 (ix3 0 ⟨a, h⟩ f) = kx x1 a f := by
  unfold kx; congr 2; exact Fin.ext (Nat.mod_eq_of_lt h).symm

/-- The weight, spelled out. -/
theorem ex_fold (x1 : Vec Ideal S1x8192x128 .bf16) (q : FVec Ideal S128x2048 .bf16) (n : Fin 2048) (j : ℕ) :
    FloatOps.exp2 (F := Ideal) (φ := .f32) (∑ f : Fin 128, kx x1 j f * q (ix2 f n)) = ex x1 q n j := rfl

/-- A read of the values' block at an index below 8192 is the value column of that number. -/
theorem vx_eq (x2 : Vec Ideal S1x128x8192 .bf16) (a : ℕ) (h : a < 8192) (d : Fin 128) :
    x2 (ix3 0 d ⟨a, h⟩) = vx x2 d a := by
  unfold vx; congr 2; exact Fin.ext (Nat.mod_eq_of_lt h).symm

/-- The program's index words of trip `k` and the part of it that starts at row `r`. -/
theorem trip_off (k : ℕ) (hk : k < 4) (r : ℕ) (hr : r < 4) :
    BitVec.toNat (Scalar.indexCast (Scalar.addi (Scalar.muli (Scf.iv 0#32 1#32 k) 2048#32) (BitVec.ofNat 32 (512 * r))))
      = 2048 * k + 512 * r := by
  have h : ∀ k r : Fin 4, BitVec.toNat (Scalar.indexCast (Scalar.addi (Scalar.muli (Scf.iv 0#32 1#32 k.val) 2048#32)
      (BitVec.ofNat 32 (512 * r.val)))) = 2048 * k.val + 512 * r.val := by decide
  exact h ⟨k, hk⟩ ⟨r, hr⟩

/-- Four runs of 512 numbers are one run of 2048. -/
theorem sum_four (g : ℕ → EReal) (a : ℕ) (A : EReal) :
    A + ∑ u : Fin 512, g (a + 0 + u.val) + ∑ u : Fin 512, g (a + 512 + u.val) + ∑ u : Fin 512, g (a + 1024 + u.val)
      + ∑ u : Fin 512, g (a + 1536 + u.val) = A + ∑ u ∈ Finset.range 2048, g (a + u) := by
  have e : ∀ r : ℕ, ∑ u : Fin 512, g (a + r + u.val) = ∑ u ∈ Finset.range 512, g (a + (r + u)) := by
    intro r; rw [Finset.sum_range]; simp only [add_assoc]
  rw [e, e, e, e, show 2048 = 512 + 512 + 512 + 512 from rfl, Finset.sum_range_add, Finset.sum_range_add,
    Finset.sum_range_add]
  simp only [zero_add, Nat.reduceAdd]
  rw [← add_assoc, ← add_assoc, ← add_assoc]

section
variable (c : Dev nD) (i : grid0.Coords) (arg3 : Memref sig .tc .vmem S1x128x2048 .bf16) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S1x128x2048 .f32) (harg6 : arg6.IsWhole) (arg7 : Memref sig .tc .vmem S128x2048 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128x2048 .bf16) (harg12 : arg12.IsWhole) (arg13 : Memref sig .tc .vmem S128x2048 .f32) (harg13 : arg13.IsWhole) (arg14 : Memref sig .tc .vmem S128x2048 .f32) (harg14 : arg14.IsWhole)
  (x1 : Vec Ideal S1x8192x128 .bf16) (x2 : Vec Ideal S1x128x8192 .bf16)
  (a2 : BitVec 32) (v6 v9 : FVec Ideal S128x2048 .bf16) (v29 : BitVec 32) (cst : Ideal .f32)

/-- What one trip adds to the two running sums of weights. -/
theorem trip_l (k : Fin (k0_t1_loop i).trips) (acc : FVec Ideal S1x2048 .f32 × FVec Ideal S1x2048 .f32)
    (f13 : arg13.view.ty.Contents (Elt Ideal)) (f14 : arg14.view.ty.Contents (Elt Ideal)) (n : Fin 2048) :
    (tripR_k0_t1 (F := Ideal) Variants.none c none i arg3 harg3 arg4 harg4 arg5 harg5 arg6 harg6 arg7 harg7 arg8 harg8 arg9 harg9 arg10 harg10 arg11 harg11 arg12 harg12 arg13 harg13 arg14 harg14
      a2 v6 v9 v29 cst (harg4.unread x1) (harg5.unread x2) k acc f13 f14).1 (ix2 0 n)
      = acc.1 (ix2 0 n) + ∑ u ∈ Finset.range 2048, ex x1 v6 n (2048 * k.val + u) ∧
    (tripR_k0_t1 (F := Ideal) Variants.none c none i arg3 harg3 arg4 harg4 arg5 harg5 arg6 harg6 arg7 harg7 arg8 harg8 arg9 harg9 arg10 harg10 arg11 harg11 arg12 harg12 arg13 harg13 arg14 harg14
      a2 v6 v9 v29 cst (harg4.unread x1) (harg5.unread x2) k acc f13 f14).2 (ix2 0 n)
      = acc.2 (ix2 0 n) + ∑ u ∈ Finset.range 2048, ex x1 v9 n (2048 * k.val + u) := by
  have hk : k.val < 4 := by have := (k0_t1_abs i).2.1; have := k.isLt; omega
  have o0 := trip_off k.val hk 0 (by decide)
  have o1 := trip_off k.val hk 1 (by decide)
  have o2 := trip_off k.val hk 2 (by decide)
  have o3 := trip_off k.val hk 3 (by decide)
  unfold tripR_k0_t1 trip_k0_t1
  dsimp only
  sl_unfold_words
  simp only [View.readAt_eq_ld, harg4.read_unread]
  unfold_payloads
  constructor <;> (
    pointwise
    simp only [kx_eq x1, o0, o1, o2, o3]
    first
    | simp only [ex_fold x1 v6]; exact sum_four (ex x1 v6 n) _ _
    | simp only [ex_fold x1 v9]; exact sum_four (ex x1 v9 n) _ _)

/-- What one trip leaves in the two running sums of weighted values. -/
theorem trip_a (k : Fin (k0_t1_loop i).trips) (acc : FVec Ideal S1x2048 .f32 × FVec Ideal S1x2048 .f32)
    (f13 : arg13.view.ty.Contents (Elt Ideal)) (f14 : arg14.view.ty.Contents (Elt Ideal)) :
    ∃ w1 w2 : FVec Ideal S128x2048 .f32,
    (tripL_k0_t1 (F := Ideal) Variants.none c none i arg3 harg3 arg4 harg4 arg5 harg5 arg6 harg6 arg7 harg7 arg8 harg8 arg9 harg9 arg10 harg10 arg11 harg11 arg12 harg12 arg13 harg13 arg14 harg14
      a2 v6 v9 v29 cst (harg4.unread x1) (harg5.unread x2) k acc f13 f14)
      = ([⟨Rect.unit ![0, 0] S128x2048.size inb_S128x2048_S128x2048_0_0, w1⟩],
         [⟨Rect.unit ![0, 0] S128x2048.size inb_S128x2048_S128x2048_0_0, w2⟩]) ∧
    (∀ (d : Fin 128) (n : Fin 2048), w1 (ix2 d n) = arg13.view.read (Elt Ideal) f13 (ix2 d n)
      + ∑ u ∈ Finset.range 2048, vx x2 d (2048 * k.val + u) * ex x1 v6 n (2048 * k.val + u)) ∧
    (∀ (d : Fin 128) (n : Fin 2048), w2 (ix2 d n) = arg14.view.read (Elt Ideal) f14 (ix2 d n)
      + ∑ u ∈ Finset.range 2048, vx x2 d (2048 * k.val + u) * ex x1 v9 n (2048 * k.val + u)) := by
  have hk : k.val < 4 := by have := (k0_t1_abs i).2.1; have := k.isLt; omega
  have o0 := trip_off k.val hk 0 (by decide)
  have o1 := trip_off k.val hk 1 (by decide)
  have o2 := trip_off k.val hk 2 (by decide)
  have o3 := trip_off k.val hk 3 (by decide)
  unfold tripL_k0_t1 trip_k0_t1
  dsimp only
  refine ⟨_, _, rfl, ?_, ?_⟩ <;> (
    intro d n
    sl_unfold_words
    simp only [View.readAt_eq_ld, harg4.read_unread, harg5.read_unread]
    unfold_payloads
    pointwise
    simp only [kx_eq x1, vx_eq x2, o0, o1, o2, o3, ← add_assoc]
    first
    | simp only [ex_fold x1 v6]; exact sum_four (fun j => vx x2 d j * ex x1 v6 n j) _ _
    | simp only [ex_fold x1 v9]; exact sum_four (fun j => vx x2 d j * ex x1 v9 n j) _ _)

/-- The running sums before trip `k`: over all keys of the tiles before tile `k`. -/
theorem loop_inv (k : ℕ) (hk : k ≤ (k0_t1_loop i).trips) :
    (∀ n : Fin 2048, (st_k0_t1 (F := Ideal) Variants.none c none i arg3 harg3 arg4 harg4 arg5 harg5 arg6 harg6 arg7 harg7 arg8 harg8 arg9 harg9 arg10 harg10 arg11 harg11 arg12 harg12 arg13 harg13 arg14 harg14
      a2 v6 v9 v29 cst (harg4.unread x1) (harg5.unread x2) (arg13.view.writes (Elt Ideal) arg13.view.junk kernelRun0_A.sl.HS0_1)
      (arg14.view.writes (Elt Ideal) arg14.view.junk kernelRun0_A.sl.HS1_1) (k0_pay65, k0_pay65) k).1.1 (ix2 0 n)
      = ∑ j ∈ Finset.range (2048 * k), ex x1 v6 n j) ∧
    (∀ n : Fin 2048, (st_k0_t1 (F := Ideal) Variants.none c none i arg3 harg3 arg4 harg4 arg5 harg5 arg6 harg6 arg7 harg7 arg8 harg8 arg9 harg9 arg10 harg10 arg11 harg11 arg12 harg12 arg13 harg13 arg14 harg14
      a2 v6 v9 v29 cst (harg4.unread x1) (harg5.unread x2) (arg13.view.writes (Elt Ideal) arg13.view.junk kernelRun0_A.sl.HS0_1)
      (arg14.view.writes (Elt Ideal) arg14.view.junk kernelRun0_A.sl.HS1_1) (k0_pay65, k0_pay65) k).1.2 (ix2 0 n)
      = ∑ j ∈ Finset.range (2048 * k), ex x1 v9 n j) ∧
    (∀ (d : Fin 128) (n : Fin 2048), View.canon ((st_k0_t1 (F := Ideal) Variants.none c none i arg3 harg3 arg4 harg4 arg5 harg5 arg6 harg6 arg7 harg7 arg8 harg8 arg9 harg9 arg10 harg10 arg11 harg11 arg12 harg12 arg13 harg13 arg14 harg14
      a2 v6 v9 v29 cst (harg4.unread x1) (harg5.unread x2) (arg13.view.writes (Elt Ideal) arg13.view.junk kernelRun0_A.sl.HS0_1)
      (arg14.view.writes (Elt Ideal) arg14.view.junk kernelRun0_A.sl.HS1_1) (k0_pay65, k0_pay65) k).2.1 ++ kernelRun0_A.sl.HS0_1) (ix2 d n)
      = ∑ j ∈ Finset.range (2048 * k), vx x2 d j * ex x1 v6 n j) ∧
    (∀ (d : Fin 128) (n : Fin 2048), View.canon ((st_k0_t1 (F := Ideal) Variants.none c none i arg3 harg3 arg4 harg4 arg5 harg5 arg6 harg6 arg7 harg7 arg8 harg8 arg9 harg9 arg10 harg10 arg11 harg11 arg12 harg12 arg13 harg13 arg14 harg14
      a2 v6 v9 v29 cst (harg4.unread x1) (harg5.unread x2) (arg13.view.writes (Elt Ideal) arg13.view.junk kernelRun0_A.sl.HS0_1)
      (arg14.view.writes (Elt Ideal) arg14.view.junk kernelRun0_A.sl.HS1_1) (k0_pay65, k0_pay65) k).2.2 ++ kernelRun0_A.sl.HS1_1) (ix2 d n)
      = ∑ j ∈ Finset.range (2048 * k), vx x2 d j * ex x1 v9 n j) := by
  induction k with
  | zero =>
    refine ⟨fun n => ?_, fun n => ?_, fun d n => ?_, fun d n => ?_⟩
    · rw [st_k0_t1_zero]; unfold_payloads; pointwise; rfl
    · rw [st_k0_t1_zero]; unfold_payloads; pointwise; rfl
    · show View.canon kernelRun0_A.sl.HS0_1 (ix2 d n) = _
      unfold kernelRun0_A.sl.HS0_1
      rw [View.canon_cons_unit_lit _ _ _ (by decide)]
      unfold_payloads; pointwise; rfl
    · show View.canon kernelRun0_A.sl.HS1_1 (ix2 d n) = _
      unfold kernelRun0_A.sl.HS1_1
      rw [View.canon_cons_unit_lit _ _ _ (by decide)]
      sl_unfold_words
      unfold_payloads; pointwise; rfl
  | succ k ih =>
    obtain ⟨i1, i2, i3, i4⟩ := ih (by omega)
    have hs := st_k0_t1_succ (F := Ideal) Variants.none c none i arg3 harg3 arg4 harg4 arg5 harg5 arg6 harg6 arg7 harg7 arg8 harg8 arg9 harg9 arg10 harg10 arg11 harg11 arg12 harg12 arg13 harg13 arg14 harg14
      a2 v6 v9 v29 cst (harg4.unread x1) (harg5.unread x2) (arg13.view.writes (Elt Ideal) arg13.view.junk kernelRun0_A.sl.HS0_1)
      (arg14.view.writes (Elt Ideal) arg14.view.junk kernelRun0_A.sl.HS1_1) (k0_pay65, k0_pay65) ⟨k, by omega⟩
    have hl := fun acc f13 f14 => trip_l c i arg3 harg3 arg4 harg4 arg5 harg5 arg6 harg6 arg7 harg7 arg8 harg8 arg9 harg9 arg10 harg10 arg11 harg11 arg12 harg12 arg13 harg13 arg14 harg14
      x1 x2 a2 v6 v9 v29 cst ⟨k, by omega⟩ acc f13 f14
    have ha := fun acc f13 f14 => trip_a c i arg3 harg3 arg4 harg4 arg5 harg5 arg6 harg6 arg7 harg7 arg8 harg8 arg9 harg9 arg10 harg10 arg11 harg11 arg12 harg12 arg13 harg13 arg14 harg14
      x1 x2 a2 v6 v9 v29 cst ⟨k, by omega⟩ acc f13 f14
    choose w1 w2 hw h3 h4 using ha
    have hw1 := fun acc f13 f14 => congrArg Prod.fst (hw acc f13 f14)
    have hw2 := fun acc f13 f14 => congrArg Prod.snd (hw acc f13 f14)
    dsimp only at hs hl h3 h4 hw1 hw2
    rw [hs]
    have hr : ∀ g : ℕ → EReal, ∑ j ∈ Finset.range (2048 * (k + 1)), g j
        = ∑ j ∈ Finset.range (2048 * k), g j + ∑ u ∈ Finset.range 2048, g (2048 * k + u) := fun g => by
      rw [Nat.mul_succ, Finset.sum_range_add]
    refine ⟨fun n => ?_, fun n => ?_, fun d n => ?_, fun d n => ?_⟩
    · rw [(hl _ _ _ n).1, i1, hr]
    · rw [(hl _ _ _ n).2, i2, hr]
    · dsimp only
      rw [hw1, List.append_assoc, List.singleton_append, View.canon_cons_unit_lit _ _ _ (by decide), h3,
          ← View.writes_append, View.read_writes_junk_eq_canon, i3, hr]
    · dsimp only
      rw [hw2, List.append_assoc, List.singleton_append, View.canon_cons_unit_lit _ _ _ (by decide), h4,
          ← View.writes_append, View.read_writes_junk_eq_canon, i4, hr]

/-- The number of tiles before the diagonal one is the query block's number. -/
theorem trips_t1 : (k0_t1_loop i).trips = (i 2).val := by
  have h : ∀ q : Fin 4, Scf.trips 0#32 (Scalar.addi 0#32 (Scalar.muli (Scalar.divsi (Scalar.subi (BitVec.ofNat 32 q.val) 0#32) 1#32) 1#32)) 1#32 = q.val := by decide
  exact h (i 2)

/-- The remainder loop makes no trip. -/
theorem trips_t2 : (k0_t2_loop i).trips = 0 := by
  have := (k0_t2_abs i).2.1; omega
end
end Cert.Proof.Attn
-- ==== Proof.Block.lean ====
module
public import proofs.«01_k».proof.Proof.Loop
public import Idealize.ShloMosaic.Lib.Pipeline.ValueKit.Tiles
@[expose] public section
noncomputable section
open Idealize.ShloMosaic Idealize.ShloMosaic.TcCoe Idealize.SL.Sem
namespace Cert.Proof.Attn
open Cert.KernelIdeal Cert.KernelIdeal.Gen

/-- The kernel divides by 64 rounding down: on the numbers below 2048 its chain of operations is that division. -/
theorem floor_div (m : ℕ) (hm : m < 2048) :
    Scalar.select
      (IntOp.andi
        (IntOp.cmpi CmpIPredicate.ne
          (IntOp.subi (BitVec.setWidth 32 (IntOp.cmpi CmpIPredicate.sgt (BitVec.ofNat 32 m) 0#32))
            (BitVec.setWidth 32 (IntOp.cmpi CmpIPredicate.slt (BitVec.ofNat 32 m) 0#32)))
          1#32)
        (IntOp.cmpi CmpIPredicate.ne (IntOp.remsi ArithUnit.vector (BitVec.ofNat 32 m) 64#32) 0#32))
      (IntOp.subi (IntOp.divsi ArithUnit.vector (BitVec.ofNat 32 m) 64#32) 1#32)
      (IntOp.divsi ArithUnit.vector (BitVec.ofNat 32 m) 64#32) = BitVec.ofNat 32 (m / 64) := by
  have h : ∀ m : Fin 2048, Scalar.select
      (IntOp.andi
        (IntOp.cmpi CmpIPredicate.ne
          (IntOp.subi (BitVec.setWidth 32 (IntOp.cmpi CmpIPredicate.sgt (BitVec.ofNat 32 m.val) 0#32))
            (BitVec.setWidth 32 (IntOp.cmpi CmpIPredicate.slt (BitVec.ofNat 32 m.val) 0#32)))
          1#32)
        (IntOp.cmpi CmpIPredicate.ne (IntOp.remsi ArithUnit.vector (BitVec.ofNat 32 m.val) 64#32) 0#32))
      (IntOp.subi (IntOp.divsi ArithUnit.vector (BitVec.ofNat 32 m.val) 64#32) 1#32)
      (IntOp.divsi ArithUnit.vector (BitVec.ofNat 32 m.val) 64#32) = BitVec.ofNat 32 (m.val / 64) := by decide +kernel
  exact h ⟨m, hm⟩

/-- Adding a small offset to a small index does not wrap around. -/
theorem addi_ofNat (a o : ℕ) : IntOp.addi (BitVec.ofNat 32 a) (BitVec.ofNat 32 o) = BitVec.ofNat 32 (o + a) := by
  unfold IntOp.addi; rw [Nat.add_comm, BitVec.ofNat_add]

/-- Comparing two group numbers as words is comparing them as numbers. -/
theorem sle_group (a b : ℕ) (ha : a < 2048) (hb : b < 2048) :
    IntOp.cmpi CmpIPredicate.sle (BitVec.ofNat 32 (a / 64)) (BitVec.ofNat 32 (b / 64)) = BitVec.ofBool (a / 64 ≤ b / 64) := by
  have h : ∀ a b : Fin 32, IntOp.cmpi CmpIPredicate.sle (BitVec.ofNat 32 a.val) (BitVec.ofNat 32 b.val)
      = BitVec.ofBool (a.val ≤ b.val) := by decide +kernel
  exact h ⟨a / 64, by omega⟩ ⟨b / 64, by omega⟩

/-- Choosing by a decided condition. -/
theorem select_dec (p : Prop) [Decidable p] (a b : EReal) :
    Scalar.select (BitVec.ofBool p) a b = if p then a else b := by
  by_cases h : p <;> simp [Scalar.select, h]

/-- The mask of diagonal block 0: the key's group of 64 is not after the query's. -/
theorem mask0 (k : Fin 256) (n : Fin 2048) :
    IntOp.cmpi CmpIPredicate.sle (kernelRun0_A.sl.v80 (ix2 k n)) (kernelRun0_A.sl.v107 (ix2 k n))
      = BitVec.ofBool ((0 + k.val) / 64 ≤ (0 + n.val) / 64) := by
  rw [← sle_group (0 + k.val) (0 + n.val) (by omega) (by omega), ← floor_div (0 + k.val) (by omega),
    ← floor_div (0 + n.val) (by omega), ← addi_ofNat, ← addi_ofNat]
  sl_unfold_words
  try unfold_payloads
  pointwise
  rfl

/-- The mask of diagonal block 1: the key's group of 64 is not after the query's. -/
theorem mask1 (k : Fin 256) (n : Fin 1792) :
    IntOp.cmpi CmpIPredicate.sle (kernelRun0_A.sl.v143 (ix2 k n)) (kernelRun0_A.sl.v170 (ix2 k n))
      = BitVec.ofBool ((256 + k.val) / 64 ≤ (256 + n.val) / 64) := by
  rw [← sle_group (256 + k.val) (256 + n.val) (by omega) (by omega), ← floor_div (256 + k.val) (by omega),
    ← floor_div (256 + n.val) (by omega), ← addi_ofNat, ← addi_ofNat]
  sl_unfold_words
  try unfold_payloads
  pointwise

/-- The mask of diagonal block 2: the key's group of 64 is not after the query's. -/
theorem mask2 (k : Fin 256) (n : Fin 1536) :
    IntOp.cmpi CmpIPredicate.sle (kernelRun0_A.sl.v208 (ix2 k n)) (kernelRun0_A.sl.v235 (ix2 k n))
      = BitVec.ofBool ((512 + k.val) / 64 ≤ (512 + n.val) / 64) := by
  rw [← sle_group (512 + k.val) (512 + n.val) (by omega) (by omega), ← floor_div (512 + k.val) (by omega),
    ← floor_div (512 + n.val) (by omega), ← addi_ofNat, ← addi_ofNat]
  sl_unfold_words
  try unfold_payloads
  pointwise

/-- The mask of diagonal block 3: the key's group of 64 is not after the query's. -/
theorem mask3 (k : Fin 256) (n : Fin 1280) :
    IntOp.cmpi CmpIPredicate.sle (kernelRun0_A.sl.v273 (ix2 k n)) (kernelRun0_A.sl.v300 (ix2 k n))
      = BitVec.ofBool ((768 + k.val) / 64 ≤ (768 + n.val) / 64) := by
  rw [← sle_group (768 + k.val) (768 + n.val) (by omega) (by omega), ← floor_div (768 + k.val) (by omega),
    ← floor_div (768 + n.val) (by omega), ← addi_ofNat, ← addi_ofNat]
  sl_unfold_words
  try unfold_payloads
  pointwise

/-- The mask of diagonal block 4: the key's group of 64 is not after the query's. -/
theorem mask4 (k : Fin 256) (n : Fin 1024) :
    IntOp.cmpi CmpIPredicate.sle (kernelRun0_A.sl.v338 (ix2 k n)) (kernelRun0_A.sl.v365 (ix2 k n))
      = BitVec.ofBool ((1024 + k.val) / 64 ≤ (1024 + n.val) / 64) := by
  rw [← sle_group (1024 + k.val) (1024 + n.val) (by omega) (by omega), ← floor_div (1024 + k.val) (by omega),
    ← floor_div (1024 + n.val) (by omega), ← addi_ofNat, ← addi_ofNat]
  sl_unfold_words
  try unfold_payloads
  pointwise

/-- The mask of diagonal block 5: the key's group of 64 is not after the query's. -/
theorem mask5 (k : Fin 256) (n : Fin 768) :
    IntOp.cmpi CmpIPredicate.sle (kernelRun0_A.sl.v403 (ix2 k n)) (kernelRun0_A.sl.v430 (ix2 k n))
      = BitVec.ofBool ((1280 + k.val) / 64 ≤ (1280 + n.val) / 64) := by
  rw [← sle_group (1280 + k.val) (1280 + n.val) (by omega) (by omega), ← floor_div (1280 + k.val) (by omega),
    ← floor_div (1280 + n.val) (by omega), ← addi_ofNat, ← addi_ofNat]
  sl_unfold_words
  try unfold_payloads
  pointwise

/-- The mask of diagonal block 6: the key's group of 64 is not after the query's. -/
theorem mask6 (k : Fin 256) (n : Fin 512) :
    IntOp.cmpi CmpIPredicate.sle (kernelRun0_A.sl.v468 (ix2 k n)) (kernelRun0_A.sl.v495 (ix2 k n))
      = BitVec.ofBool ((1536 + k.val) / 64 ≤ (1536 + n.val) / 64) := by
  rw [← sle_group (1536 + k.val) (1536 + n.val) (by omega) (by omega), ← floor_div (1536 + k.val) (by omega),
    ← floor_div (1536 + n.val) (by omega), ← addi_ofNat, ← addi_ofNat]
  sl_unfold_words
  try unfold_payloads
  pointwise

/-- The mask of diagonal block 7: the key's group of 64 is not after the query's. -/
theorem mask7 (k : Fin 256) (n : Fin 256) :
    k0_pay140 kernelRun0_A.sl.v511 kernelRun0_A.sl.v525 kernelRun0_A.sl.v527 (ix2 k n)
      = BitVec.ofBool ((1792 + k.val) / 64 ≤ (1792 + n.val) / 64) := by
  rw [← sle_group (1792 + k.val) (1792 + n.val) (by omega) (by omega), ← floor_div (1792 + k.val) (by omega),
    ← floor_div (1792 + n.val) (by omega), ← addi_ofNat, ← addi_ofNat]
  sl_unfold_words
  try unfold_payloads
  pointwise
  rfl

/-- The place of a diagonal block inside the keys. -/
theorem diag_off (a w : ℕ) (ha : a < 4) (hw : w ≤ 1792) :
    BitVec.toNat (Scalar.indexCast (Scalar.addi (Scalar.muli (BitVec.ofNat 32 a) 2048#32) (BitVec.ofNat 32 w))) = 2048 * a + w := by
  have h : Scalar.muli (BitVec.ofNat 32 a) 2048#32 = BitVec.ofNat 32 (2048 * a) := by
    have : ∀ a : Fin 4, Scalar.muli (BitVec.ofNat 32 a.val) 2048#32 = BitVec.ofNat 32 (2048 * a.val) := by decide
    exact this ⟨a, ha⟩
  rw [h]
  show BitVec.toNat (BitVec.ofNat 32 (2048 * a) + BitVec.ofNat 32 w) = _
  rw [← BitVec.ofNat_add, BitVec.toNat_ofNat]
  omega

variable (i : grid0.Coords)

/-- A key read from a diagonal block. -/
theorem key_eq (x1 : Vec Ideal S1x8192x128 .bf16) (w a : ℕ) (hw : w ≤ 1792) (f : Fin 128) (h0 h1 h2) :
    x1 (ix3 ⟨k0_off5 i (BitVec.ofNat 32 w) 0, h0⟩ ⟨k0_off5 i (BitVec.ofNat 32 w) 1 + a, h1⟩
      ⟨k0_off5 i (BitVec.ofNat 32 w) 2 + f.val, h2⟩) = kx x1 (2048 * (i 2).val + (w + a)) f := by
  have e := diag_off (i 2).val w (i 2).isLt hw
  have e1 : k0_off5 i (BitVec.ofNat 32 w) 1 = 2048 * (i 2).val + w := e
  have h1' : 2048 * (i 2).val + (w + a) < 8192 := by rw [e1] at h1; omega
  unfold kx
  congr 2
  · apply Fin.ext
    show k0_off5 i (BitVec.ofNat 32 w) 1 + a = (2048 * (i 2).val + (w + a)) % 8192
    rw [e1, Nat.mod_eq_of_lt h1', Nat.add_assoc]
  · apply Fin.ext
    show 0 + f.val = f.val
    omega

/-- A value read from a diagonal block. -/
theorem value_eq (x2 : Vec Ideal S1x128x8192 .bf16) (w a : ℕ) (hw : w ≤ 1792) (d : Fin 128) (h0 h1 h2) :
    x2 (ix3 ⟨k0_off6 i (BitVec.ofNat 32 w) 0, h0⟩ ⟨k0_off6 i (BitVec.ofNat 32 w) 1 + d.val, h1⟩
      ⟨k0_off6 i (BitVec.ofNat 32 w) 2 + a, h2⟩) = vx x2 d (2048 * (i 2).val + (w + a)) := by
  have e := diag_off (i 2).val w (i 2).isLt hw
  have e1 : k0_off6 i (BitVec.ofNat 32 w) 2 = 2048 * (i 2).val + w := e
  have h1' : 2048 * (i 2).val + (w + a) < 8192 := by rw [e1] at h2; omega
  unfold vx
  congr 2
  · apply Fin.ext
    show 0 + d.val = d.val
    omega
  · apply Fin.ext
    show k0_off6 i (BitVec.ofNat 32 w) 2 + a = (2048 * (i 2).val + (w + a)) % 8192
    rw [e1, Nat.mod_eq_of_lt h1', Nat.add_assoc]

/-- One block of 256 keys of the diagonal, starting at key `a + w`: the weights of one query, added up under the mask. -/
def dL (x1 : Vec Ideal S1x8192x128 .bf16) (q : Vec Ideal S128x2048 .bf16) (a w : ℕ) (n : Fin 2048) : EReal :=
  ∑ k : Fin 256, if (w + k.val) / 64 ≤ n.val / 64 then ex x1 q n (a + (w + k.val)) else 0

/-- The same block: the weighted values, added up under the mask. -/
def dA (x1 : Vec Ideal S1x8192x128 .bf16) (x2 : Vec Ideal S1x128x8192 .bf16) (q : Vec Ideal S128x2048 .bf16) (a w : ℕ)
    (d : Fin 128) (n : Fin 2048) : EReal :=
  ∑ k : Fin 256, if (w + k.val) / 64 ≤ n.val / 64 then vx x2 d (a + (w + k.val)) * ex x1 q n (a + (w + k.val)) else 0

/-- A block after the query adds nothing to the weights. -/
theorem dL_zero (x1 : Vec Ideal S1x8192x128 .bf16) (q : Vec Ideal S128x2048 .bf16) (a w : ℕ) (n : Fin 2048)
    (h : n.val / 64 < w / 64) : dL x1 q a w n = 0 := by
  unfold dL
  refine Finset.sum_eq_zero fun k _ => if_neg ?_
  omega

/-- A block after the query adds nothing to the weighted values. -/
theorem dA_zero (x1 : Vec Ideal S1x8192x128 .bf16) (x2 : Vec Ideal S1x128x8192 .bf16) (q : Vec Ideal S128x2048 .bf16) (a w : ℕ)
    (d : Fin 128) (n : Fin 2048) (h : n.val / 64 < w / 64) : dA x1 x2 q a w d n = 0 := by
  unfold dA
  refine Finset.sum_eq_zero fun k _ => if_neg ?_
  omega

/-- The sum of the weights of one query over the keys it may see, as the kernel adds them up. -/
def sumL (x1 : Vec Ideal S1x8192x128 .bf16) (q : Vec Ideal S128x2048 .bf16) (a : ℕ) (n : Fin 2048) : EReal :=
  ∑ j ∈ Finset.range a, ex x1 q n j + (dL x1 q a 0 n + dL x1 q a 256 n + dL x1 q a 512 n + dL x1 q a 768 n
    + dL x1 q a 1024 n + dL x1 q a 1280 n + dL x1 q a 1536 n + dL x1 q a 1792 n)

/-- The sum of the weighted values of one query over the keys it may see, as the kernel adds them up. -/
def sumA (x1 : Vec Ideal S1x8192x128 .bf16) (x2 : Vec Ideal S1x128x8192 .bf16) (q : Vec Ideal S128x2048 .bf16) (a : ℕ)
    (d : Fin 128) (n : Fin 2048) : EReal :=
  ∑ j ∈ Finset.range a, vx x2 d j * ex x1 q n j + (dA x1 x2 q a 0 d n + dA x1 x2 q a 256 d n + dA x1 x2 q a 512 d n
    + dA x1 x2 q a 768 d n + dA x1 x2 q a 1024 d n + dA x1 x2 q a 1280 d n + dA x1 x2 q a 1536 d n + dA x1 x2 q a 1792 d n)

/-- One entry before the normalisation: the first softmax's average minus `la` times the second's. -/
def mixO (A0 A1 : Fin 128 → EReal) (L0 L1 la : EReal) (d : Fin 128) : EReal :=
  A0 d * Ideal.div 1 L0 - la * (A1 d * Ideal.div 1 L1)

/-- One entry of the result: the difference, normalised over its 128 channels, times the gain, the constant and the gate. -/
def finO (o : Fin 128 → EReal) (sub gate : EReal) (d : Fin 128) : EReal :=
  o d * Ideal.rsqrt (Ideal.div (∑ x, o x * o x) (Ideal.ofBits FTy.f32 1124073472#32) + Ideal.ofBits FTy.f32 897988541#32)
    * sub * Ideal.ofBits FTy.f32 1059388764#32 * gate

variable (c : Dev nD) (arg3 : Memref sig .tc .vmem S1x128x2048 .bf16) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S1x128x2048 .f32) (harg6 : arg6.IsWhole) (arg7 : Memref sig .tc .vmem S128x2048 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128x2048 .bf16) (harg12 : arg12.IsWhole) (arg13 : Memref sig .tc .vmem S128x2048 .f32) (harg13 : arg13.IsWhole) (arg14 : Memref sig .tc .vmem S128x2048 .f32) (harg14 : arg14.IsWhole)
  (x0 : Vec Ideal S1x128x2048 .bf16) (x1 : Vec Ideal S1x8192x128 .bf16) (x2 : Vec Ideal S1x128x8192 .bf16) (x3 : Vec Ideal S1x128x2048 .f32) (x4 : Vec Ideal S128x2048 .f32) (x5 x6 x7 x8 : Vec Ideal S1x64 .f32)

/-- The loop over the tiles on the query's own tile makes no trip: the diagonal is written out. -/
theorem st2_zero : (st_k0_t2 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r c arg3 harg3 x0) (kernelRun0_A.sl.r_1 c arg3 harg3 x0) (kernelRun0_A.sl.v29 i) kernelRun0_A.sl.cst_17 (kernelRun0_A.sl.v43 i) (harg4.unread x1) (harg5.unread x2) (arg13.view.writes (Elt Ideal) arg13.view.junk ((st_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r c arg3 harg3 x0) (kernelRun0_A.sl.r_1 c arg3 harg3 x0) (kernelRun0_A.sl.v29 i) kernelRun0_A.sl.cst_17 (harg4.unread x1) (harg5.unread x2) (arg13.view.writes (Elt Ideal) arg13.view.junk kernelRun0_A.sl.HS0_1) (arg14.view.writes (Elt Ideal) arg14.view.junk kernelRun0_A.sl.HS1_1) (k0_pay65, k0_pay65) (Scf.trips (k0_t1_loop i).lb (k0_t1_loop i).ub (k0_t1_loop i).st)).2.1 ++ kernelRun0_A.sl.HS0_1)) (arg14.view.writes (Elt Ideal) arg14.view.junk ((st_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r c arg3 harg3 x0) (kernelRun0_A.sl.r_1 c arg3 harg3 x0) (kernelRun0_A.sl.v29 i) kernelRun0_A.sl.cst_17 (harg4.unread x1) (harg5.unread x2) (arg13.view.writes (Elt Ideal) arg13.view.junk kernelRun0_A.sl.HS0_1) (arg14.view.writes (Elt Ideal) arg14.view.junk kernelRun0_A.sl.HS1_1) (k0_pay65, k0_pay65) (Scf.trips (k0_t1_loop i).lb (k0_t1_loop i).ub (k0_t1_loop i).st)).2.2 ++ kernelRun0_A.sl.HS1_1)) ((st_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r c arg3 harg3 x0) (kernelRun0_A.sl.r_1 c arg3 harg3 x0) (kernelRun0_A.sl.v29 i) kernelRun0_A.sl.cst_17 (harg4.unread x1) (harg5.unread x2) (arg13.view.writes (Elt Ideal) arg13.view.junk kernelRun0_A.sl.HS0_1) (arg14.view.writes (Elt Ideal) arg14.view.junk kernelRun0_A.sl.HS1_1) (k0_pay65, k0_pay65) (Scf.trips (k0_t1_loop i).lb (k0_t1_loop i).ub (k0_t1_loop i).st)).1.1, (st_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r c arg3 harg3 x0) (kernelRun0_A.sl.r_1 c arg3 harg3 x0) (kernelRun0_A.sl.v29 i) kernelRun0_A.sl.cst_17 (harg4.unread x1) (harg5.unread x2) (arg13.view.writes (Elt Ideal) arg13.view.junk kernelRun0_A.sl.HS0_1) (arg14.view.writes (Elt Ideal) arg14.view.junk kernelRun0_A.sl.HS1_1) (k0_pay65, k0_pay65) (Scf.trips (k0_t1_loop i).lb (k0_t1_loop i).ub (k0_t1_loop i).st)).1.2) (Scf.trips (k0_t2_loop i).lb (k0_t2_loop i).ub (k0_t2_loop i).st)) = (((st_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r c arg3 harg3 x0) (kernelRun0_A.sl.r_1 c arg3 harg3 x0) (kernelRun0_A.sl.v29 i) kernelRun0_A.sl.cst_17 (harg4.unread x1) (harg5.unread x2) (arg13.view.writes (Elt Ideal) arg13.view.junk kernelRun0_A.sl.HS0_1) (arg14.view.writes (Elt Ideal) arg14.view.junk kernelRun0_A.sl.HS1_1) (k0_pay65, k0_pay65) (Scf.trips (k0_t1_loop i).lb (k0_t1_loop i).ub (k0_t1_loop i).st)).1.1, (st_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r c arg3 harg3 x0) (kernelRun0_A.sl.r_1 c arg3 harg3 x0) (kernelRun0_A.sl.v29 i) kernelRun0_A.sl.cst_17 (harg4.unread x1) (harg5.unread x2) (arg13.view.writes (Elt Ideal) arg13.view.junk kernelRun0_A.sl.HS0_1) (arg14.view.writes (Elt Ideal) arg14.view.junk kernelRun0_A.sl.HS1_1) (k0_pay65, k0_pay65) (Scf.trips (k0_t1_loop i).lb (k0_t1_loop i).ub (k0_t1_loop i).st)).1.2), ([], [])) := by
  rw [show Scf.trips (k0_t2_loop i).lb (k0_t2_loop i).ub (k0_t2_loop i).st = 0 from trips_t2 i]
  rfl

/-- The weights of the earlier tiles, first half of the channels. -/
theorem carry_l (n : Fin 2048) : kernelRun0_A.sl.r_3 c i arg3 harg3 arg4 harg4 arg5 harg5 arg6 harg6 arg7 harg7 arg8 harg8 arg9 harg9 arg10 harg10 arg11 harg11 arg12 harg12 arg13 harg13 arg14 harg14 x0 x1 x2 (ix2 0 n)
    = ∑ j ∈ Finset.range (2048 * (i 2).val), ex x1 (kernelRun0_A.sl.r c arg3 harg3 x0) n j := by
  unfold kernelRun0_A.sl.r_3
  rw [st2_zero, show Scf.trips (k0_t1_loop i).lb (k0_t1_loop i).ub (k0_t1_loop i).st = (i 2).val from trips_t1 i]
  exact (loop_inv c i arg3 harg3 arg4 harg4 arg5 harg5 arg6 harg6 arg7 harg7 arg8 harg8 arg9 harg9 arg10 harg10 arg11 harg11 arg12 harg12 arg13 harg13 arg14 harg14 x1 x2 _ _ _ _ _ _ (trips_t1 i).ge).1 n

/-- The weights of the earlier tiles, second half of the channels. -/
theorem carry_l' (n : Fin 2048) : kernelRun0_A.sl.r_4 c i arg3 harg3 arg4 harg4 arg5 harg5 arg6 harg6 arg7 harg7 arg8 harg8 arg9 harg9 arg10 harg10 arg11 harg11 arg12 harg12 arg13 harg13 arg14 harg14 x0 x1 x2 (ix2 0 n)
    = ∑ j ∈ Finset.range (2048 * (i 2).val), ex x1 (kernelRun0_A.sl.r_1 c arg3 harg3 x0) n j := by
  unfold kernelRun0_A.sl.r_4
  rw [st2_zero, show Scf.trips (k0_t1_loop i).lb (k0_t1_loop i).ub (k0_t1_loop i).st = (i 2).val from trips_t1 i]
  exact (loop_inv c i arg3 harg3 arg4 harg4 arg5 harg5 arg6 harg6 arg7 harg7 arg8 harg8 arg9 harg9 arg10 harg10 arg11 harg11 arg12 harg12 arg13 harg13 arg14 harg14 x1 x2 _ _ _ _ _ _ (trips_t1 i).ge).2.1 n

/-- The weighted values of the earlier tiles, first half, read back from the accumulator. -/
theorem carry_a (o : ℕ) (h : ∀ a, (![0, o] : Fin 2 → ℕ) a + S128x256.size a ≤ S128x2048.size a) (d : Fin 128) (x : Fin 256) :
    arg13.view.readCov ((st_k0_t2 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r c arg3 harg3 x0) (kernelRun0_A.sl.r_1 c arg3 harg3 x0) (kernelRun0_A.sl.v29 i) kernelRun0_A.sl.cst_17 (kernelRun0_A.sl.v43 i) (harg4.unread x1) (harg5.unread x2) (arg13.view.writes (Elt Ideal) arg13.view.junk ((st_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r c arg3 harg3 x0) (kernelRun0_A.sl.r_1 c arg3 harg3 x0) (kernelRun0_A.sl.v29 i) kernelRun0_A.sl.cst_17 (harg4.unread x1) (harg5.unread x2) (arg13.view.writes (Elt Ideal) arg13.view.junk kernelRun0_A.sl.HS0_1) (arg14.view.writes (Elt Ideal) arg14.view.junk kernelRun0_A.sl.HS1_1) (k0_pay65, k0_pay65) (Scf.trips (k0_t1_loop i).lb (k0_t1_loop i).ub (k0_t1_loop i).st)).2.1 ++ kernelRun0_A.sl.HS0_1)) (arg14.view.writes (Elt Ideal) arg14.view.junk ((st_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r c arg3 harg3 x0) (kernelRun0_A.sl.r_1 c arg3 harg3 x0) (kernelRun0_A.sl.v29 i) kernelRun0_A.sl.cst_17 (harg4.unread x1) (harg5.unread x2) (arg13.view.writes (Elt Ideal) arg13.view.junk kernelRun0_A.sl.HS0_1) (arg14.view.writes (Elt Ideal) arg14.view.junk kernelRun0_A.sl.HS1_1) (k0_pay65, k0_pay65) (Scf.trips (k0_t1_loop i).lb (k0_t1_loop i).ub (k0_t1_loop i).st)).2.2 ++ kernelRun0_A.sl.HS1_1)) ((st_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r c arg3 harg3 x0) (kernelRun0_A.sl.r_1 c arg3 harg3 x0) (kernelRun0_A.sl.v29 i) kernelRun0_A.sl.cst_17 (harg4.unread x1) (harg5.unread x2) (arg13.view.writes (Elt Ideal) arg13.view.junk kernelRun0_A.sl.HS0_1) (arg14.view.writes (Elt Ideal) arg14.view.junk kernelRun0_A.sl.HS1_1) (k0_pay65, k0_pay65) (Scf.trips (k0_t1_loop i).lb (k0_t1_loop i).ub (k0_t1_loop i).st)).1.1, (st_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r c arg3 harg3 x0) (kernelRun0_A.sl.r_1 c arg3 harg3 x0) (kernelRun0_A.sl.v29 i) kernelRun0_A.sl.cst_17 (harg4.unread x1) (harg5.unread x2) (arg13.view.writes (Elt Ideal) arg13.view.junk kernelRun0_A.sl.HS0_1) (arg14.view.writes (Elt Ideal) arg14.view.junk kernelRun0_A.sl.HS1_1) (k0_pay65, k0_pay65) (Scf.trips (k0_t1_loop i).lb (k0_t1_loop i).ub (k0_t1_loop i).st)).1.2) (Scf.trips (k0_t2_loop i).lb (k0_t2_loop i).ub (k0_t2_loop i).st)).2.1 ++ ((st_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r c arg3 harg3 x0) (kernelRun0_A.sl.r_1 c arg3 harg3 x0) (kernelRun0_A.sl.v29 i) kernelRun0_A.sl.cst_17 (harg4.unread x1) (harg5.unread x2) (arg13.view.writes (Elt Ideal) arg13.view.junk kernelRun0_A.sl.HS0_1) (arg14.view.writes (Elt Ideal) arg14.view.junk kernelRun0_A.sl.HS1_1) (k0_pay65, k0_pay65) (Scf.trips (k0_t1_loop i).lb (k0_t1_loop i).ub (k0_t1_loop i).st)).2.1 ++ kernelRun0_A.sl.HS0_1)) (Rect.unit (s := S128x2048) ![0, o] S128x256.size h).toLoadRect (ix2 d x)
    = ∑ j ∈ Finset.range (2048 * (i 2).val), vx x2 d j * ex x1 (kernelRun0_A.sl.r c arg3 harg3 x0)
        ⟨o + x.val, by have := h 1; simp at this; omega⟩ j := by
  rw [st2_zero, View.readCov_eq_canon', List.nil_append,
    show Scf.trips (k0_t1_loop i).lb (k0_t1_loop i).ub (k0_t1_loop i).st = (i 2).val from trips_t1 i]
  rw [← (loop_inv c i arg3 harg3 arg4 harg4 arg5 harg5 arg6 harg6 arg7 harg7 arg8 harg8 arg9 harg9 arg10 harg10 arg11 harg11 arg12 harg12 arg13 harg13 arg14 harg14 x1 x2 (BitVec.ofNat 32 (i 2).val) (kernelRun0_A.sl.r c arg3 harg3 x0) (kernelRun0_A.sl.r_1 c arg3 harg3 x0) (kernelRun0_A.sl.v29 i) kernelRun0_A.sl.cst_17 _ (trips_t1 i).ge).2.2.1 d ⟨o + x.val, by have := h 1; simp at this; omega⟩]
  refine congrArg (View.canon _) ?_
  funext a
  apply Fin.ext
  match a with
  | 0 => show 0 + 1 * d.val = d.val; omega
  | 1 => show o + 1 * x.val = o + x.val; omega

/-- The weighted values of the earlier tiles, second half, read back from the accumulator. -/
theorem carry_a' (o : ℕ) (h : ∀ a, (![0, o] : Fin 2 → ℕ) a + S128x256.size a ≤ S128x2048.size a) (d : Fin 128) (x : Fin 256) :
    arg14.view.readCov ((st_k0_t2 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r c arg3 harg3 x0) (kernelRun0_A.sl.r_1 c arg3 harg3 x0) (kernelRun0_A.sl.v29 i) kernelRun0_A.sl.cst_17 (kernelRun0_A.sl.v43 i) (harg4.unread x1) (harg5.unread x2) (arg13.view.writes (Elt Ideal) arg13.view.junk ((st_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r c arg3 harg3 x0) (kernelRun0_A.sl.r_1 c arg3 harg3 x0) (kernelRun0_A.sl.v29 i) kernelRun0_A.sl.cst_17 (harg4.unread x1) (harg5.unread x2) (arg13.view.writes (Elt Ideal) arg13.view.junk kernelRun0_A.sl.HS0_1) (arg14.view.writes (Elt Ideal) arg14.view.junk kernelRun0_A.sl.HS1_1) (k0_pay65, k0_pay65) (Scf.trips (k0_t1_loop i).lb (k0_t1_loop i).ub (k0_t1_loop i).st)).2.1 ++ kernelRun0_A.sl.HS0_1)) (arg14.view.writes (Elt Ideal) arg14.view.junk ((st_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r c arg3 harg3 x0) (kernelRun0_A.sl.r_1 c arg3 harg3 x0) (kernelRun0_A.sl.v29 i) kernelRun0_A.sl.cst_17 (harg4.unread x1) (harg5.unread x2) (arg13.view.writes (Elt Ideal) arg13.view.junk kernelRun0_A.sl.HS0_1) (arg14.view.writes (Elt Ideal) arg14.view.junk kernelRun0_A.sl.HS1_1) (k0_pay65, k0_pay65) (Scf.trips (k0_t1_loop i).lb (k0_t1_loop i).ub (k0_t1_loop i).st)).2.2 ++ kernelRun0_A.sl.HS1_1)) ((st_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r c arg3 harg3 x0) (kernelRun0_A.sl.r_1 c arg3 harg3 x0) (kernelRun0_A.sl.v29 i) kernelRun0_A.sl.cst_17 (harg4.unread x1) (harg5.unread x2) (arg13.view.writes (Elt Ideal) arg13.view.junk kernelRun0_A.sl.HS0_1) (arg14.view.writes (Elt Ideal) arg14.view.junk kernelRun0_A.sl.HS1_1) (k0_pay65, k0_pay65) (Scf.trips (k0_t1_loop i).lb (k0_t1_loop i).ub (k0_t1_loop i).st)).1.1, (st_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r c arg3 harg3 x0) (kernelRun0_A.sl.r_1 c arg3 harg3 x0) (kernelRun0_A.sl.v29 i) kernelRun0_A.sl.cst_17 (harg4.unread x1) (harg5.unread x2) (arg13.view.writes (Elt Ideal) arg13.view.junk kernelRun0_A.sl.HS0_1) (arg14.view.writes (Elt Ideal) arg14.view.junk kernelRun0_A.sl.HS1_1) (k0_pay65, k0_pay65) (Scf.trips (k0_t1_loop i).lb (k0_t1_loop i).ub (k0_t1_loop i).st)).1.2) (Scf.trips (k0_t2_loop i).lb (k0_t2_loop i).ub (k0_t2_loop i).st)).2.2 ++ ((st_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (kernelRun0_A.sl.r c arg3 harg3 x0) (kernelRun0_A.sl.r_1 c arg3 harg3 x0) (kernelRun0_A.sl.v29 i) kernelRun0_A.sl.cst_17 (harg4.unread x1) (harg5.unread x2) (arg13.view.writes (Elt Ideal) arg13.view.junk kernelRun0_A.sl.HS0_1) (arg14.view.writes (Elt Ideal) arg14.view.junk kernelRun0_A.sl.HS1_1) (k0_pay65, k0_pay65) (Scf.trips (k0_t1_loop i).lb (k0_t1_loop i).ub (k0_t1_loop i).st)).2.2 ++ kernelRun0_A.sl.HS1_1)) (Rect.unit (s := S128x2048) ![0, o] S128x256.size h).toLoadRect (ix2 d x)
    = ∑ j ∈ Finset.range (2048 * (i 2).val), vx x2 d j * ex x1 (kernelRun0_A.sl.r_1 c arg3 harg3 x0)
        ⟨o + x.val, by have := h 1; simp at this; omega⟩ j := by
  rw [st2_zero, View.readCov_eq_canon', List.nil_append,
    show Scf.trips (k0_t1_loop i).lb (k0_t1_loop i).ub (k0_t1_loop i).st = (i 2).val from trips_t1 i]
  rw [← (loop_inv c i arg3 harg3 arg4 harg4 arg5 harg5 arg6 harg6 arg7 harg7 arg8 harg8 arg9 harg9 arg10 harg10 arg11 harg11 arg12 harg12 arg13 harg13 arg14 harg14 x1 x2 (BitVec.ofNat 32 (i 2).val) (kernelRun0_A.sl.r c arg3 harg3 x0) (kernelRun0_A.sl.r_1 c arg3 harg3 x0) (kernelRun0_A.sl.v29 i) kernelRun0_A.sl.cst_17 _ (trips_t1 i).ge).2.2.2 d ⟨o + x.val, by have := h 1; simp at this; omega⟩]
  refine congrArg (View.canon _) ?_
  funext a
  apply Fin.ext
  match a with
  | 0 => show 0 + 1 * d.val = d.val; omega
  | 1 => show o + 1 * x.val = o + x.val; omega

/-- The value of one entry of the kernel's result block: channel `d`, query `n` of the tile. -/
def outV (d : Fin 128) (n : Fin 2048) : EReal :=
  finO (mixO (fun d => sumA x1 x2 (kernelRun0_A.sl.r c arg3 harg3 x0) (2048 * (i 2).val) d n)
    (fun d => sumA x1 x2 (kernelRun0_A.sl.r_1 c arg3 harg3 x0) (2048 * (i 2).val) d n)
    (sumL x1 (kernelRun0_A.sl.r c arg3 harg3 x0) (2048 * (i 2).val) n)
    (sumL x1 (kernelRun0_A.sl.r_1 c arg3 harg3 x0) (2048 * (i 2).val) n)
    (kernelRun0_A.sl.r_2 c arg8 harg8 arg9 harg9 arg10 harg10 arg11 harg11 x5 x6 x7 x8 (ix2 0 0)))
    (x4 (ix2 d n)) (x3 (ix3 0 d n)) d

end Cert.Proof.Attn
-- ==== Proof.RowsLow.lean ====
module
public import proofs.«01_k».proof.Proof.Block
@[expose] public section
noncomputable section
open Idealize.ShloMosaic Idealize.ShloMosaic.TcCoe Idealize.SL.Sem
namespace Cert.Proof.Attn
open Cert.KernelIdeal Cert.KernelIdeal.Gen
variable (c : Dev nD) (i : grid0.Coords) (arg3 : Memref sig .tc .vmem S1x128x2048 .bf16) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S1x128x2048 .f32) (harg6 : arg6.IsWhole) (arg7 : Memref sig .tc .vmem S128x2048 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128x2048 .bf16) (harg12 : arg12.IsWhole) (arg13 : Memref sig .tc .vmem S128x2048 .f32) (harg13 : arg13.IsWhole) (arg14 : Memref sig .tc .vmem S128x2048 .f32) (harg14 : arg14.IsWhole)
  (x0 : Vec Ideal S1x128x2048 .bf16) (x1 : Vec Ideal S1x8192x128 .bf16) (x2 : Vec Ideal S1x128x8192 .bf16) (x3 : Vec Ideal S1x128x2048 .f32) (x4 : Vec Ideal S128x2048 .f32) (x5 x6 x7 x8 : Vec Ideal S1x64 .f32)

/-- What the kernel stores for the queries 0 to 255 of its tile. -/
theorem seg0 (d : Fin 128) (n : Fin 2048) (y : (Rect.unit (s := S1x128x2048) ![0, 0, 0] S1x128x256.size inb_S1x128x2048_S1x128x256_0_0_0).shape.Idx)
    (hy : ∀ a, ((ix3 (0 : Fin 1) d n : S1x128x2048.Idx) a : ℕ) = (![0, 0, 0] : Fin 3 → ℕ) a + y a) :
    (k0_pay187 (kernelRun0_A.sl.r_46 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)) y = outV i c arg3 harg3 arg8 harg8 arg9 harg9 arg10 harg10 arg11 harg11 x0 x1 x2 x3 x4 x5 x6 x7 x8 d n := by
  unfold kernelRun0_A.sl.r_46 kernelRun0_A.sl.r_45 kernelRun0_A.sl.r_30 kernelRun0_A.sl.r_29 kernelRun0_A.sl.r_12 kernelRun0_A.sl.r_11 kernelRun0_A.sl.r_10 kernelRun0_A.sl.r_9 kernelRun0_A.sl.r_6 kernelRun0_A.sl.r_5
  simp only [View.readAt_eq_ld, harg4.read_unread, harg5.read_unread, harg6.read_unread, harg7.read_unread]
  obtain ⟨y0, y1, y2, rfl⟩ : ∃ a b e, y = (ix3 a b e : S1x128x256.Idx) := ⟨y 0, y 1, y 2, (ix3_eta y).symm⟩
  have h1 : d = y1 := Fin.ext ((hy 1).trans (Nat.zero_add _))
  have h2 : n = ⟨0 + y2.val, by omega⟩ := Fin.ext (hy 2)
  subst h1; subst h2
  unfold_payloads
  pointwise
  have ra : ∀ (d : Fin 128) (x : Fin 256), kernelRun0_A.sl.v623 c i arg3 harg3 arg4 harg4 arg5 harg5 arg6 harg6 arg7 harg7 arg8 harg8 arg9 harg9 arg10 harg10 arg11 harg11 arg12 harg12 arg13 harg13 arg14 harg14 x0 x1 x2 (ix2 d x) = _ :=
    fun d x => carry_a i c arg3 harg3 arg4 harg4 arg5 harg5 arg6 harg6 arg7 harg7 arg8 harg8 arg9 harg9 arg10 harg10 arg11 harg11 arg12 harg12 arg13 harg13 arg14 harg14 x0 x1 x2 0 inb_S128x2048_S128x256_0_0 d x
  have ra' : ∀ (d : Fin 128) (x : Fin 256), kernelRun0_A.sl.v631 c i arg3 harg3 arg4 harg4 arg5 harg5 arg6 harg6 arg7 harg7 arg8 harg8 arg9 harg9 arg10 harg10 arg11 harg11 arg12 harg12 arg13 harg13 arg14 harg14 x0 x1 x2 (ix2 d x) = _ :=
    fun d x => carry_a' i c arg3 harg3 arg4 harg4 arg5 harg5 arg6 harg6 arg7 harg7 arg8 harg8 arg9 harg9 arg10 harg10 arg11 harg11 arg12 harg12 arg13 harg13 arg14 harg14 x0 x1 x2 0 inb_S128x2048_S128x256_0_0 d x
  have rz : kernelRun0_A.sl.cst_188 (F := Ideal) = 0 := Ideal.ofBits_zero_f32
  simp only [ra, ra',  carry_l, carry_l', mask0, select_dec,
    fun a => key_eq i x1 0 a (by decide), fun a => value_eq i x2 0 a (by decide),
    rz, mul_ite, mul_zero]
  unfold outV finO mixO sumA sumL
  simp only [dA_zero x1 x2 _ _ 256 _ ⟨y2.val, by omega⟩ (by show (y2.val) / 64 < 256 / 64; omega), dL_zero x1 _ _ 256 ⟨y2.val, by omega⟩ (by show (y2.val) / 64 < 256 / 64; omega), dA_zero x1 x2 _ _ 512 _ ⟨y2.val, by omega⟩ (by show (y2.val) / 64 < 512 / 64; omega), dL_zero x1 _ _ 512 ⟨y2.val, by omega⟩ (by show (y2.val) / 64 < 512 / 64; omega), dA_zero x1 x2 _ _ 768 _ ⟨y2.val, by omega⟩ (by show (y2.val) / 64 < 768 / 64; omega), dL_zero x1 _ _ 768 ⟨y2.val, by omega⟩ (by show (y2.val) / 64 < 768 / 64; omega), dA_zero x1 x2 _ _ 1024 _ ⟨y2.val, by omega⟩ (by show (y2.val) / 64 < 1024 / 64; omega), dL_zero x1 _ _ 1024 ⟨y2.val, by omega⟩ (by show (y2.val) / 64 < 1024 / 64; omega), dA_zero x1 x2 _ _ 1280 _ ⟨y2.val, by omega⟩ (by show (y2.val) / 64 < 1280 / 64; omega), dL_zero x1 _ _ 1280 ⟨y2.val, by omega⟩ (by show (y2.val) / 64 < 1280 / 64; omega), dA_zero x1 x2 _ _ 1536 _ ⟨y2.val, by omega⟩ (by show (y2.val) / 64 < 1536 / 64; omega), dL_zero x1 _ _ 1536 ⟨y2.val, by omega⟩ (by show (y2.val) / 64 < 1536 / 64; omega), dA_zero x1 x2 _ _ 1792 _ ⟨y2.val, by omega⟩ (by show (y2.val) / 64 < 1792 / 64; omega), dL_zero x1 _ _ 1792 ⟨y2.val, by omega⟩ (by show (y2.val) / 64 < 1792 / 64; omega), add_zero]
  unfold dA dL ex
  simp only [← Nat.add_assoc, Nat.reduceAdd, Nat.zero_add]

/-- What the kernel stores for the queries 256 to 511 of its tile. -/
theorem seg1 (d : Fin 128) (n : Fin 2048) (y : (Rect.unit (s := S1x128x2048) ![0, 0, 256] S1x128x256.size inb_S1x128x2048_S1x128x256_0_0_256).shape.Idx)
    (hy : ∀ a, ((ix3 (0 : Fin 1) d n : S1x128x2048.Idx) a : ℕ) = (![0, 0, 256] : Fin 3 → ℕ) a + y a) :
    (k0_pay226 (kernelRun0_A.sl.r_79 c i arg3 harg3 arg4 harg4 arg5 harg5 arg6 harg6 arg7 harg7 arg8 harg8 arg9 harg9 arg10 harg10 arg11 harg11 arg12 harg12 arg13 harg13 arg14 harg14 x0 x1 x2 x4 x5 x6 x7 x8) (View.readAt (Elt Idealize.ShloMosaic.Ideal) arg6.view (Rect.unit (s := S1x128x2048) ![0, 0, 256] S1x128x256.size inb_S1x128x2048_S1x128x256_0_0_256).toLoadRect (harg6.unread x3))) y = outV i c arg3 harg3 arg8 harg8 arg9 harg9 arg10 harg10 arg11 harg11 x0 x1 x2 x3 x4 x5 x6 x7 x8 d n := by
  unfold kernelRun0_A.sl.r_79 kernelRun0_A.sl.r_78 kernelRun0_A.sl.r_77 kernelRun0_A.sl.r_64 kernelRun0_A.sl.r_63 kernelRun0_A.sl.r_48 kernelRun0_A.sl.r_47 kernelRun0_A.sl.r_32 kernelRun0_A.sl.r_31 kernelRun0_A.sl.r_28 kernelRun0_A.sl.r_27 kernelRun0_A.sl.r_14 kernelRun0_A.sl.r_13 kernelRun0_A.sl.r_11 kernelRun0_A.sl.r_10 kernelRun0_A.sl.r_9 kernelRun0_A.sl.r_6 kernelRun0_A.sl.r_5 kernelRun0_A.sl.v173 kernelRun0_A.sl.v172 kernelRun0_A.sl.v116 kernelRun0_A.sl.v113
  simp only [View.readAt_eq_ld, harg4.read_unread, harg5.read_unread, harg6.read_unread, harg7.read_unread]
  obtain ⟨y0, y1, y2, rfl⟩ : ∃ a b e, y = (ix3 a b e : S1x128x256.Idx) := ⟨y 0, y 1, y 2, (ix3_eta y).symm⟩
  have h1 : d = y1 := Fin.ext ((hy 1).trans (Nat.zero_add _))
  have h2 : n = ⟨256 + y2.val, by omega⟩ := Fin.ext (hy 2)
  subst h1; subst h2
  unfold_payloads
  pointwise
  have ra : ∀ (d : Fin 128) (x : Fin 256), kernelRun0_A.sl.v717 c i arg3 harg3 arg4 harg4 arg5 harg5 arg6 harg6 arg7 harg7 arg8 harg8 arg9 harg9 arg10 harg10 arg11 harg11 arg12 harg12 arg13 harg13 arg14 harg14 x0 x1 x2 (ix2 d x) = _ :=
    fun d x => carry_a i c arg3 harg3 arg4 harg4 arg5 harg5 arg6 harg6 arg7 harg7 arg8 harg8 arg9 harg9 arg10 harg10 arg11 harg11 arg12 harg12 arg13 harg13 arg14 harg14 x0 x1 x2 256 inb_S128x2048_S128x256_0_256 d x
  have ra' : ∀ (d : Fin 128) (x : Fin 256), kernelRun0_A.sl.v727 c i arg3 harg3 arg4 harg4 arg5 harg5 arg6 harg6 arg7 harg7 arg8 harg8 arg9 harg9 arg10 harg10 arg11 harg11 arg12 harg12 arg13 harg13 arg14 harg14 x0 x1 x2 (ix2 d x) = _ :=
    fun d x => carry_a' i c arg3 harg3 arg4 harg4 arg5 harg5 arg6 harg6 arg7 harg7 arg8 harg8 arg9 harg9 arg10 harg10 arg11 harg11 arg12 harg12 arg13 harg13 arg14 harg14 x0 x1 x2 256 inb_S128x2048_S128x256_0_256 d x
  have rz : kernelRun0_A.sl.cst_188 (F := Ideal) = 0 := Ideal.ofBits_zero_f32
  simp only [ra, ra',  carry_l, carry_l', mask0, mask1, select_dec,
    fun a => key_eq i x1 0 a (by decide), fun a => value_eq i x2 0 a (by decide),
    fun a => key_eq i x1 256 a (by decide), fun a => value_eq i x2 256 a (by decide),
    rz, mul_ite, mul_zero]
  unfold outV finO mixO sumA sumL
  simp only [dA_zero x1 x2 _ _ 512 _ ⟨256 + y2.val, by omega⟩ (by show (256 + y2.val) / 64 < 512 / 64; omega), dL_zero x1 _ _ 512 ⟨256 + y2.val, by omega⟩ (by show (256 + y2.val) / 64 < 512 / 64; omega), dA_zero x1 x2 _ _ 768 _ ⟨256 + y2.val, by omega⟩ (by show (256 + y2.val) / 64 < 768 / 64; omega), dL_zero x1 _ _ 768 ⟨256 + y2.val, by omega⟩ (by show (256 + y2.val) / 64 < 768 / 64; omega), dA_zero x1 x2 _ _ 1024 _ ⟨256 + y2.val, by omega⟩ (by show (256 + y2.val) / 64 < 1024 / 64; omega), dL_zero x1 _ _ 1024 ⟨256 + y2.val, by omega⟩ (by show (256 + y2.val) / 64 < 1024 / 64; omega), dA_zero x1 x2 _ _ 1280 _ ⟨256 + y2.val, by omega⟩ (by show (256 + y2.val) / 64 < 1280 / 64; omega), dL_zero x1 _ _ 1280 ⟨256 + y2.val, by omega⟩ (by show (256 + y2.val) / 64 < 1280 / 64; omega), dA_zero x1 x2 _ _ 1536 _ ⟨256 + y2.val, by omega⟩ (by show (256 + y2.val) / 64 < 1536 / 64; omega), dL_zero x1 _ _ 1536 ⟨256 + y2.val, by omega⟩ (by show (256 + y2.val) / 64 < 1536 / 64; omega), dA_zero x1 x2 _ _ 1792 _ ⟨256 + y2.val, by omega⟩ (by show (256 + y2.val) / 64 < 1792 / 64; omega), dL_zero x1 _ _ 1792 ⟨256 + y2.val, by omega⟩ (by show (256 + y2.val) / 64 < 1792 / 64; omega), add_zero]
  unfold dA dL ex
  simp only [← Nat.add_assoc, Nat.reduceAdd, Nat.zero_add]

/-- What the kernel stores for the queries 512 to 767 of its tile. -/
theorem seg2 (d : Fin 128) (n : Fin 2048) (y : (Rect.unit (s := S1x128x2048) ![0, 0, 512] S1x128x256.size inb_S1x128x2048_S1x128x256_0_0_512).shape.Idx)
    (hy : ∀ a, ((ix3 (0 : Fin 1) d n : S1x128x2048.Idx) a : ℕ) = (![0, 0, 512] : Fin 3 → ℕ) a + y a) :
    (k0_pay259 (kernelRun0_A.sl.r_106 c i arg3 harg3 arg4 harg4 arg5 harg5 arg6 harg6 arg7 harg7 arg8 harg8 arg9 harg9 arg10 harg10 arg11 harg11 arg12 harg12 arg13 harg13 arg14 harg14 x0 x1 x2 x5 x6 x7 x8) (View.readAt (Elt Idealize.ShloMosaic.Ideal) arg7.view (Rect.unit (s := S128x2048) ![0, 512] S128x256.size inb_S128x2048_S128x256_0_512).toLoadRect (harg7.unread x4)) (View.readAt (Elt Idealize.ShloMosaic.Ideal) arg6.view (Rect.unit (s := S1x128x2048) ![0, 0, 512] S1x128x256.size inb_S1x128x2048_S1x128x256_0_0_512).toLoadRect (harg6.unread x3))) y = outV i c arg3 harg3 arg8 harg8 arg9 harg9 arg10 harg10 arg11 harg11 x0 x1 x2 x3 x4 x5 x6 x7 x8 d n := by
  unfold kernelRun0_A.sl.r_106 kernelRun0_A.sl.r_95 kernelRun0_A.sl.r_94 kernelRun0_A.sl.r_81 kernelRun0_A.sl.r_80 kernelRun0_A.sl.r_66 kernelRun0_A.sl.r_65 kernelRun0_A.sl.r_62 kernelRun0_A.sl.r_61 kernelRun0_A.sl.r_50 kernelRun0_A.sl.r_49 kernelRun0_A.sl.r_34 kernelRun0_A.sl.r_33 kernelRun0_A.sl.r_28 kernelRun0_A.sl.r_27 kernelRun0_A.sl.r_16 kernelRun0_A.sl.r_15 kernelRun0_A.sl.r_11 kernelRun0_A.sl.r_10 kernelRun0_A.sl.r_9 kernelRun0_A.sl.r_6 kernelRun0_A.sl.r_5 kernelRun0_A.sl.v238 kernelRun0_A.sl.v237 kernelRun0_A.sl.v181 kernelRun0_A.sl.v178 kernelRun0_A.sl.v173 kernelRun0_A.sl.v172 kernelRun0_A.sl.v116 kernelRun0_A.sl.v113
  simp only [View.readAt_eq_ld, harg4.read_unread, harg5.read_unread, harg6.read_unread, harg7.read_unread]
  obtain ⟨y0, y1, y2, rfl⟩ : ∃ a b e, y = (ix3 a b e : S1x128x256.Idx) := ⟨y 0, y 1, y 2, (ix3_eta y).symm⟩
  have h1 : d = y1 := Fin.ext ((hy 1).trans (Nat.zero_add _))
  have h2 : n = ⟨512 + y2.val, by omega⟩ := Fin.ext (hy 2)
  subst h1; subst h2
  unfold_payloads
  pointwise
  have ra : ∀ (d : Fin 128) (x : Fin 256), kernelRun0_A.sl.v811 c i arg3 harg3 arg4 harg4 arg5 harg5 arg6 harg6 arg7 harg7 arg8 harg8 arg9 harg9 arg10 harg10 arg11 harg11 arg12 harg12 arg13 harg13 arg14 harg14 x0 x1 x2 (ix2 d x) = _ :=
    fun d x => carry_a i c arg3 harg3 arg4 harg4 arg5 harg5 arg6 harg6 arg7 harg7 arg8 harg8 arg9 harg9 arg10 harg10 arg11 harg11 arg12 harg12 arg13 harg13 arg14 harg14 x0 x1 x2 512 inb_S128x2048_S128x256_0_512 d x
  have ra' : ∀ (d : Fin 128) (x : Fin 256), kernelRun0_A.sl.v823 c i arg3 harg3 arg4 harg4 arg5 harg5 arg6 harg6 arg7 harg7 arg8 harg8 arg9 harg9 arg10 harg10 arg11 harg11 arg12 harg12 arg13 harg13 arg14 harg14 x0 x1 x2 (ix2 d x) = _ :=
    fun d x => carry_a' i c arg3 harg3 arg4 harg4 arg5 harg5 arg6 harg6 arg7 harg7 arg8 harg8 arg9 harg9 arg10 harg10 arg11 harg11 arg12 harg12 arg13 harg13 arg14 harg14 x0 x1 x2 512 inb_S128x2048_S128x256_0_512 d x
  have rz : kernelRun0_A.sl.cst_188 (F := Ideal) = 0 := Ideal.ofBits_zero_f32
  simp only [ra, ra',  carry_l, carry_l', mask0, mask1, mask2, select_dec,
    fun a => key_eq i x1 0 a (by decide), fun a => value_eq i x2 0 a (by decide),
    fun a => key_eq i x1 256 a (by decide), fun a => value_eq i x2 256 a (by decide),
    fun a => key_eq i x1 512 a (by decide), fun a => value_eq i x2 512 a (by decide),
    rz, mul_ite, mul_zero]
  unfold outV finO mixO sumA sumL
  simp only [dA_zero x1 x2 _ _ 768 _ ⟨512 + y2.val, by omega⟩ (by show (512 + y2.val) / 64 < 768 / 64; omega), dL_zero x1 _ _ 768 ⟨512 + y2.val, by omega⟩ (by show (512 + y2.val) / 64 < 768 / 64; omega), dA_zero x1 x2 _ _ 1024 _ ⟨512 + y2.val, by omega⟩ (by show (512 + y2.val) / 64 < 1024 / 64; omega), dL_zero x1 _ _ 1024 ⟨512 + y2.val, by omega⟩ (by show (512 + y2.val) / 64 < 1024 / 64; omega), dA_zero x1 x2 _ _ 1280 _ ⟨512 + y2.val, by omega⟩ (by show (512 + y2.val) / 64 < 1280 / 64; omega), dL_zero x1 _ _ 1280 ⟨512 + y2.val, by omega⟩ (by show (512 + y2.val) / 64 < 1280 / 64; omega), dA_zero x1 x2 _ _ 1536 _ ⟨512 + y2.val, by omega⟩ (by show (512 + y2.val) / 64 < 1536 / 64; omega), dL_zero x1 _ _ 1536 ⟨512 + y2.val, by omega⟩ (by show (512 + y2.val) / 64 < 1536 / 64; omega), dA_zero x1 x2 _ _ 1792 _ ⟨512 + y2.val, by omega⟩ (by show (512 + y2.val) / 64 < 1792 / 64; omega), dL_zero x1 _ _ 1792 ⟨512 + y2.val, by omega⟩ (by show (512 + y2.val) / 64 < 1792 / 64; omega), add_zero]
  unfold dA dL ex
  simp only [← Nat.add_assoc, Nat.reduceAdd, Nat.zero_add]

/-- What the kernel stores for the queries 768 to 1023 of its tile. -/
theorem seg3 (d : Fin 128) (n : Fin 2048) (y : (Rect.unit (s := S1x128x2048) ![0, 0, 768] S1x128x256.size inb_S1x128x2048_S1x128x256_0_0_768).shape.Idx)
    (hy : ∀ a, ((ix3 (0 : Fin 1) d n : S1x128x2048.Idx) a : ℕ) = (![0, 0, 768] : Fin 3 → ℕ) a + y a) :
    (k0_pay289 (kernelRun0_A.sl.r_131 c i arg3 harg3 arg4 harg4 arg5 harg5 arg6 harg6 arg7 harg7 arg8 harg8 arg9 harg9 arg10 harg10 arg11 harg11 arg12 harg12 arg13 harg13 arg14 harg14 x0 x1 x2 x5 x6 x7 x8) (kernelRun0_A.sl.r_132 c i arg3 harg3 arg4 harg4 arg5 harg5 arg6 harg6 arg7 harg7 arg8 harg8 arg9 harg9 arg10 harg10 arg11 harg11 arg12 harg12 arg13 harg13 arg14 harg14 x0 x1 x2 x5 x6 x7 x8) (View.readAt (Elt Idealize.ShloMosaic.Ideal) arg7.view (Rect.unit (s := S128x2048) ![0, 768] S128x256.size inb_S128x2048_S128x256_0_768).toLoadRect (harg7.unread x4)) (View.readAt (Elt Idealize.ShloMosaic.Ideal) arg6.view (Rect.unit (s := S1x128x2048) ![0, 0, 768] S1x128x256.size inb_S1x128x2048_S1x128x256_0_0_768).toLoadRect (harg6.unread x3))) y = outV i c arg3 harg3 arg8 harg8 arg9 harg9 arg10 harg10 arg11 harg11 x0 x1 x2 x3 x4 x5 x6 x7 x8 d n := by
  unfold kernelRun0_A.sl.r_132 kernelRun0_A.sl.r_131 kernelRun0_A.sl.r_122 kernelRun0_A.sl.r_121 kernelRun0_A.sl.r_109 kernelRun0_A.sl.r_108 kernelRun0_A.sl.r_97 kernelRun0_A.sl.r_96 kernelRun0_A.sl.r_93 kernelRun0_A.sl.r_92 kernelRun0_A.sl.r_83 kernelRun0_A.sl.r_82 kernelRun0_A.sl.r_68 kernelRun0_A.sl.r_67 kernelRun0_A.sl.r_62 kernelRun0_A.sl.r_61 kernelRun0_A.sl.r_52 kernelRun0_A.sl.r_51 kernelRun0_A.sl.r_36 kernelRun0_A.sl.r_35 kernelRun0_A.sl.r_28 kernelRun0_A.sl.r_27 kernelRun0_A.sl.r_18 kernelRun0_A.sl.r_17 kernelRun0_A.sl.r_11 kernelRun0_A.sl.r_10 kernelRun0_A.sl.r_9 kernelRun0_A.sl.r_6 kernelRun0_A.sl.r_5 kernelRun0_A.sl.v303 kernelRun0_A.sl.v302 kernelRun0_A.sl.v246 kernelRun0_A.sl.v243 kernelRun0_A.sl.v238 kernelRun0_A.sl.v237 kernelRun0_A.sl.v181 kernelRun0_A.sl.v178 kernelRun0_A.sl.v173 kernelRun0_A.sl.v172 kernelRun0_A.sl.v116 kernelRun0_A.sl.v113
  simp only [View.readAt_eq_ld, harg4.read_unread, harg5.read_unread, harg6.read_unread, harg7.read_unread]
  obtain ⟨y0, y1, y2, rfl⟩ : ∃ a b e, y = (ix3 a b e : S1x128x256.Idx) := ⟨y 0, y 1, y 2, (ix3_eta y).symm⟩
  have h1 : d = y1 := Fin.ext ((hy 1).trans (Nat.zero_add _))
  have h2 : n = ⟨768 + y2.val, by omega⟩ := Fin.ext (hy 2)
  subst h1; subst h2
  unfold_payloads
  pointwise
  have ra : ∀ (d : Fin 128) (x : Fin 256), kernelRun0_A.sl.v905 c i arg3 harg3 arg4 harg4 arg5 harg5 arg6 harg6 arg7 harg7 arg8 harg8 arg9 harg9 arg10 harg10 arg11 harg11 arg12 harg12 arg13 harg13 arg14 harg14 x0 x1 x2 (ix2 d x) = _ :=
    fun d x => carry_a i c arg3 harg3 arg4 harg4 arg5 harg5 arg6 harg6 arg7 harg7 arg8 harg8 arg9 harg9 arg10 harg10 arg11 harg11 arg12 harg12 arg13 harg13 arg14 harg14 x0 x1 x2 768 inb_S128x2048_S128x256_0_768 d x
  have ra' : ∀ (d : Fin 128) (x : Fin 256), kernelRun0_A.sl.v919 c i arg3 harg3 arg4 harg4 arg5 harg5 arg6 harg6 arg7 harg7 arg8 harg8 arg9 harg9 arg10 harg10 arg11 harg11 arg12 harg12 arg13 harg13 arg14 harg14 x0 x1 x2 (ix2 d x) = _ :=
    fun d x => carry_a' i c arg3 harg3 arg4 harg4 arg5 harg5 arg6 harg6 arg7 harg7 arg8 harg8 arg9 harg9 arg10 harg10 arg11 harg11 arg12 harg12 arg13 harg13 arg14 harg14 x0 x1 x2 768 inb_S128x2048_S128x256_0_768 d x
  have rz : kernelRun0_A.sl.cst_188 (F := Ideal) = 0 := Ideal.ofBits_zero_f32
  simp only [ra, ra',  carry_l, carry_l', mask0, mask1, mask2, mask3, select_dec,
    fun a => key_eq i x1 0 a (by decide), fun a => value_eq i x2 0 a (by decide),
    fun a => key_eq i x1 256 a (by decide), fun a => value_eq i x2 256 a (by decide),
    fun a => key_eq i x1 512 a (by decide), fun a => value_eq i x2 512 a (by decide),
    fun a => key_eq i x1 768 a (by decide), fun a => value_eq i x2 768 a (by decide),
    rz, mul_ite, mul_zero]
  unfold outV finO mixO sumA sumL
  simp only [dA_zero x1 x2 _ _ 1024 _ ⟨768 + y2.val, by omega⟩ (by show (768 + y2.val) / 64 < 1024 / 64; omega), dL_zero x1 _ _ 1024 ⟨768 + y2.val, by omega⟩ (by show (768 + y2.val) / 64 < 1024 / 64; omega), dA_zero x1 x2 _ _ 1280 _ ⟨768 + y2.val, by omega⟩ (by show (768 + y2.val) / 64 < 1280 / 64; omega), dL_zero x1 _ _ 1280 ⟨768 + y2.val, by omega⟩ (by show (768 + y2.val) / 64 < 1280 / 64; omega), dA_zero x1 x2 _ _ 1536 _ ⟨768 + y2.val, by omega⟩ (by show (768 + y2.val) / 64 < 1536 / 64; omega), dL_zero x1 _ _ 1536 ⟨768 + y2.val, by omega⟩ (by show (768 + y2.val) / 64 < 1536 / 64; omega), dA_zero x1 x2 _ _ 1792 _ ⟨768 + y2.val, by omega⟩ (by show (768 + y2.val) / 64 < 1792 / 64; omega), dL_zero x1 _ _ 1792 ⟨768 + y2.val, by omega⟩ (by show (768 + y2.val) / 64 < 1792 / 64; omega), add_zero]
  unfold dA dL ex
  simp only [← Nat.add_assoc, Nat.reduceAdd, Nat.zero_add]

end Cert.Proof.Attn
-- ==== Proof.RowsHigh.lean ====
module
public import proofs.«01_k».proof.Proof.Block
@[expose] public section
noncomputable section
open Idealize.ShloMosaic Idealize.ShloMosaic.TcCoe Idealize.SL.Sem
namespace Cert.Proof.Attn
open Cert.KernelIdeal Cert.KernelIdeal.Gen
variable (c : Dev nD) (i : grid0.Coords) (arg3 : Memref sig .tc .vmem S1x128x2048 .bf16) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S1x128x2048 .f32) (harg6 : arg6.IsWhole) (arg7 : Memref sig .tc .vmem S128x2048 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128x2048 .bf16) (harg12 : arg12.IsWhole) (arg13 : Memref sig .tc .vmem S128x2048 .f32) (harg13 : arg13.IsWhole) (arg14 : Memref sig .tc .vmem S128x2048 .f32) (harg14 : arg14.IsWhole)
  (x0 : Vec Ideal S1x128x2048 .bf16) (x1 : Vec Ideal S1x8192x128 .bf16) (x2 : Vec Ideal S1x128x8192 .bf16) (x3 : Vec Ideal S1x128x2048 .f32) (x4 : Vec Ideal S128x2048 .f32) (x5 x6 x7 x8 : Vec Ideal S1x64 .f32)

/-- What the kernel stores for the queries 1024 to 1279 of its tile. -/
theorem seg4 (d : Fin 128) (n : Fin 2048) (y : (Rect.unit (s := S1x128x2048) ![0, 0, 1024] S1x128x256.size inb_S1x128x2048_S1x128x256_0_0_1024).shape.Idx)
    (hy : ∀ a, ((ix3 (0 : Fin 1) d n : S1x128x2048.Idx) a : ℕ) = (![0, 0, 1024] : Fin 3 → ℕ) a + y a) :
    (k0_pay313 (kernelRun0_A.sl.r_151 c i arg3 harg3 arg4 harg4 arg5 harg5 arg6 harg6 arg7 harg7 arg8 harg8 arg9 harg9 arg10 harg10 arg11 harg11 arg12 harg12 arg13 harg13 arg14 harg14 x0 x1 x2) (kernelRun0_A.sl.r_152 c i arg3 harg3 arg4 harg4 arg5 harg5 arg6 harg6 arg7 harg7 arg8 harg8 arg9 harg9 arg10 harg10 arg11 harg11 arg12 harg12 arg13 harg13 arg14 harg14 x0 x1 x2 x5 x6 x7 x8) (View.readAt (Elt Idealize.ShloMosaic.Ideal) arg7.view (Rect.unit (s := S128x2048) ![0, 1024] S128x256.size inb_S128x2048_S128x256_0_1024).toLoadRect (harg7.unread x4)) (View.readAt (Elt Idealize.ShloMosaic.Ideal) arg6.view (Rect.unit (s := S1x128x2048) ![0, 0, 1024] S1x128x256.size inb_S1x128x2048_S1x128x256_0_0_1024).toLoadRect (harg6.unread x3))) y = outV i c arg3 harg3 arg8 harg8 arg9 harg9 arg10 harg10 arg11 harg11 x0 x1 x2 x3 x4 x5 x6 x7 x8 d n := by
  unfold kernelRun0_A.sl.r_152 kernelRun0_A.sl.r_151 kernelRun0_A.sl.r_144 kernelRun0_A.sl.r_135 kernelRun0_A.sl.r_134 kernelRun0_A.sl.r_133 kernelRun0_A.sl.r_124 kernelRun0_A.sl.r_123 kernelRun0_A.sl.r_119 kernelRun0_A.sl.r_118 kernelRun0_A.sl.r_111 kernelRun0_A.sl.r_110 kernelRun0_A.sl.r_99 kernelRun0_A.sl.r_98 kernelRun0_A.sl.r_93 kernelRun0_A.sl.r_92 kernelRun0_A.sl.r_85 kernelRun0_A.sl.r_84 kernelRun0_A.sl.r_70 kernelRun0_A.sl.r_69 kernelRun0_A.sl.r_62 kernelRun0_A.sl.r_61 kernelRun0_A.sl.r_54 kernelRun0_A.sl.r_53 kernelRun0_A.sl.r_38 kernelRun0_A.sl.r_37 kernelRun0_A.sl.r_28 kernelRun0_A.sl.r_27 kernelRun0_A.sl.r_20 kernelRun0_A.sl.r_19 kernelRun0_A.sl.r_11 kernelRun0_A.sl.r_10 kernelRun0_A.sl.r_9 kernelRun0_A.sl.r_6 kernelRun0_A.sl.r_5 kernelRun0_A.sl.v368 kernelRun0_A.sl.v367 kernelRun0_A.sl.v311 kernelRun0_A.sl.v308 kernelRun0_A.sl.v303 kernelRun0_A.sl.v302 kernelRun0_A.sl.v246 kernelRun0_A.sl.v243 kernelRun0_A.sl.v238 kernelRun0_A.sl.v237 kernelRun0_A.sl.v181 kernelRun0_A.sl.v178 kernelRun0_A.sl.v173 kernelRun0_A.sl.v172 kernelRun0_A.sl.v116 kernelRun0_A.sl.v113
  simp only [View.readAt_eq_ld, harg4.read_unread, harg5.read_unread, harg6.read_unread, harg7.read_unread]
  obtain ⟨y0, y1, y2, rfl⟩ : ∃ a b e, y = (ix3 a b e : S1x128x256.Idx) := ⟨y 0, y 1, y 2, (ix3_eta y).symm⟩
  have h1 : d = y1 := Fin.ext ((hy 1).trans (Nat.zero_add _))
  have h2 : n = ⟨1024 + y2.val, by omega⟩ := Fin.ext (hy 2)
  subst h1; subst h2
  unfold_payloads
  pointwise
  have ra : ∀ (d : Fin 128) (x : Fin 256), kernelRun0_A.sl.v999 c i arg3 harg3 arg4 harg4 arg5 harg5 arg6 harg6 arg7 harg7 arg8 harg8 arg9 harg9 arg10 harg10 arg11 harg11 arg12 harg12 arg13 harg13 arg14 harg14 x0 x1 x2 (ix2 d x) = _ :=
    fun d x => carry_a i c arg3 harg3 arg4 harg4 arg5 harg5 arg6 harg6 arg7 harg7 arg8 harg8 arg9 harg9 arg10 harg10 arg11 harg11 arg12 harg12 arg13 harg13 arg14 harg14 x0 x1 x2 1024 inb_S128x2048_S128x256_0_1024 d x
  have ra' : ∀ (d : Fin 128) (x : Fin 256), kernelRun0_A.sl.v1015 c i arg3 harg3 arg4 harg4 arg5 harg5 arg6 harg6 arg7 harg7 arg8 harg8 arg9 harg9 arg10 harg10 arg11 harg11 arg12 harg12 arg13 harg13 arg14 harg14 x0 x1 x2 (ix2 d x) = _ :=
    fun d x => carry_a' i c arg3 harg3 arg4 harg4 arg5 harg5 arg6 harg6 arg7 harg7 arg8 harg8 arg9 harg9 arg10 harg10 arg11 harg11 arg12 harg12 arg13 harg13 arg14 harg14 x0 x1 x2 1024 inb_S128x2048_S128x256_0_1024 d x
  have rz : kernelRun0_A.sl.cst_188 (F := Ideal) = 0 := Ideal.ofBits_zero_f32
  simp only [ra, ra',  carry_l, carry_l', mask0, mask1, mask2, mask3, mask4, select_dec,
    fun a => key_eq i x1 0 a (by decide), fun a => value_eq i x2 0 a (by decide),
    fun a => key_eq i x1 256 a (by decide), fun a => value_eq i x2 256 a (by decide),
    fun a => key_eq i x1 512 a (by decide), fun a => value_eq i x2 512 a (by decide),
    fun a => key_eq i x1 768 a (by decide), fun a => value_eq i x2 768 a (by decide),
    fun a => key_eq i x1 1024 a (by decide), fun a => value_eq i x2 1024 a (by decide),
    rz, mul_ite, mul_zero]
  unfold outV finO mixO sumA sumL
  simp only [dA_zero x1 x2 _ _ 1280 _ ⟨1024 + y2.val, by omega⟩ (by show (1024 + y2.val) / 64 < 1280 / 64; omega), dL_zero x1 _ _ 1280 ⟨1024 + y2.val, by omega⟩ (by show (1024 + y2.val) / 64 < 1280 / 64; omega), dA_zero x1 x2 _ _ 1536 _ ⟨1024 + y2.val, by omega⟩ (by show (1024 + y2.val) / 64 < 1536 / 64; omega), dL_zero x1 _ _ 1536 ⟨1024 + y2.val, by omega⟩ (by show (1024 + y2.val) / 64 < 1536 / 64; omega), dA_zero x1 x2 _ _ 1792 _ ⟨1024 + y2.val, by omega⟩ (by show (1024 + y2.val) / 64 < 1792 / 64; omega), dL_zero x1 _ _ 1792 ⟨1024 + y2.val, by omega⟩ (by show (1024 + y2.val) / 64 < 1792 / 64; omega), add_zero]
  unfold dA dL ex
  simp only [← Nat.add_assoc, Nat.reduceAdd, Nat.zero_add]

/-- What the kernel stores for the queries 1280 to 1535 of its tile. -/
theorem seg5 (d : Fin 128) (n : Fin 2048) (y : (Rect.unit (s := S1x128x2048) ![0, 0, 1280] S1x128x256.size inb_S1x128x2048_S1x128x256_0_0_1280).shape.Idx)
    (hy : ∀ a, ((ix3 (0 : Fin 1) d n : S1x128x2048.Idx) a : ℕ) = (![0, 0, 1280] : Fin 3 → ℕ) a + y a) :
    (k0_pay336 (kernelRun0_A.sl.r_2 c arg8 harg8 arg9 harg9 arg10 harg10 arg11 harg11 x5 x6 x7 x8) (kernelRun0_A.sl.r_168 c i arg3 harg3 arg4 harg4 arg5 harg5 arg6 harg6 arg7 harg7 arg8 harg8 arg9 harg9 arg10 harg10 arg11 harg11 arg12 harg12 arg13 harg13 arg14 harg14 x0 x1 x2) (kernelRun0_A.sl.r_169 c i arg3 harg3 arg4 harg4 arg5 harg5 arg6 harg6 arg7 harg7 arg8 harg8 arg9 harg9 arg10 harg10 arg11 harg11 arg12 harg12 arg13 harg13 arg14 harg14 x0 x1 x2) (kernelRun0_A.sl.r_170 c i arg3 harg3 arg4 harg4 arg5 harg5 arg6 harg6 arg7 harg7 arg8 harg8 arg9 harg9 arg10 harg10 arg11 harg11 arg12 harg12 arg13 harg13 arg14 harg14 x0 x1 x2) (kernelRun0_A.sl.r_171 c i arg3 harg3 arg4 harg4 arg5 harg5 arg6 harg6 arg7 harg7 arg8 harg8 arg9 harg9 arg10 harg10 arg11 harg11 arg12 harg12 arg13 harg13 arg14 harg14 x0 x1 x2) (View.readAt (Elt Idealize.ShloMosaic.Ideal) arg7.view (Rect.unit (s := S128x2048) ![0, 1280] S128x256.size inb_S128x2048_S128x256_0_1280).toLoadRect (harg7.unread x4)) (View.readAt (Elt Idealize.ShloMosaic.Ideal) arg6.view (Rect.unit (s := S1x128x2048) ![0, 0, 1280] S1x128x256.size inb_S1x128x2048_S1x128x256_0_0_1280).toLoadRect (harg6.unread x3))) y = outV i c arg3 harg3 arg8 harg8 arg9 harg9 arg10 harg10 arg11 harg11 x0 x1 x2 x3 x4 x5 x6 x7 x8 d n := by
  unfold kernelRun0_A.sl.r_171 kernelRun0_A.sl.r_170 kernelRun0_A.sl.r_169 kernelRun0_A.sl.r_168 kernelRun0_A.sl.r_156 kernelRun0_A.sl.r_155 kernelRun0_A.sl.r_154 kernelRun0_A.sl.r_153 kernelRun0_A.sl.r_146 kernelRun0_A.sl.r_145 kernelRun0_A.sl.r_144 kernelRun0_A.sl.r_143 kernelRun0_A.sl.r_142 kernelRun0_A.sl.r_137 kernelRun0_A.sl.r_136 kernelRun0_A.sl.r_133 kernelRun0_A.sl.r_126 kernelRun0_A.sl.r_125 kernelRun0_A.sl.r_119 kernelRun0_A.sl.r_118 kernelRun0_A.sl.r_113 kernelRun0_A.sl.r_112 kernelRun0_A.sl.r_101 kernelRun0_A.sl.r_100 kernelRun0_A.sl.r_93 kernelRun0_A.sl.r_92 kernelRun0_A.sl.r_87 kernelRun0_A.sl.r_86 kernelRun0_A.sl.r_72 kernelRun0_A.sl.r_71 kernelRun0_A.sl.r_62 kernelRun0_A.sl.r_61 kernelRun0_A.sl.r_56 kernelRun0_A.sl.r_55 kernelRun0_A.sl.r_40 kernelRun0_A.sl.r_39 kernelRun0_A.sl.r_28 kernelRun0_A.sl.r_27 kernelRun0_A.sl.r_22 kernelRun0_A.sl.r_21 kernelRun0_A.sl.r_11 kernelRun0_A.sl.r_10 kernelRun0_A.sl.r_9 kernelRun0_A.sl.r_6 kernelRun0_A.sl.r_5 kernelRun0_A.sl.v433 kernelRun0_A.sl.v432 kernelRun0_A.sl.v376 kernelRun0_A.sl.v373 kernelRun0_A.sl.v368 kernelRun0_A.sl.v367 kernelRun0_A.sl.v311 kernelRun0_A.sl.v308 kernelRun0_A.sl.v303 kernelRun0_A.sl.v302 kernelRun0_A.sl.v246 kernelRun0_A.sl.v243 kernelRun0_A.sl.v238 kernelRun0_A.sl.v237 kernelRun0_A.sl.v181 kernelRun0_A.sl.v178 kernelRun0_A.sl.v173 kernelRun0_A.sl.v172 kernelRun0_A.sl.v116 kernelRun0_A.sl.v113
  simp only [View.readAt_eq_ld, harg4.read_unread, harg5.read_unread, harg6.read_unread, harg7.read_unread]
  obtain ⟨y0, y1, y2, rfl⟩ : ∃ a b e, y = (ix3 a b e : S1x128x256.Idx) := ⟨y 0, y 1, y 2, (ix3_eta y).symm⟩
  have h1 : d = y1 := Fin.ext ((hy 1).trans (Nat.zero_add _))
  have h2 : n = ⟨1280 + y2.val, by omega⟩ := Fin.ext (hy 2)
  subst h1; subst h2
  unfold_payloads
  pointwise
  have ra : ∀ (d : Fin 128) (x : Fin 256), kernelRun0_A.sl.v1093 c i arg3 harg3 arg4 harg4 arg5 harg5 arg6 harg6 arg7 harg7 arg8 harg8 arg9 harg9 arg10 harg10 arg11 harg11 arg12 harg12 arg13 harg13 arg14 harg14 x0 x1 x2 (ix2 d x) = _ :=
    fun d x => carry_a i c arg3 harg3 arg4 harg4 arg5 harg5 arg6 harg6 arg7 harg7 arg8 harg8 arg9 harg9 arg10 harg10 arg11 harg11 arg12 harg12 arg13 harg13 arg14 harg14 x0 x1 x2 1280 inb_S128x2048_S128x256_0_1280 d x
  have ra' : ∀ (d : Fin 128) (x : Fin 256), kernelRun0_A.sl.v1111 c i arg3 harg3 arg4 harg4 arg5 harg5 arg6 harg6 arg7 harg7 arg8 harg8 arg9 harg9 arg10 harg10 arg11 harg11 arg12 harg12 arg13 harg13 arg14 harg14 x0 x1 x2 (ix2 d x) = _ :=
    fun d x => carry_a' i c arg3 harg3 arg4 harg4 arg5 harg5 arg6 harg6 arg7 harg7 arg8 harg8 arg9 harg9 arg10 harg10 arg11 harg11 arg12 harg12 arg13 harg13 arg14 harg14 x0 x1 x2 1280 inb_S128x2048_S128x256_0_1280 d x
  have rz : kernelRun0_A.sl.cst_188 (F := Ideal) = 0 := Ideal.ofBits_zero_f32
  simp only [ra, ra',  carry_l, carry_l', mask0, mask1, mask2, mask3, mask4, mask5, select_dec,
    fun a => key_eq i x1 0 a (by decide), fun a => value_eq i x2 0 a (by decide),
    fun a => key_eq i x1 256 a (by decide), fun a => value_eq i x2 256 a (by decide),
    fun a => key_eq i x1 512 a (by decide), fun a => value_eq i x2 512 a (by decide),
    fun a => key_eq i x1 768 a (by decide), fun a => value_eq i x2 768 a (by decide),
    fun a => key_eq i x1 1024 a (by decide), fun a => value_eq i x2 1024 a (by decide),
    fun a => key_eq i x1 1280 a (by decide), fun a => value_eq i x2 1280 a (by decide),
    rz, mul_ite, mul_zero]
  unfold outV finO mixO sumA sumL
  simp only [dA_zero x1 x2 _ _ 1536 _ ⟨1280 + y2.val, by omega⟩ (by show (1280 + y2.val) / 64 < 1536 / 64; omega), dL_zero x1 _ _ 1536 ⟨1280 + y2.val, by omega⟩ (by show (1280 + y2.val) / 64 < 1536 / 64; omega), dA_zero x1 x2 _ _ 1792 _ ⟨1280 + y2.val, by omega⟩ (by show (1280 + y2.val) / 64 < 1792 / 64; omega), dL_zero x1 _ _ 1792 ⟨1280 + y2.val, by omega⟩ (by show (1280 + y2.val) / 64 < 1792 / 64; omega), add_zero]
  unfold dA dL ex
  simp only [← Nat.add_assoc, Nat.reduceAdd, Nat.zero_add]

/-- What the kernel stores for the queries 1536 to 1791 of its tile. -/
theorem seg6 (d : Fin 128) (n : Fin 2048) (y : (Rect.unit (s := S1x128x2048) ![0, 0, 1536] S1x128x256.size inb_S1x128x2048_S1x128x256_0_0_1536).shape.Idx)
    (hy : ∀ a, ((ix3 (0 : Fin 1) d n : S1x128x2048.Idx) a : ℕ) = (![0, 0, 1536] : Fin 3 → ℕ) a + y a) :
    (k0_pay356 (kernelRun0_A.sl.r_2 c arg8 harg8 arg9 harg9 arg10 harg10 arg11 harg11 x5 x6 x7 x8) (kernelRun0_A.sl.r_148 c i arg3 harg3 arg4 harg4 arg5 harg5 x0 x1 x2) (kernelRun0_A.sl.r_165 c i arg3 harg3 arg4 harg4 arg5 harg5 x0 x1 x2) (kernelRun0_A.sl.r_180 c i arg3 harg3 arg4 harg4 arg5 harg5 x0 x1 x2) (kernelRun0_A.sl.r_183 c i arg3 harg3 arg4 harg4 arg5 harg5 arg6 harg6 arg7 harg7 arg8 harg8 arg9 harg9 arg10 harg10 arg11 harg11 arg12 harg12 arg13 harg13 arg14 harg14 x0 x1 x2) (kernelRun0_A.sl.r_184 c i arg3 harg3 arg4 harg4 arg5 harg5 arg6 harg6 arg7 harg7 arg8 harg8 arg9 harg9 arg10 harg10 arg11 harg11 arg12 harg12 arg13 harg13 arg14 harg14 x0 x1 x2) (kernelRun0_A.sl.r_185 c i arg3 harg3 arg4 harg4 arg5 harg5 arg6 harg6 arg7 harg7 arg8 harg8 arg9 harg9 arg10 harg10 arg11 harg11 arg12 harg12 arg13 harg13 arg14 harg14 x0 x1 x2) (kernelRun0_A.sl.v1207 c i arg3 harg3 arg4 harg4 arg5 harg5 arg6 harg6 arg7 harg7 arg8 harg8 arg9 harg9 arg10 harg10 arg11 harg11 arg12 harg12 arg13 harg13 arg14 harg14 x0 x1 x2) (kernelRun0_A.sl.r_186 c i arg3 harg3 arg4 harg4 arg5 harg5 x0 x1 x2) (View.readAt (Elt Idealize.ShloMosaic.Ideal) arg7.view (Rect.unit (s := S128x2048) ![0, 1536] S128x256.size inb_S128x2048_S128x256_0_1536).toLoadRect (harg7.unread x4)) (View.readAt (Elt Idealize.ShloMosaic.Ideal) arg6.view (Rect.unit (s := S1x128x2048) ![0, 0, 1536] S1x128x256.size inb_S1x128x2048_S1x128x256_0_0_1536).toLoadRect (harg6.unread x3))) y = outV i c arg3 harg3 arg8 harg8 arg9 harg9 arg10 harg10 arg11 harg11 x0 x1 x2 x3 x4 x5 x6 x7 x8 d n := by
  unfold kernelRun0_A.sl.r_186 kernelRun0_A.sl.r_185 kernelRun0_A.sl.r_184 kernelRun0_A.sl.r_183 kernelRun0_A.sl.r_180 kernelRun0_A.sl.r_175 kernelRun0_A.sl.r_174 kernelRun0_A.sl.r_173 kernelRun0_A.sl.r_172 kernelRun0_A.sl.r_165 kernelRun0_A.sl.r_164 kernelRun0_A.sl.r_163 kernelRun0_A.sl.r_162 kernelRun0_A.sl.r_161 kernelRun0_A.sl.r_158 kernelRun0_A.sl.r_157 kernelRun0_A.sl.r_154 kernelRun0_A.sl.r_153 kernelRun0_A.sl.r_148 kernelRun0_A.sl.r_147 kernelRun0_A.sl.r_144 kernelRun0_A.sl.r_143 kernelRun0_A.sl.r_142 kernelRun0_A.sl.r_139 kernelRun0_A.sl.r_138 kernelRun0_A.sl.r_133 kernelRun0_A.sl.r_128 kernelRun0_A.sl.r_127 kernelRun0_A.sl.r_120 kernelRun0_A.sl.r_119 kernelRun0_A.sl.r_118 kernelRun0_A.sl.r_115 kernelRun0_A.sl.r_114 kernelRun0_A.sl.r_107 kernelRun0_A.sl.r_103 kernelRun0_A.sl.r_102 kernelRun0_A.sl.r_93 kernelRun0_A.sl.r_92 kernelRun0_A.sl.r_89 kernelRun0_A.sl.r_88 kernelRun0_A.sl.r_74 kernelRun0_A.sl.r_73 kernelRun0_A.sl.r_62 kernelRun0_A.sl.r_61 kernelRun0_A.sl.r_58 kernelRun0_A.sl.r_57 kernelRun0_A.sl.r_42 kernelRun0_A.sl.r_41 kernelRun0_A.sl.r_28 kernelRun0_A.sl.r_27 kernelRun0_A.sl.r_24 kernelRun0_A.sl.r_23 kernelRun0_A.sl.r_11 kernelRun0_A.sl.r_10 kernelRun0_A.sl.r_9 kernelRun0_A.sl.r_6 kernelRun0_A.sl.r_5 kernelRun0_A.sl.v498 kernelRun0_A.sl.v497 kernelRun0_A.sl.v441 kernelRun0_A.sl.v438 kernelRun0_A.sl.v433 kernelRun0_A.sl.v432 kernelRun0_A.sl.v376 kernelRun0_A.sl.v373 kernelRun0_A.sl.v368 kernelRun0_A.sl.v367 kernelRun0_A.sl.v311 kernelRun0_A.sl.v308 kernelRun0_A.sl.v303 kernelRun0_A.sl.v302 kernelRun0_A.sl.v246 kernelRun0_A.sl.v243 kernelRun0_A.sl.v238 kernelRun0_A.sl.v237 kernelRun0_A.sl.v181 kernelRun0_A.sl.v178 kernelRun0_A.sl.v173 kernelRun0_A.sl.v172 kernelRun0_A.sl.v116 kernelRun0_A.sl.v113
  simp only [View.readAt_eq_ld, harg4.read_unread, harg5.read_unread, harg6.read_unread, harg7.read_unread]
  obtain ⟨y0, y1, y2, rfl⟩ : ∃ a b e, y = (ix3 a b e : S1x128x256.Idx) := ⟨y 0, y 1, y 2, (ix3_eta y).symm⟩
  have h1 : d = y1 := Fin.ext ((hy 1).trans (Nat.zero_add _))
  have h2 : n = ⟨1536 + y2.val, by omega⟩ := Fin.ext (hy 2)
  subst h1; subst h2
  unfold_payloads
  pointwise
  have ra : ∀ (d : Fin 128) (x : Fin 256), kernelRun0_A.sl.v1187 c i arg3 harg3 arg4 harg4 arg5 harg5 arg6 harg6 arg7 harg7 arg8 harg8 arg9 harg9 arg10 harg10 arg11 harg11 arg12 harg12 arg13 harg13 arg14 harg14 x0 x1 x2 (ix2 d x) = _ :=
    fun d x => carry_a i c arg3 harg3 arg4 harg4 arg5 harg5 arg6 harg6 arg7 harg7 arg8 harg8 arg9 harg9 arg10 harg10 arg11 harg11 arg12 harg12 arg13 harg13 arg14 harg14 x0 x1 x2 1536 inb_S128x2048_S128x256_0_1536 d x
  have ra' : ∀ (d : Fin 128) (x : Fin 256), kernelRun0_A.sl.v1207 c i arg3 harg3 arg4 harg4 arg5 harg5 arg6 harg6 arg7 harg7 arg8 harg8 arg9 harg9 arg10 harg10 arg11 harg11 arg12 harg12 arg13 harg13 arg14 harg14 x0 x1 x2 (ix2 d x) = _ :=
    fun d x => carry_a' i c arg3 harg3 arg4 harg4 arg5 harg5 arg6 harg6 arg7 harg7 arg8 harg8 arg9 harg9 arg10 harg10 arg11 harg11 arg12 harg12 arg13 harg13 arg14 harg14 x0 x1 x2 1536 inb_S128x2048_S128x256_0_1536 d x
  have rz : kernelRun0_A.sl.cst_188 (F := Ideal) = 0 := Ideal.ofBits_zero_f32
  simp only [ra, ra',  carry_l, carry_l', mask0, mask1, mask2, mask3, mask4, mask5, mask6, select_dec,
    fun a => key_eq i x1 0 a (by decide), fun a => value_eq i x2 0 a (by decide),
    fun a => key_eq i x1 256 a (by decide), fun a => value_eq i x2 256 a (by decide),
    fun a => key_eq i x1 512 a (by decide), fun a => value_eq i x2 512 a (by decide),
    fun a => key_eq i x1 768 a (by decide), fun a => value_eq i x2 768 a (by decide),
    fun a => key_eq i x1 1024 a (by decide), fun a => value_eq i x2 1024 a (by decide),
    fun a => key_eq i x1 1280 a (by decide), fun a => value_eq i x2 1280 a (by decide),
    fun a => key_eq i x1 1536 a (by decide), fun a => value_eq i x2 1536 a (by decide),
    rz, mul_ite, mul_zero]
  unfold outV finO mixO sumA sumL
  simp only [dA_zero x1 x2 _ _ 1792 _ ⟨1536 + y2.val, by omega⟩ (by show (1536 + y2.val) / 64 < 1792 / 64; omega), dL_zero x1 _ _ 1792 ⟨1536 + y2.val, by omega⟩ (by show (1536 + y2.val) / 64 < 1792 / 64; omega), add_zero]
  unfold dA dL ex
  simp only [← Nat.add_assoc, Nat.reduceAdd, Nat.zero_add]

/-- What the kernel stores for the queries 1792 to 2047 of its tile. -/
theorem seg7 (d : Fin 128) (n : Fin 2048) (y : (Rect.unit (s := S1x128x2048) ![0, 0, 1792] S1x128x256.size inb_S1x128x2048_S1x128x256_0_0_1792).shape.Idx)
    (hy : ∀ a, ((ix3 (0 : Fin 1) d n : S1x128x2048.Idx) a : ℕ) = (![0, 0, 1792] : Fin 3 → ℕ) a + y a) :
    (k0_pay1 (kernelRun0_A.sl.r_193 c i arg3 harg3 arg4 harg4 arg5 harg5 arg6 harg6 arg7 harg7 arg8 harg8 arg9 harg9 arg10 harg10 arg11 harg11 arg12 harg12 arg13 harg13 arg14 harg14 x0 x1 x2 x4 x5 x6 x7 x8) k0_pay365 (View.readAt (Elt Idealize.ShloMosaic.Ideal) arg6.view (Rect.unit (s := S1x128x2048) ![0, 0, 1792] ![1, 128, 256] inb_S1x128x2048_S1x128x256_0_0_1792).toLoadRect (harg6.unread x3))) y = outV i c arg3 harg3 arg8 harg8 arg9 harg9 arg10 harg10 arg11 harg11 x0 x1 x2 x3 x4 x5 x6 x7 x8 d n := by
  unfold kernelRun0_A.sl.r_193 kernelRun0_A.sl.r_192 kernelRun0_A.sl.r_191 kernelRun0_A.sl.r_190 kernelRun0_A.sl.r_189 kernelRun0_A.sl.r_188 kernelRun0_A.sl.r_187 kernelRun0_A.sl.r_182 kernelRun0_A.sl.r_181 kernelRun0_A.sl.r_179 kernelRun0_A.sl.r_178 kernelRun0_A.sl.r_177 kernelRun0_A.sl.r_176 kernelRun0_A.sl.r_173 kernelRun0_A.sl.r_172 kernelRun0_A.sl.r_167 kernelRun0_A.sl.r_166 kernelRun0_A.sl.r_163 kernelRun0_A.sl.r_162 kernelRun0_A.sl.r_161 kernelRun0_A.sl.r_160 kernelRun0_A.sl.r_159 kernelRun0_A.sl.r_154 kernelRun0_A.sl.r_153 kernelRun0_A.sl.r_150 kernelRun0_A.sl.r_149 kernelRun0_A.sl.r_144 kernelRun0_A.sl.r_143 kernelRun0_A.sl.r_142 kernelRun0_A.sl.r_141 kernelRun0_A.sl.r_140 kernelRun0_A.sl.r_133 kernelRun0_A.sl.r_130 kernelRun0_A.sl.r_129 kernelRun0_A.sl.r_120 kernelRun0_A.sl.r_119 kernelRun0_A.sl.r_118 kernelRun0_A.sl.r_117 kernelRun0_A.sl.r_116 kernelRun0_A.sl.r_107 kernelRun0_A.sl.r_105 kernelRun0_A.sl.r_104 kernelRun0_A.sl.r_93 kernelRun0_A.sl.r_92 kernelRun0_A.sl.r_91 kernelRun0_A.sl.r_90 kernelRun0_A.sl.r_76 kernelRun0_A.sl.r_75 kernelRun0_A.sl.r_62 kernelRun0_A.sl.r_61 kernelRun0_A.sl.r_60 kernelRun0_A.sl.r_59 kernelRun0_A.sl.r_44 kernelRun0_A.sl.r_43 kernelRun0_A.sl.r_28 kernelRun0_A.sl.r_27 kernelRun0_A.sl.r_26 kernelRun0_A.sl.r_25 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.v506 kernelRun0_A.sl.v503 kernelRun0_A.sl.v498 kernelRun0_A.sl.v497 kernelRun0_A.sl.v441 kernelRun0_A.sl.v438 kernelRun0_A.sl.v433 kernelRun0_A.sl.v432 kernelRun0_A.sl.v376 kernelRun0_A.sl.v373 kernelRun0_A.sl.v368 kernelRun0_A.sl.v367 kernelRun0_A.sl.v311 kernelRun0_A.sl.v308 kernelRun0_A.sl.v303 kernelRun0_A.sl.v302 kernelRun0_A.sl.v246 kernelRun0_A.sl.v243 kernelRun0_A.sl.v238 kernelRun0_A.sl.v237 kernelRun0_A.sl.v181 kernelRun0_A.sl.v178 kernelRun0_A.sl.v173 kernelRun0_A.sl.v172 kernelRun0_A.sl.v116 kernelRun0_A.sl.v113
  simp only [View.readAt_eq_ld, harg4.read_unread, harg5.read_unread, harg6.read_unread, harg7.read_unread]
  obtain ⟨y0, y1, y2, rfl⟩ : ∃ a b e, y = (ix3 a b e : S1x128x256.Idx) := ⟨y 0, y 1, y 2, (ix3_eta y).symm⟩
  have h1 : d = y1 := Fin.ext ((hy 1).trans (Nat.zero_add _))
  have h2 : n = ⟨1792 + y2.val, by omega⟩ := Fin.ext (hy 2)
  subst h1; subst h2
  obtain ⟨M, hM⟩ : ∃ M, M = k0_pay140 kernelRun0_A.sl.v511 kernelRun0_A.sl.v525 kernelRun0_A.sl.v527 := ⟨_, rfl⟩
  have hm : ∀ (k n : Fin 256), M (ix2 k n) = _ := fun k n => (congrFun hM _).trans (mask7 k n)
  simp only [← hM]
  unfold_payloads
  pointwise
  have ra : ∀ (d : Fin 128) (x : Fin 256), kernelRun0_A.sl.v1270 c i arg3 harg3 arg4 harg4 arg5 harg5 arg6 harg6 arg7 harg7 arg8 harg8 arg9 harg9 arg10 harg10 arg11 harg11 arg12 harg12 arg13 harg13 arg14 harg14 x0 x1 x2 (ix2 d x) = _ :=
    fun d x => carry_a i c arg3 harg3 arg4 harg4 arg5 harg5 arg6 harg6 arg7 harg7 arg8 harg8 arg9 harg9 arg10 harg10 arg11 harg11 arg12 harg12 arg13 harg13 arg14 harg14 x0 x1 x2 1792 inb_S128x2048_S128x256_0_1792 d x
  have ra' : ∀ (d : Fin 128) (x : Fin 256), kernelRun0_A.sl.v1292 c i arg3 harg3 arg4 harg4 arg5 harg5 arg6 harg6 arg7 harg7 arg8 harg8 arg9 harg9 arg10 harg10 arg11 harg11 arg12 harg12 arg13 harg13 arg14 harg14 x0 x1 x2 (ix2 d x) = _ :=
    fun d x => carry_a' i c arg3 harg3 arg4 harg4 arg5 harg5 arg6 harg6 arg7 harg7 arg8 harg8 arg9 harg9 arg10 harg10 arg11 harg11 arg12 harg12 arg13 harg13 arg14 harg14 x0 x1 x2 1792 inb_S128x2048_S128x256_0_1792 d x
  have rz : kernelRun0_A.sl.cst_188 (F := Ideal) = 0 := Ideal.ofBits_zero_f32
  simp only [ra, ra',  carry_l, carry_l', mask0, mask1, mask2, mask3, mask4, mask5, mask6, hm, select_dec,
    fun a => key_eq i x1 0 a (by decide), fun a => value_eq i x2 0 a (by decide),
    fun a => key_eq i x1 256 a (by decide), fun a => value_eq i x2 256 a (by decide),
    fun a => key_eq i x1 512 a (by decide), fun a => value_eq i x2 512 a (by decide),
    fun a => key_eq i x1 768 a (by decide), fun a => value_eq i x2 768 a (by decide),
    fun a => key_eq i x1 1024 a (by decide), fun a => value_eq i x2 1024 a (by decide),
    fun a => key_eq i x1 1280 a (by decide), fun a => value_eq i x2 1280 a (by decide),
    fun a => key_eq i x1 1536 a (by decide), fun a => value_eq i x2 1536 a (by decide),
    fun a => key_eq i x1 1792 a (by decide), fun a => value_eq i x2 1792 a (by decide),
    rz, mul_ite, mul_zero]
  unfold outV finO mixO sumA sumL
  simp only [add_zero]
  unfold dA dL ex
  simp only [← Nat.add_assoc, Nat.reduceAdd, Nat.zero_add]

end Cert.Proof.Attn
-- ==== Proof.Out.lean ====
module
public import proofs.«01_k».proof.Proof.RowsLow
public import proofs.«01_k».proof.Proof.RowsHigh
public import Idealize.ShloMosaic.Lib.Pipeline.ValueKit.Tiles
@[expose] public section
noncomputable section
open Idealize.ShloMosaic Idealize.ShloMosaic.TcCoe Idealize.SL.Sem
namespace Cert.Proof.Attn
open Cert.KernelIdeal Cert.KernelIdeal.Gen
variable (c : Dev nD) (i : grid0.Coords) (arg3 : Memref sig .tc .vmem S1x128x2048 .bf16) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S1x128x2048 .f32) (harg6 : arg6.IsWhole) (arg7 : Memref sig .tc .vmem S128x2048 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128x2048 .bf16) (harg12 : arg12.IsWhole) (arg13 : Memref sig .tc .vmem S128x2048 .f32) (harg13 : arg13.IsWhole) (arg14 : Memref sig .tc .vmem S128x2048 .f32) (harg14 : arg14.IsWhole)
  (x0 : Vec Ideal S1x128x2048 .bf16) (x1 : Vec Ideal S1x8192x128 .bf16) (x2 : Vec Ideal S1x128x8192 .bf16) (x3 : Vec Ideal S1x128x2048 .f32) (x4 : Vec Ideal S128x2048 .f32) (x5 x6 x7 x8 : Vec Ideal S1x64 .f32)

/-- The kernel's result block, entry by entry: the eight stores tile it, and each holds the entry's value. -/
theorem out_eq (d : Fin 128) (n : Fin 2048) :
    out0_A_9 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix3 0 d n)
      = outV i c arg3 harg3 arg8 harg8 arg9 harg9 arg10 harg10 arg11 harg11 x0 x1 x2 x3 x4 x5 x6 x7 x8 d n := by
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)]
  refine View.canon_eq_of_allAt _ _ _ (cover0_A_9 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 _) ?_
  unfold kernelRun0_A
  exact (View.allAt_cons_unit _ _ _ _ _ (fun y hy => seg7 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 d n y hy)
    (View.allAt_cons_unit _ _ _ _ _ (fun y hy => seg6 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 d n y hy)
    (View.allAt_cons_unit _ _ _ _ _ (fun y hy => seg5 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 d n y hy)
    (View.allAt_cons_unit _ _ _ _ _ (fun y hy => seg4 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 d n y hy)
    (View.allAt_cons_unit _ _ _ _ _ (fun y hy => seg3 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 d n y hy)
    (View.allAt_cons_unit _ _ _ _ _ (fun y hy => seg2 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 d n y hy)
    (View.allAt_cons_unit _ _ _ _ _ (fun y hy => seg1 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 d n y hy)
    (View.allAt_cons_unit _ _ _ _ _ (fun y hy => seg0 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 d n y hy) (View.allAt_nil _ _)))))))))

end Cert.Proof.Attn
-- ==== Proof.Inputs.lean ====
/- The blocks the kernel is given at a grid point, as entries of the arguments. -/
module
public import proofs.«01_k».proof.Proof.Gen.KernelIdeal.Value
public import Idealize.ShloMosaic.Lib.Pointwise
public import Idealize.ShloMosaic.Lib.StableHlo.ReadAt
public import Idealize.ShloMosaic.Lib.Claim
@[expose] public section
noncomputable section
open Idealize.ShloMosaic Idealize.ShloMosaic.TcCoe Idealize.SL.Sem
namespace Cert.Proof.Attn
open Cert.KernelIdeal Cert.KernelIdeal.Gen
variable (m : (ℓ : Loc nD τ sig) → Buf (Elt Ideal) ℓ)

/-- The batch of a grid point. -/
def bt (t : Fin cfg0.N) : Fin 4 := ⟨(grid0.coords t 0).val, (grid0.coords t 0).isLt⟩
/-- The head of a grid point. -/
def hd (t : Fin cfg0.N) : Fin 8 := ⟨(grid0.coords t 1).val, (grid0.coords t 1).isLt⟩
/-- The query tile of a grid point. -/
def tl (t : Fin cfg0.N) : Fin 4 := ⟨(grid0.coords t 2).val, (grid0.coords t 2).isLt⟩
/-- The query of a lane of a grid point. -/
def qy (t : Fin cfg0.N) (n : Fin 2048) : Fin 8192 := ⟨2048 * (tl t).val + n.val, by omega⟩
/-- The row of the head's entry `d`. -/
def hrow (h : Fin 8) (d : Fin 128) : Fin 1024 := ⟨h.val * 128 + d.val, by omega⟩

/-- Where window 0's block stands at a grid point. -/
theorem index0 : ∀ t : Fin cfg0.N, win0_0.index t 0 = (grid0.coords t 0).val ∧ win0_0.index t 1 = (grid0.coords t 1).val ∧ win0_0.index t 2 = (grid0.coords t 2).val :=
  (by decide +kernel : ∀ t : Fin grid0.N, win0_0.index t 0 = (grid0.coords t 0).val ∧ win0_0.index t 1 = (grid0.coords t 1).val ∧ win0_0.index t 2 = (grid0.coords t 2).val)

/-- Where window 1's block stands at a grid point. -/
theorem index1 : ∀ t : Fin cfg0.N, win0_1.index t 0 = (grid0.coords t 0).val ∧ win0_1.index t 1 = 0 ∧ win0_1.index t 2 = (grid0.coords t 1).val :=
  (by decide +kernel : ∀ t : Fin grid0.N, win0_1.index t 0 = (grid0.coords t 0).val ∧ win0_1.index t 1 = 0 ∧ win0_1.index t 2 = (grid0.coords t 1).val)

/-- Where window 2's block stands at a grid point. -/
theorem index2 : ∀ t : Fin cfg0.N, win0_2.index t 0 = (grid0.coords t 0).val ∧ win0_2.index t 1 = (grid0.coords t 1).val ∧ win0_2.index t 2 = 0 :=
  (by decide +kernel : ∀ t : Fin grid0.N, win0_2.index t 0 = (grid0.coords t 0).val ∧ win0_2.index t 1 = (grid0.coords t 1).val ∧ win0_2.index t 2 = 0)

/-- Where window 3's block stands at a grid point. -/
theorem index3 : ∀ t : Fin cfg0.N, win0_3.index t 0 = (grid0.coords t 0).val ∧ win0_3.index t 1 = (grid0.coords t 1).val ∧ win0_3.index t 2 = (grid0.coords t 2).val :=
  (by decide +kernel : ∀ t : Fin grid0.N, win0_3.index t 0 = (grid0.coords t 0).val ∧ win0_3.index t 1 = (grid0.coords t 1).val ∧ win0_3.index t 2 = (grid0.coords t 2).val)

/-- Where window 4's block stands at a grid point. -/
theorem index4 : ∀ t : Fin cfg0.N, win0_4.index t 0 = 0 ∧ win0_4.index t 1 = 0 :=
  (by decide +kernel : ∀ t : Fin grid0.N, win0_4.index t 0 = 0 ∧ win0_4.index t 1 = 0)

/-- Where window 5's block stands at a grid point. -/
theorem index5 : ∀ t : Fin cfg0.N, win0_5.index t 0 = 0 ∧ win0_5.index t 1 = 0 :=
  (by decide +kernel : ∀ t : Fin grid0.N, win0_5.index t 0 = 0 ∧ win0_5.index t 1 = 0)

/-- Where window 6's block stands at a grid point. -/
theorem index6 : ∀ t : Fin cfg0.N, win0_6.index t 0 = 0 ∧ win0_6.index t 1 = 0 :=
  (by decide +kernel : ∀ t : Fin grid0.N, win0_6.index t 0 = 0 ∧ win0_6.index t 1 = 0)

/-- Where window 7's block stands at a grid point. -/
theorem index7 : ∀ t : Fin cfg0.N, win0_7.index t 0 = 0 ∧ win0_7.index t 1 = 0 :=
  (by decide +kernel : ∀ t : Fin grid0.N, win0_7.index t 0 = 0 ∧ win0_7.index t 1 = 0)

/-- Where window 8's block stands at a grid point. -/
theorem index8 : ∀ t : Fin cfg0.N, win0_8.index t 0 = 0 ∧ win0_8.index t 1 = 0 :=
  (by decide +kernel : ∀ t : Fin grid0.N, win0_8.index t 0 = 0 ∧ win0_8.index t 1 = 0)

/-- Where window 9's block stands at a grid point. -/
theorem index9 : ∀ t : Fin cfg0.N, win0_9.index t 0 = (grid0.coords t 0).val ∧ win0_9.index t 1 = (grid0.coords t 1).val ∧ win0_9.index t 2 = (grid0.coords t 2).val :=
  (by decide +kernel : ∀ t : Fin grid0.N, win0_9.index t 0 = (grid0.coords t 0).val ∧ win0_9.index t 1 = (grid0.coords t 1).val ∧ win0_9.index t 2 = (grid0.coords t 2).val)

/-- The queries as launched. -/
abbrev aq (c : Dev nD) : S4x8192x8x2x64.Idx → EReal := m ((c : Thread nD τ).loc main_arg0)
/-- The keys as launched. -/
abbrev ak (c : Dev nD) : S4x8192x8x2x64.Idx → EReal := m ((c : Thread nD τ).loc main_arg1)
/-- The values as launched. -/
abbrev av (c : Dev nD) : S4x8192x8x128.Idx → EReal := m ((c : Thread nD τ).loc main_arg2)
/-- The gate as launched. -/
abbrev ag (c : Dev nD) : S4x8192x1024.Idx → EReal := m ((c : Thread nD τ).loc main_arg3)
/-- The norm gain as launched. -/
abbrev an (c : Dev nD) : S1x128.Idx → EReal := m ((c : Thread nD τ).loc main_arg4)
/-- The first vector of the weight as launched. -/
abbrev al (c : Dev nD) : S1x64.Idx → EReal := m ((c : Thread nD τ).loc main_arg5)
/-- The second vector of the weight as launched. -/
abbrev am (c : Dev nD) : S1x64.Idx → EReal := m ((c : Thread nD τ).loc main_arg6)
/-- The third vector of the weight as launched. -/
abbrev ao (c : Dev nD) : S1x64.Idx → EReal := m ((c : Thread nD τ).loc main_arg7)
/-- The fourth vector of the weight as launched. -/
abbrev ap (c : Dev nD) : S1x64.Idx → EReal := m ((c : Thread nD τ).loc main_arg8)

/-- Entries at equal coordinates are equal. -/
theorem at5 (A : S4x8192x8x2x64.Idx → EReal) (b : Fin 4) (n : Fin 8192) {x x' : Fin 8} {y y' : Fin 2} {z z' : Fin 64}
    (hx : x = x') (hy : y = y') (hz : z = z') : A (ix5 b n x y z) = A (ix5 b n x' y' z') := by
  subst hx hy hz; rfl

/-- The scale the queries are given before the kernel: one eighth over the logarithm of two. -/
def qscale : EReal := Ideal.div (Ideal.ofBits FTy.f32 1040187392#32) (Ideal.log (Ideal.ofBits FTy.f32 1073741824#32))

/-- The queries before the kernel. -/
theorem entry_v7 (c : Dev nD) (b : Fin 4) (f : Fin 1024) (n : Fin 8192) : (V m c main_v7 : S4x1024x8192.Idx → EReal) (ix3 b f n) = aq m c (ix5 b n ⟨f.val / 128, by omega⟩ ⟨f.val / 64 % 2, by omega⟩ ⟨f.val % 64, by omega⟩) * qscale := by
  unfold V
  after_reads_at
  rfl

/-- The keys before the kernel. -/
theorem entry_v9 (c : Dev nD) (b : Fin 4) (n : Fin 8192) (f : Fin 1024) : (V m c main_v9 : S4x8192x1024.Idx → EReal) (ix3 b n f) = ak m c (ix5 b n ⟨f.val / 128, by omega⟩ ⟨f.val / 64 % 2, by omega⟩ ⟨f.val % 64, by omega⟩) := by
  unfold V
  after_reads_at

/-- The values before the kernel. -/
theorem entry_v12 (c : Dev nD) (b : Fin 4) (f : Fin 1024) (n : Fin 8192) : (V m c main_v12 : S4x1024x8192.Idx → EReal) (ix3 b f n) = av m c (ix4 b n ⟨f.val / 128, by omega⟩ ⟨f.val % 128, by omega⟩) := by
  unfold V
  after_reads_at

/-- The gate before the kernel. -/
theorem entry_v13 (c : Dev nD) (b : Fin 4) (f : Fin 1024) (n : Fin 8192) : (V m c main_v13 : S4x1024x8192.Idx → EReal) (ix3 b f n) = ag m c (ix3 b n f) := by
  unfold V
  after_reads_at

/-- The norm gain before the kernel. -/
theorem entry_v16 (c : Dev nD) (d : Fin 128) (n : Fin 2048) : (V m c main_v16 : S128x2048.Idx → EReal) (ix2 d n) = an m c (ix2 0 d) := by
  unfold V
  after_reads_at

/-- A vector of the weight before the kernel. -/
theorem entry_v18 (c : Dev nD) (x : Fin 64) : (V m c main_v18 : S1x64.Idx → EReal) (ix2 0 x) = al m c (ix2 0 x) := by
  unfold V
  after_reads_at

/-- A vector of the weight before the kernel. -/
theorem entry_v20 (c : Dev nD) (x : Fin 64) : (V m c main_v20 : S1x64.Idx → EReal) (ix2 0 x) = am m c (ix2 0 x) := by
  unfold V
  after_reads_at

/-- A vector of the weight before the kernel. -/
theorem entry_v22 (c : Dev nD) (x : Fin 64) : (V m c main_v22 : S1x64.Idx → EReal) (ix2 0 x) = ao m c (ix2 0 x) := by
  unfold V
  after_reads_at

/-- A vector of the weight before the kernel. -/
theorem entry_v24 (c : Dev nD) (x : Fin 64) : (V m c main_v24 : S1x64.Idx → EReal) (ix2 0 x) = ap m c (ix2 0 x) := by
  unfold V
  after_reads_at

/-- The queries of a grid point, one half of the head after the other. -/
theorem block_0 (c : Dev nD) (t : Fin cfg0.N) (f : Fin 128) (n : Fin 2048) : (iblk m c 0 t : S1x128x2048.Idx → EReal) (ix3 0 f n) = aq m c (ix5 (bt t) (qy t n) (hd t) ⟨f.val / 64, by omega⟩ ⟨f.val % 64, by omega⟩) * qscale := by
  have e : (iblk m c 0 t : S1x128x2048.Idx → EReal) (ix3 0 f n) = (V m c main_v7 : S4x1024x8192.Idx → EReal) (ix3 (bt t) (hrow (hd t) f) (qy t n)) := by
    obtain ⟨h0, h1, h2⟩ := index0 t
    unfold iblk
    rw [View.read_apply]
    show V m c main_v7 _ = V m c main_v7 _
    generalize V m c main_v7 = X
    congr 1
    funext a
    apply Fin.ext
    match a with
    | ⟨0, _⟩ => show win0_0.index t 0 * 1 + 1 * 0 = (bt t).val; rw [h0]; show (bt t).val * 1 + 1 * 0 = _; omega
    | ⟨1, _⟩ => show win0_0.index t 1 * 128 + 1 * f.val = (hrow (hd t) f).val; rw [h1]; show (hd t).val * 128 + 1 * f.val = (hd t).val * 128 + f.val; omega
    | ⟨2, _⟩ => show win0_0.index t 2 * 2048 + 1 * n.val = (qy t n).val; rw [h2]; show (tl t).val * 2048 + 1 * n.val = 2048 * (tl t).val + n.val; omega
  refine e.trans ((entry_v7 m c _ _ _).trans ?_)
  exact congrArg (· * qscale) (at5 _ _ _ (Fin.ext (by show ((hd t).val * 128 + f.val) / 128 = (hd t).val; omega)) (Fin.ext (by show ((hd t).val * 128 + f.val) / 64 % 2 = f.val / 64; omega)) (Fin.ext (by show ((hd t).val * 128 + f.val) % 64 = f.val % 64; omega)))

/-- The keys of a grid point, one half of the head after the other. -/
theorem block_1 (c : Dev nD) (t : Fin cfg0.N) (j : Fin 8192) (f : Fin 128) : (iblk m c 1 t : S1x8192x128.Idx → EReal) (ix3 0 j f) = ak m c (ix5 (bt t) j (hd t) ⟨f.val / 64, by omega⟩ ⟨f.val % 64, by omega⟩) := by
  have e : (iblk m c 1 t : S1x8192x128.Idx → EReal) (ix3 0 j f) = (V m c main_v9 : S4x8192x1024.Idx → EReal) (ix3 (bt t) j (hrow (hd t) f)) := by
    obtain ⟨h0, h1, h2⟩ := index1 t
    unfold iblk
    rw [View.read_apply]
    show V m c main_v9 _ = V m c main_v9 _
    generalize V m c main_v9 = X
    congr 1
    funext a
    apply Fin.ext
    match a with
    | ⟨0, _⟩ => show win0_1.index t 0 * 1 + 1 * 0 = (bt t).val; rw [h0]; show (bt t).val * 1 + 1 * 0 = _; omega
    | ⟨1, _⟩ => show win0_1.index t 1 * 8192 + 1 * j.val = j.val; rw [h1]; omega
    | ⟨2, _⟩ => show win0_1.index t 2 * 128 + 1 * f.val = (hrow (hd t) f).val; rw [h2]; show (hd t).val * 128 + 1 * f.val = (hd t).val * 128 + f.val; omega
  refine e.trans ((entry_v9 m c _ _ _).trans ?_)
  exact at5 _ _ _ (Fin.ext (by show ((hd t).val * 128 + f.val) / 128 = (hd t).val; omega)) (Fin.ext (by show ((hd t).val * 128 + f.val) / 64 % 2 = f.val / 64; omega)) (Fin.ext (by show ((hd t).val * 128 + f.val) % 64 = f.val % 64; omega))

/-- The values of a grid point. -/
theorem block_2 (c : Dev nD) (t : Fin cfg0.N) (d : Fin 128) (j : Fin 8192) : (iblk m c 2 t : S1x128x8192.Idx → EReal) (ix3 0 d j) = av m c (ix4 (bt t) j (hd t) d) := by
  have e : (iblk m c 2 t : S1x128x8192.Idx → EReal) (ix3 0 d j) = (V m c main_v12 : S4x1024x8192.Idx → EReal) (ix3 (bt t) (hrow (hd t) d) j) := by
    obtain ⟨h0, h1, h2⟩ := index2 t
    unfold iblk
    rw [View.read_apply]
    show V m c main_v12 _ = V m c main_v12 _
    generalize V m c main_v12 = X
    congr 1
    funext a
    apply Fin.ext
    match a with
    | ⟨0, _⟩ => show win0_2.index t 0 * 1 + 1 * 0 = (bt t).val; rw [h0]; show (bt t).val * 1 + 1 * 0 = _; omega
    | ⟨1, _⟩ => show win0_2.index t 1 * 128 + 1 * d.val = (hrow (hd t) d).val; rw [h1]; show (hd t).val * 128 + 1 * d.val = (hd t).val * 128 + d.val; omega
    | ⟨2, _⟩ => show win0_2.index t 2 * 8192 + 1 * j.val = j.val; rw [h2]; omega
  refine e.trans ((entry_v12 m c _ _ _).trans ?_)
  have e1 : (⟨(hrow (hd t) d).val / 128, by omega⟩ : Fin 8) = hd t := Fin.ext (by show ((hd t).val * 128 + d.val) / 128 = (hd t).val; omega)
  have e2 : (⟨(hrow (hd t) d).val % 128, by omega⟩ : Fin 128) = d := Fin.ext (by show ((hd t).val * 128 + d.val) % 128 = d.val; omega)
  rw [e1, e2]

/-- The gate of a grid point. -/
theorem block_3 (c : Dev nD) (t : Fin cfg0.N) (d : Fin 128) (n : Fin 2048) : (iblk m c 3 t : S1x128x2048.Idx → EReal) (ix3 0 d n) = ag m c (ix3 (bt t) (qy t n) (hrow (hd t) d)) := by
  have e : (iblk m c 3 t : S1x128x2048.Idx → EReal) (ix3 0 d n) = (V m c main_v13 : S4x1024x8192.Idx → EReal) (ix3 (bt t) (hrow (hd t) d) (qy t n)) := by
    obtain ⟨h0, h1, h2⟩ := index3 t
    unfold iblk
    rw [View.read_apply]
    show V m c main_v13 _ = V m c main_v13 _
    generalize V m c main_v13 = X
    congr 1
    funext a
    apply Fin.ext
    match a with
    | ⟨0, _⟩ => show win0_3.index t 0 * 1 + 1 * 0 = (bt t).val; rw [h0]; show (bt t).val * 1 + 1 * 0 = _; omega
    | ⟨1, _⟩ => show win0_3.index t 1 * 128 + 1 * d.val = (hrow (hd t) d).val; rw [h1]; show (hd t).val * 128 + 1 * d.val = (hd t).val * 128 + d.val; omega
    | ⟨2, _⟩ => show win0_3.index t 2 * 2048 + 1 * n.val = (qy t n).val; rw [h2]; show (tl t).val * 2048 + 1 * n.val = 2048 * (tl t).val + n.val; omega
  refine e.trans ((entry_v13 m c _ _ _).trans ?_)
  rfl

/-- The norm gain of a grid point. -/
theorem block_4 (c : Dev nD) (t : Fin cfg0.N) (d : Fin 128) (n : Fin 2048) : (iblk m c 4 t : S128x2048.Idx → EReal) (ix2 d n) = an m c (ix2 0 d) := by
  have e : (iblk m c 4 t : S128x2048.Idx → EReal) (ix2 d n) = (V m c main_v16 : S128x2048.Idx → EReal) (ix2 d n) := by
    obtain ⟨h0, h1⟩ := index4 t
    unfold iblk
    rw [View.read_apply]
    show V m c main_v16 _ = V m c main_v16 _
    generalize V m c main_v16 = X
    congr 1
    funext a
    apply Fin.ext
    match a with
    | ⟨0, _⟩ => show win0_4.index t 0 * 128 + 1 * d.val = d.val; rw [h0]; omega
    | ⟨1, _⟩ => show win0_4.index t 1 * 2048 + 1 * n.val = n.val; rw [h1]; omega
  refine e.trans ((entry_v16 m c _ _).trans ?_)
  rfl

/-- A vector of the weight at a grid point. -/
theorem block_5 (c : Dev nD) (t : Fin cfg0.N) (x : Fin 64) : (iblk m c 5 t : S1x64.Idx → EReal) (ix2 0 x) = al m c (ix2 0 x) := by
  have e : (iblk m c 5 t : S1x64.Idx → EReal) (ix2 0 x) = (V m c main_v18 : S1x64.Idx → EReal) (ix2 0 x) := by
    obtain ⟨h0, h1⟩ := index5 t
    unfold iblk
    rw [View.read_apply]
    show V m c main_v18 _ = V m c main_v18 _
    generalize V m c main_v18 = X
    congr 1
    funext a
    apply Fin.ext
    match a with
    | ⟨0, _⟩ => show win0_5.index t 0 * 1 + 1 * 0 = 0; rw [h0]; skip
    | ⟨1, _⟩ => show win0_5.index t 1 * 64 + 1 * x.val = x.val; rw [h1]; omega
  refine e.trans ((entry_v18 m c _).trans ?_)
  rfl

/-- A vector of the weight at a grid point. -/
theorem block_6 (c : Dev nD) (t : Fin cfg0.N) (x : Fin 64) : (iblk m c 6 t : S1x64.Idx → EReal) (ix2 0 x) = am m c (ix2 0 x) := by
  have e : (iblk m c 6 t : S1x64.Idx → EReal) (ix2 0 x) = (V m c main_v20 : S1x64.Idx → EReal) (ix2 0 x) := by
    obtain ⟨h0, h1⟩ := index6 t
    unfold iblk
    rw [View.read_apply]
    show V m c main_v20 _ = V m c main_v20 _
    generalize V m c main_v20 = X
    congr 1
    funext a
    apply Fin.ext
    match a with
    | ⟨0, _⟩ => show win0_6.index t 0 * 1 + 1 * 0 = 0; rw [h0]; skip
    | ⟨1, _⟩ => show win0_6.index t 1 * 64 + 1 * x.val = x.val; rw [h1]; omega
  refine e.trans ((entry_v20 m c _).trans ?_)
  rfl

/-- A vector of the weight at a grid point. -/
theorem block_7 (c : Dev nD) (t : Fin cfg0.N) (x : Fin 64) : (iblk m c 7 t : S1x64.Idx → EReal) (ix2 0 x) = ao m c (ix2 0 x) := by
  have e : (iblk m c 7 t : S1x64.Idx → EReal) (ix2 0 x) = (V m c main_v22 : S1x64.Idx → EReal) (ix2 0 x) := by
    obtain ⟨h0, h1⟩ := index7 t
    unfold iblk
    rw [View.read_apply]
    show V m c main_v22 _ = V m c main_v22 _
    generalize V m c main_v22 = X
    congr 1
    funext a
    apply Fin.ext
    match a with
    | ⟨0, _⟩ => show win0_7.index t 0 * 1 + 1 * 0 = 0; rw [h0]; skip
    | ⟨1, _⟩ => show win0_7.index t 1 * 64 + 1 * x.val = x.val; rw [h1]; omega
  refine e.trans ((entry_v22 m c _).trans ?_)
  rfl

/-- A vector of the weight at a grid point. -/
theorem block_8 (c : Dev nD) (t : Fin cfg0.N) (x : Fin 64) : (iblk m c 8 t : S1x64.Idx → EReal) (ix2 0 x) = ap m c (ix2 0 x) := by
  have e : (iblk m c 8 t : S1x64.Idx → EReal) (ix2 0 x) = (V m c main_v24 : S1x64.Idx → EReal) (ix2 0 x) := by
    obtain ⟨h0, h1⟩ := index8 t
    unfold iblk
    rw [View.read_apply]
    show V m c main_v24 _ = V m c main_v24 _
    generalize V m c main_v24 = X
    congr 1
    funext a
    apply Fin.ext
    match a with
    | ⟨0, _⟩ => show win0_8.index t 0 * 1 + 1 * 0 = 0; rw [h0]; skip
    | ⟨1, _⟩ => show win0_8.index t 1 * 64 + 1 * x.val = x.val; rw [h1]; omega
  refine e.trans ((entry_v24 m c _).trans ?_)
  rfl

end Cert.Proof.Attn
-- ==== Proof.Ref.lean ====
/- The reference read at an index: the masked scores, the two softmaxes and the result. -/
module
public import proofs.«01_k».proof.Proof.Gen.ReferenceIdeal.Read
public import Idealize.ShloMosaic.Lib.Pointwise
public import Idealize.ShloMosaic.Lib.Tactic.CleanTypes
@[expose] public section
noncomputable section
open Idealize.ShloMosaic Idealize.ShloMosaic.TcCoe Idealize.SL.Sem
namespace Cert.Proof.Dense
open Cert.ReferenceIdeal Cert.ReferenceIdeal.Gen Cert.ReferenceIdeal.Read

/-- A key's or a query's group of 64, as the reference counts it with words. -/
theorem host_group (a : Fin 8192) : IntOp.divsi .host (BitVec.ofNat 32 a.val) 64#32 = BitVec.ofNat 32 (a.val / 64) := by
  revert a; decide +kernel

/-- Comparing two small numbers as words is comparing them as numbers. -/
theorem sle_small (a b : ℕ) (ha : a < 128) (hb : b < 128) :
    IntOp.cmpi CmpIPredicate.sle (BitVec.ofNat 32 a) (BitVec.ofNat 32 b) = BitVec.ofBool (a ≤ b) := by
  have h : ∀ a b : Fin 128, IntOp.cmpi CmpIPredicate.sle (BitVec.ofNat 32 a.val) (BitVec.ofNat 32 b.val)
      = BitVec.ofBool (a.val ≤ b.val) := by decide +kernel
  exact h ⟨a, ha⟩ ⟨b, hb⟩

/-- The word the reference masks with is minus infinity. -/
theorem bot_word : Ideal.ofBits FTy.f32 4286578688#32 = ⊥ := by
  simp [Ideal.ofBits, Ideal.ieee]

/-- Choosing by the two groups. -/
theorem select_group (q k : Fin 8192) (a b : EReal) :
    Scalar.select (IntOp.cmpi .sle (IntOp.divsi .host (BitVec.ofNat 32 k.val) 64#32) (IntOp.divsi .host (BitVec.ofNat 32 q.val) 64#32)) a b
      = if k.val / 64 ≤ q.val / 64 then a else b := by
  rw [host_group, host_group, sle_small _ _ (by omega) (by omega)]
  by_cases h : k.val / 64 ≤ q.val / 64 <;> simp [Scalar.select, h]

variable (x0 x1 : (⟨S4x8192x8x2x64, .f32⟩ : BufTy).Contents (Elt Ideal)) (x2 : (⟨S4x8192x8x128, .f32⟩ : BufTy).Contents (Elt Ideal))
  (x3 : (⟨S4x8192x1024, .f32⟩ : BufTy).Contents (Elt Ideal)) (x4 : (⟨S1x128, .f32⟩ : BufTy).Contents (Elt Ideal))
  (x5 x6 x7 x8 : (⟨S1x64, .f32⟩ : BufTy).Contents (Elt Ideal))

/-- The reference's score of key `k` for query `q` in one half of the head, minus infinity where the key comes after the query's group. -/
def score (a : Fin 2) (b : Fin 4) (h : Fin 8) (q k : Fin 8192) : EReal :=
  if k.val / 64 ≤ q.val / 64 then (∑ x : Fin 64, x0 (ix5 b q h a x) * x1 (ix5 b k h a x)) * Ideal.ofBits FTy.f32 1040187392#32 else ⊥

/-- A softmax over the keys as the reference takes it, its maximum subtracted first. -/
def soft (X : Fin 8192 → EReal) (k : Fin 8192) : EReal :=
  Ideal.div (Ideal.exp (X k - max ⊥ (Finset.fold max ⊥ X Finset.univ)))
    (∑ x : Fin 8192, Ideal.exp (X x - max ⊥ (Finset.fold max ⊥ X Finset.univ)))

/-- The index a row's maximum is spread from. -/
theorem row_of (b : Fin 4) (h : Fin 8) (q k : Fin 8192) : idx_main_v39 (idx_main_v40 (ix4 b h q k)) = ix3 b h q := (ix3_eta _).symm

/-- The index of one key in a row. -/
theorem key_of (b : Fin 4) (h : Fin 8) (q k : Fin 8192) : idx_main_v43 (ix3 b h q) k = ix4 b h q k := by
  funext a
  match a with | ⟨0, _⟩ => rfl | ⟨1, _⟩ => rfl | ⟨2, _⟩ => rfl | ⟨3, _⟩ => rfl

/-- A row's maximum over the keys. -/
theorem row_max (X : (⟨S4x8x8192x8192, .f32⟩ : BufTy).Contents (Elt Ideal)) (b : Fin 4) (h : Fin 8) (q : Fin 8192) :
    Host.reduce (FloatOps.maximumf (F := Ideal) (φ := .f32)) X (constant (F := Ideal) S_ .f32 4286578688#32) reducesTo_S4x8x8192x8192_S4x8x8192_d3 h_S_ (ix3 b h q)
      = Finset.fold max (Ideal.ofBits FTy.f32 4286578688#32) (fun x => X (ix4 b h q x)) Finset.univ := by
  pointwise

/-- The masked scores of the first half. -/
theorem score_first (b : Fin 4) (h : Fin 8) (q k : Fin 8192) : val_main_v35 (F := Ideal) x0 x1 (ix4 b h q k) = score x0 x1 0 b h q k := by
  refine Eq.trans ?_ (select_group q k _ _)
  rw [← bot_word]
  unfold val_main_v35 val_main_call0_v1 val_main_call0_v2 val_main_call0_v0 val_main_v31 val_main_v30 val_main_cst_2 val_main_cst_4 val_main_v29 val_main_v28 val_main_v27 val_main_v26 val_main_v25 val_main_v24 val_main_v23 val_main_v22 val_main_v21 val_main_v20 val_main_c val_main_v17 val_main_v16 val_main_v13 val_main_v12
  pointwise
  rfl

/-- The exponentials of the first half. -/
theorem exp_first (b : Fin 4) (h : Fin 8) (q k : Fin 8192) : val_main_v42 (F := Ideal) x0 x1 (ix4 b h q k)
    = Ideal.exp (score x0 x1 0 b h q k - max ⊥ (Finset.fold max ⊥ (score x0 x1 0 b h q) Finset.univ)) := by
  rw [val_main_v42_apply, val_main_v41_apply, val_main_v40_apply, val_main_v39_apply, val_main_v38_apply, val_main_v37_apply, val_main_cst_6_apply,
    show idx_main_v39 (idx_main_v40 (ix4 b h q k)) = ix3 b h q from row_of b h q k, score_first]
  have e : val_main_v36 (F := Ideal) x0 x1 (ix3 b h q) = Finset.fold max ⊥ (score x0 x1 0 b h q) Finset.univ := by
    refine (row_max _ b h q).trans ?_
    rw [bot_word]
    exact congrArg (fun f => Finset.fold max ⊥ f Finset.univ) (funext fun k => score_first x0 x1 b h q k)
  rw [e, ← bot_word]
  rfl

/-- The softmax of the first half. -/
theorem soft_first (b : Fin 4) (h : Fin 8) (q k : Fin 8192) : val_main_v46 (F := Ideal) x0 x1 (ix4 b h q k) = soft (score x0 x1 0 b h q) k := by
  rw [val_main_v46_apply, val_main_v45_apply, val_main_v44_apply, show idx_main_v44 (idx_main_v45 (ix4 b h q k)) = ix3 b h q from row_of b h q k, val_main_v43_apply, val_main_cst_7_apply]
  unfold soft
  refine congrArg₂ Ideal.div (exp_first x0 x1 b h q k) ?_
  refine (congrArg (· + _) Ideal.ofBits_zero_f32).trans ((zero_add _).trans (Finset.sum_congr rfl fun x _ => ?_))
  exact (congrArg _ (key_of b h q x)).trans (exp_first x0 x1 b h q x)

/-- The masked scores of the second half. -/
theorem score_second (b : Fin 4) (h : Fin 8) (q k : Fin 8192) : val_main_v47 (F := Ideal) x0 x1 (ix4 b h q k) = score x0 x1 1 b h q k := by
  refine Eq.trans ?_ (select_group q k _ _)
  rw [← bot_word]
  unfold val_main_v47 val_main_call1_v1 val_main_call1_v2 val_main_call1_v0 val_main_v34 val_main_v33 val_main_cst_3 val_main_v32 val_main_cst_8 val_main_v28 val_main_v27 val_main_v26 val_main_v25 val_main_v24 val_main_v23 val_main_v22 val_main_v21 val_main_v20 val_main_c val_main_v19 val_main_v18 val_main_v15 val_main_v14
  pointwise
  rfl

/-- The exponentials of the second half. -/
theorem exp_second (b : Fin 4) (h : Fin 8) (q k : Fin 8192) : val_main_v54 (F := Ideal) x0 x1 (ix4 b h q k)
    = Ideal.exp (score x0 x1 1 b h q k - max ⊥ (Finset.fold max ⊥ (score x0 x1 1 b h q) Finset.univ)) := by
  rw [val_main_v54_apply, val_main_v53_apply, val_main_v52_apply, val_main_v51_apply, val_main_v50_apply, val_main_v49_apply, val_main_cst_10_apply,
    show idx_main_v51 (idx_main_v52 (ix4 b h q k)) = ix3 b h q from row_of b h q k, score_second]
  have e : val_main_v48 (F := Ideal) x0 x1 (ix3 b h q) = Finset.fold max ⊥ (score x0 x1 1 b h q) Finset.univ := by
    refine (row_max _ b h q).trans ?_
    rw [bot_word]
    exact congrArg (fun f => Finset.fold max ⊥ f Finset.univ) (funext fun k => score_second x0 x1 b h q k)
  rw [e, ← bot_word]
  rfl

/-- The softmax of the second half. -/
theorem soft_second (b : Fin 4) (h : Fin 8) (q k : Fin 8192) : val_main_v58 (F := Ideal) x0 x1 (ix4 b h q k) = soft (score x0 x1 1 b h q) k := by
  rw [val_main_v58_apply, val_main_v57_apply, val_main_v56_apply, show idx_main_v56 (idx_main_v57 (ix4 b h q k)) = ix3 b h q from row_of b h q k, val_main_v55_apply, val_main_cst_11_apply]
  unfold soft
  refine congrArg₂ Ideal.div (exp_second x0 x1 b h q k) ?_
  refine (congrArg (· + _) Ideal.ofBits_zero_f32).trans ((zero_add _).trans (Finset.sum_congr rfl fun x _ => ?_))
  exact (congrArg _ (key_of b h q x)).trans (exp_second x0 x1 b h q x)

/-- The weight between the two softmaxes. -/
theorem weight (i : S_.Idx) : val_main_v11 (F := Ideal) x5 x6 x7 x8 i
    = Ideal.exp (∑ x : Fin 64, x5 (ix2 0 x) * x6 (ix2 0 x)) - Ideal.exp (∑ x : Fin 64, x7 (ix2 0 x) * x8 (ix2 0 x)) + Ideal.ofBits FTy.f32 1052116297#32 := by
  unfold val_main_v11 val_main_v10 val_main_cst_1 val_main_v9 val_main_v4 val_main_v3 val_main_v8 val_main_cst val_main_cst_0 val_main_v2 val_main_v7 val_main_v6 val_main_v5 val_main_v0 val_main_v1
  pointwise

/-- The attention before the normalisation: the values under the difference of the two softmaxes. -/
def mixed (b : Fin 4) (h : Fin 8) (q : Fin 8192) (d : Fin 128) : EReal :=
  ∑ k : Fin 8192, x2 (ix4 b k h d) * (soft (score x0 x1 0 b h q) k - val_main_v11 (F := Ideal) x5 x6 x7 x8 ix0 * soft (score x0 x1 1 b h q) k)

/-- The reference's result at an index. -/
theorem result (b : Fin 4) (h : Fin 1024) (q : Fin 8192) : val_main_v83 (F := Ideal) x0 x1 x2 x3 x4 x5 x6 x7 x8 (ix3 b h q)
    = mixed x0 x1 x2 x5 x6 x7 x8 b ⟨h.val / 128, by omega⟩ q ⟨h.val % 128, by omega⟩
      * Ideal.rsqrt (Ideal.div (∑ x : Fin 128, mixed x0 x1 x2 x5 x6 x7 x8 b ⟨h.val / 128, by omega⟩ q x * mixed x0 x1 x2 x5 x6 x7 x8 b ⟨h.val / 128, by omega⟩ q x)
          (Ideal.ofBits FTy.f32 1124073472#32) + Ideal.ofBits FTy.f32 897988541#32)
      * x4 (ix2 0 ⟨h.val % 128, by omega⟩) * Ideal.ofBits FTy.f32 1059388764#32 * x3 (ix3 b q h) := by
  unfold mixed
  simp only [← soft_first, ← soft_second]
  unfold val_main_v83 val_main_v82 val_main_v81 val_main_v80 val_main_v79 val_main_v78 val_main_cst_15 val_main_v77 val_main_v76 val_main_v75 val_main_v74 val_main_v73 val_main_v72 val_main_v71 val_main_v70 val_main_v69 val_main_cst_14 val_main_v68 val_main_v67 val_main_cst_13 val_main_v66 val_main_v65 val_main_cst_12 val_main_v64 val_main_v63 val_main_v62 val_main_v61 val_main_v60 val_main_v59
  pointwise
end Cert.Proof.Dense
-- ==== Proof.Maths.lean ====
/- The arithmetic of the claim, on extended reals that are real numbers: sums, softmaxes and the sum over the keys taken tile by tile. -/
module
public import proofs.«01_k».proof.Proof.Ref
public import Idealize.ShloMosaic.PureOps
@[expose] public section
noncomputable section
open Idealize.ShloMosaic
namespace Cert.Proof.Dense

/-- A sum of real numbers, taken as extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- A quotient of real numbers. -/
theorem coe_div (x y : ℝ) (h : y ≠ 0) : Ideal.div (x : EReal) (y : EReal) = ((x / y : ℝ) : EReal) := by
  unfold Ideal.div
  rw [if_neg (by exact_mod_cast h), div_eq_mul_inv, EReal.coe_mul, EReal.coe_inv]

/-- The exponentials of the keys a query sees, the others zero. -/
def seen (vis : Fin 8192 → Prop) [DecidablePred vis] (S : Fin 8192 → ℝ) (k : Fin 8192) : ℝ := if vis k then Real.exp (S k) else 0

/-- Their sum is positive when one key is seen. -/
theorem seen_pos (vis : Fin 8192 → Prop) [DecidablePred vis] (S : Fin 8192 → ℝ) (k0 : Fin 8192) (h0 : vis k0) : 0 < ∑ k, seen vis S k := by
  refine Finset.sum_pos' (fun k _ => ?_) ⟨k0, Finset.mem_univ _, ?_⟩
  · unfold seen; split
    · exact (Real.exp_pos _).le
    · exact le_rfl
  · unfold seen; rw [if_pos h0]; exact Real.exp_pos _

/-- The maximum of scores that are real where a key is seen and minus infinity elsewhere is a real number, one key being seen. -/
theorem max_real (vis : Fin 8192 → Prop) [DecidablePred vis] (S : Fin 8192 → ℝ) (k0 : Fin 8192) (h0 : vis k0) :
    ∃ m : ℝ, max ⊥ (Finset.fold max ⊥ (fun k => if vis k then (S k : EReal) else ⊥) Finset.univ) = (m : EReal) := by
  have e : Finset.fold max ⊥ (fun k => if vis k then (S k : EReal) else ⊥) Finset.univ
      = Finset.univ.sup (fun k => if vis k then (S k : EReal) else ⊥) := rfl
  rw [e, max_eq_right bot_le]
  have hb : Finset.univ.sup (fun k => if vis k then (S k : EReal) else ⊥) ≠ ⊥ := by
    intro h
    have := Finset.le_sup (f := fun k => if vis k then (S k : EReal) else ⊥) (Finset.mem_univ k0)
    rw [h, if_pos h0] at this
    exact EReal.coe_ne_bot _ (le_bot_iff.mp this)
  have ht : Finset.univ.sup (fun k => if vis k then (S k : EReal) else ⊥) ≠ ⊤ := by
    refine ne_of_lt ((Finset.sup_lt_iff bot_lt_top).mpr fun k _ => ?_)
    by_cases h : vis k
    · rw [if_pos h]; exact EReal.coe_lt_top _
    · rw [if_neg h]; exact bot_lt_top
  exact ⟨_, (EReal.coe_toReal ht hb).symm⟩

/-- The reference's softmax is the plain quotient of exponentials: its maximum cancels. -/
theorem soft_real (vis : Fin 8192 → Prop) [DecidablePred vis] (S : Fin 8192 → ℝ) (k0 : Fin 8192) (h0 : vis k0) (k : Fin 8192) :
    soft (fun k => if vis k then (S k : EReal) else ⊥) k = ((seen vis S k / ∑ x, seen vis S x : ℝ) : EReal) := by
  obtain ⟨m, hm⟩ := max_real vis S k0 h0
  have he : ∀ x, Ideal.exp ((if vis x then (S x : EReal) else ⊥) - (m : EReal)) = ((seen vis S x * Real.exp (-m) : ℝ) : EReal) := by
    intro x
    unfold seen
    by_cases h : vis x
    · rw [if_pos h, if_pos h, ← EReal.coe_sub, ← Real.exp_add, ← sub_eq_add_neg]; rfl
    · rw [if_neg h, if_neg h, EReal.bot_sub, zero_mul]; rfl
  have hz : (∑ x, seen vis S x) * Real.exp (-m) ≠ 0 := (mul_pos (seen_pos vis S k0 h0) (Real.exp_pos _)).ne'
  have hs : ∑ x, ((seen vis S x * Real.exp (-m) : ℝ) : EReal) = (((∑ x, seen vis S x) * Real.exp (-m) : ℝ) : EReal) :=
    (coe_sum _ _).trans (congrArg _ (Finset.sum_mul _ _ _).symm)
  have he' : ∀ x, Ideal.exp ((if vis x then (S x : EReal) else ⊥)
      - max ⊥ (Finset.fold max ⊥ (fun k => if vis k then (S k : EReal) else ⊥) Finset.univ)) = ((seen vis S x * Real.exp (-m) : ℝ) : EReal) :=
    fun x => (congrArg (fun y => Ideal.exp ((if vis x then (S x : EReal) else ⊥) - y)) hm).trans (he x)
  refine (congrArg₂ Ideal.div (he' k) ((Finset.sum_congr rfl fun x _ => he' x).trans hs)).trans ?_
  exact (coe_div _ _ hz).trans (congrArg _ (mul_div_mul_right _ _ (Real.exp_pos _).ne'))

/-- Dividing each sum once is dividing each weight: the kernel's order of operations against the reference's. -/
theorem mix_real (V E1 E2 : Fin 8192 → ℝ) (l Z1 Z2 : ℝ) (h1 : Z1 ≠ 0) (h2 : Z2 ≠ 0) :
    ((∑ k, V k * E1 k : ℝ) : EReal) * Ideal.div 1 (Z1 : EReal) - (l : EReal) * (((∑ k, V k * E2 k : ℝ) : EReal) * Ideal.div 1 (Z2 : EReal))
      = ∑ k, (V k : EReal) * (((E1 k / Z1 : ℝ) : EReal) - (l : EReal) * ((E2 k / Z2 : ℝ) : EReal)) := by
  rw [← EReal.coe_one, coe_div _ _ h1, coe_div _ _ h2]
  simp only [← EReal.coe_mul, ← EReal.coe_sub]
  rw [coe_sum, Finset.sum_mul, Finset.sum_mul, Finset.mul_sum, ← Finset.sum_sub_distrib]
  exact congrArg _ (Finset.sum_congr rfl fun k _ => by ring)

/-- A sum of products over 128 entries of which one half is zero is the sum over the other half: the lower half kept. -/
theorem sum_low (f g : Fin 128 → EReal) : ∑ x, f x * (if x.val < 64 then g x else 0)
    = ∑ x : Fin 64, f ⟨x.val, by omega⟩ * g ⟨x.val, by omega⟩ := by
  refine (Fin.sum_univ_add (a := 64) (b := 64) (fun x : Fin (64 + 64) => f x * (if x.val < 64 then g x else 0))).trans ?_
  refine (congrArg₂ (· + ·) (Finset.sum_congr rfl fun x _ => ?_) (Finset.sum_eq_zero fun x _ => ?_)).trans (add_zero _)
  · exact congrArg _ (if_pos x.isLt)
  · exact (congrArg _ (if_neg (by show ¬ 64 + x.val < 64; omega))).trans (mul_zero _)

/-- The same with the upper half kept. -/
theorem sum_high (f g : Fin 128 → EReal) : ∑ x, f x * (if 64 ≤ x.val then g x else 0)
    = ∑ x : Fin 64, f ⟨64 + x.val, by omega⟩ * g ⟨64 + x.val, by omega⟩ := by
  refine (Fin.sum_univ_add (a := 64) (b := 64) (fun x : Fin (64 + 64) => f x * (if 64 ≤ x.val then g x else 0))).trans ?_
  refine (congrArg₂ (· + ·) (Finset.sum_eq_zero fun x _ => ?_) (Finset.sum_congr rfl fun x _ => ?_)).trans (zero_add _)
  · exact (congrArg _ (if_neg (by show ¬ 64 ≤ x.val; omega))).trans (mul_zero _)
  · exact congrArg _ (if_pos (by show 64 ≤ 64 + x.val; omega))

/-- A block of 256 keys of the diagonal tile. -/
theorem block_range (f : ℕ → EReal) (a w n : ℕ) :
    ∑ k : Fin 256, (if (w + k.val) / 64 ≤ n / 64 then f (a + (w + k.val)) else 0)
      = ∑ k ∈ Finset.range 256, (fun i => if i / 64 ≤ n / 64 then f (a + i) else 0) (w + k) :=
  Fin.sum_univ_eq_sum_range (fun k => if (w + k) / 64 ≤ n / 64 then f (a + (w + k)) else 0) 256

/-- The keys before the query's tile, then the tile in eight blocks under the mask, are all the keys under the mask. -/
theorem sum_tiles (f : ℕ → EReal) (t n : ℕ) (ht : t < 4) (hn : n < 2048) :
    ∑ j ∈ Finset.range (2048 * t), f j
      + (∑ k : Fin 256, (if (0 + k.val) / 64 ≤ n / 64 then f (2048 * t + (0 + k.val)) else 0)
        + ∑ k : Fin 256, (if (256 + k.val) / 64 ≤ n / 64 then f (2048 * t + (256 + k.val)) else 0)
        + ∑ k : Fin 256, (if (512 + k.val) / 64 ≤ n / 64 then f (2048 * t + (512 + k.val)) else 0)
        + ∑ k : Fin 256, (if (768 + k.val) / 64 ≤ n / 64 then f (2048 * t + (768 + k.val)) else 0)
        + ∑ k : Fin 256, (if (1024 + k.val) / 64 ≤ n / 64 then f (2048 * t + (1024 + k.val)) else 0)
        + ∑ k : Fin 256, (if (1280 + k.val) / 64 ≤ n / 64 then f (2048 * t + (1280 + k.val)) else 0)
        + ∑ k : Fin 256, (if (1536 + k.val) / 64 ≤ n / 64 then f (2048 * t + (1536 + k.val)) else 0)
        + ∑ k : Fin 256, (if (1792 + k.val) / 64 ≤ n / 64 then f (2048 * t + (1792 + k.val)) else 0))
      = ∑ k : Fin 8192, if k.val / 64 ≤ (2048 * t + n) / 64 then f k.val else 0 := by
  generalize hg : (fun i => if i / 64 ≤ n / 64 then f (2048 * t + i) else 0) = g
  have b : ∀ w, ∑ k : Fin 256, (if (w + k.val) / 64 ≤ n / 64 then f (2048 * t + (w + k.val)) else 0) = ∑ k ∈ Finset.range 256, g (w + k) :=
    fun w => by rw [block_range, hg]
  rw [b, b, b, b, b, b, b, b]
  have e : ∀ w, ∑ k ∈ Finset.range w, g k + ∑ k ∈ Finset.range 256, g (w + k) = ∑ k ∈ Finset.range (w + 256), g k :=
    fun w => (Finset.sum_range_add g w 256).symm
  have e0 : ∑ k ∈ Finset.range 256, g (0 + k) = ∑ k ∈ Finset.range 256, g k := by simp only [Nat.zero_add]
  rw [e0, e 256, e 512, e 768, e 1024, e 1280, e 1536, e 1792]
  rw [Fin.sum_univ_eq_sum_range (fun k => if k / 64 ≤ (2048 * t + n) / 64 then f k else 0) 8192,
    show 8192 = 2048 * t + (2048 + (6144 - 2048 * t)) by omega,
    Finset.sum_range_add (fun k => if k / 64 ≤ (2048 * t + n) / 64 then f k else 0)]
  rw [Finset.sum_range_add (fun x => if (2048 * t + x) / 64 ≤ (2048 * t + n) / 64 then f (2048 * t + x) else 0)]
  have z : ∑ x ∈ Finset.range (6144 - 2048 * t), (if (2048 * t + (2048 + x)) / 64 ≤ (2048 * t + n) / 64 then f (2048 * t + (2048 + x)) else 0) = 0 :=
    Finset.sum_eq_zero fun x _ => if_neg (by omega)
  refine congrArg₂ (· + ·) ?_ ?_
  · exact Finset.sum_congr rfl fun x hx => (if_pos (by have := Finset.mem_range.mp hx; omega)).symm
  · refine Eq.trans ?_ (congrArg₂ (· + ·) rfl z).symm
    rw [add_zero, ← hg]
    refine Finset.sum_congr rfl fun x _ => ?_
    have : (x / 64 ≤ n / 64) = ((2048 * t + x) / 64 ≤ (2048 * t + n) / 64) := by
      apply propext; omega
    simp only [this]

/-- A power of two, its exponent scaled by the inverse of the logarithm of two, is an exponential. -/
theorem exp2_scaled (s : ℝ) : Ideal.exp2 ((s / Real.log 2 : ℝ) : EReal) = ((Real.exp s : ℝ) : EReal) := by
  show ((Real.rpow 2 (s / Real.log 2) : ℝ) : EReal) = _
  congr 1
  show (2 : ℝ) ^ (s / Real.log 2) = _
  rw [Real.rpow_def_of_pos (by norm_num), mul_div_cancel₀ _ (Real.log_pos (by norm_num)).ne']

/-- The scale of the scores, one eighth. -/
theorem eighth_word : Ideal.ofBits FTy.f32 1040187392#32 = ((1 / 8 : ℝ) : EReal) := by
  simp [Ideal.ofBits, Ideal.ieee, ← EReal.coe_mul]
  norm_num

/-- The number two. -/
theorem two_word : Ideal.ofBits FTy.f32 1073741824#32 = ((2 : ℝ) : EReal) := by
  simp [Ideal.ofBits, Ideal.ieee, ← EReal.coe_mul]
  norm_num

/-! ## The reference on real arguments -/

section Real
open Cert.ReferenceIdeal Cert.ReferenceIdeal.Gen Cert.ReferenceIdeal.Read

/-- A query's score against a key in one half of the head, as a real number. -/
def scr (rq rk : S4x8192x8x2x64.Idx → ℝ) (a : Fin 2) (b : Fin 4) (h : Fin 8) (q k : Fin 8192) : ℝ :=
  (∑ x : Fin 64, rq (ix5 b q h a x) * rk (ix5 b k h a x)) * (1 / 8)

/-- The weight between the two softmaxes, as a real number, but for its constant. -/
def wgt (r5 r6 r7 r8 : S1x64.Idx → ℝ) (w : ℝ) : ℝ :=
  Real.exp (∑ x : Fin 64, r5 (ix2 0 x) * r6 (ix2 0 x)) - Real.exp (∑ x : Fin 64, r7 (ix2 0 x) * r8 (ix2 0 x)) + w

/-- The weight's exponentials on real vectors. -/
theorem weight_real (x5 x6 x7 x8 : S1x64.Idx → EReal) (r5 r6 r7 r8 : S1x64.Idx → ℝ) (h5 : ∀ i, x5 i = r5 i) (h6 : ∀ i, x6 i = r6 i)
    (h7 : ∀ i, x7 i = r7 i) (h8 : ∀ i, x8 i = r8 i) (w : ℝ) :
    Ideal.exp (∑ x : Fin 64, x5 (ix2 0 x) * x6 (ix2 0 x)) - Ideal.exp (∑ x : Fin 64, x7 (ix2 0 x) * x8 (ix2 0 x)) + (w : EReal)
      = (wgt r5 r6 r7 r8 w : EReal) := by
  simp only [h5, h6, h7, h8, ← EReal.coe_mul]
  rw [coe_sum, coe_sum]
  rfl

/-- The weight's constant is a real number. -/
theorem weight_word_real : ∃ w : ℝ, Ideal.ofBits FTy.f32 1052116297#32 = (w : EReal) := by
  simp [Ideal.ofBits, Ideal.ieee, ← EReal.coe_mul]

/-- The reference's score on real arguments. -/
theorem score_real (x0 x1 : S4x8192x8x2x64.Idx → EReal) (rq rk : S4x8192x8x2x64.Idx → ℝ) (hq : ∀ i, x0 i = rq i) (hk : ∀ i, x1 i = rk i)
    (a : Fin 2) (b : Fin 4) (h : Fin 8) (q : Fin 8192) :
    score x0 x1 a b h q = fun k => if k.val / 64 ≤ q.val / 64 then (scr rq rk a b h q k : EReal) else ⊥ := by
  funext k
  unfold score scr
  congr 1
  simp only [hq, hk, ← EReal.coe_mul]
  rw [coe_sum, eighth_word, ← EReal.coe_mul]

/-- The reference's attention before the normalisation, on real arguments. -/
theorem mixed_real (x0 x1 : S4x8192x8x2x64.Idx → EReal) (x2 : S4x8192x8x128.Idx → EReal) (x5 x6 x7 x8 : S1x64.Idx → EReal)
    (rq rk : S4x8192x8x2x64.Idx → ℝ) (rv : S4x8192x8x128.Idx → ℝ) (r5 r6 r7 r8 : S1x64.Idx → ℝ)
    (hq : ∀ i, x0 i = rq i) (hk : ∀ i, x1 i = rk i) (hv : ∀ i, x2 i = rv i) (h5 : ∀ i, x5 i = r5 i) (h6 : ∀ i, x6 i = r6 i)
    (h7 : ∀ i, x7 i = r7 i) (h8 : ∀ i, x8 i = r8 i) (w : ℝ) (hw : Ideal.ofBits FTy.f32 1052116297#32 = (w : EReal))
    (b : Fin 4) (h : Fin 8) (q : Fin 8192) (d : Fin 128) :
    mixed x0 x1 x2 x5 x6 x7 x8 b h q d
      = ∑ k : Fin 8192, (rv (ix4 b k h d) : EReal)
          * (((seen (fun k => k.val / 64 ≤ q.val / 64) (scr rq rk 0 b h q) k / ∑ x, seen (fun k => k.val / 64 ≤ q.val / 64) (scr rq rk 0 b h q) x : ℝ) : EReal)
            - (wgt r5 r6 r7 r8 w : EReal)
              * ((seen (fun k => k.val / 64 ≤ q.val / 64) (scr rq rk 1 b h q) k / ∑ x, seen (fun k => k.val / 64 ≤ q.val / 64) (scr rq rk 1 b h q) x : ℝ) : EReal)) := by
  unfold mixed
  refine Finset.sum_congr rfl fun k _ => ?_
  have ew : val_main_v11 (F := Ideal) x5 x6 x7 x8 ix0 = (wgt r5 r6 r7 r8 w : EReal) :=
    (weight x5 x6 x7 x8 ix0).trans ((congrArg (_ + ·) hw).trans (weight_real x5 x6 x7 x8 r5 r6 r7 r8 h5 h6 h7 h8 w))
  rw [score_real x0 x1 rq rk hq hk, score_real x0 x1 rq rk hq hk,
    soft_real (fun k => k.val / 64 ≤ q.val / 64) (scr rq rk 0 b h q) ⟨0, by omega⟩ (by show 0 / 64 ≤ _; omega) k,
    soft_real (fun k => k.val / 64 ≤ q.val / 64) (scr rq rk 1 b h q) ⟨0, by omega⟩ (by show 0 / 64 ≤ _; omega) k, ew, hv]

end Real

end Cert.Proof.Dense
-- ==== Proof.Kern.lean ====
/- The kernel's block at a grid point, on real arguments, is the reference's formula. -/
module
public import proofs.«01_k».proof.Proof.Block
public import proofs.«01_k».proof.Proof.Inputs
public import proofs.«01_k».proof.Proof.Maths
@[expose] public section
noncomputable section
open Idealize.ShloMosaic Idealize.ShloMosaic.TcCoe Idealize.SL.Sem
namespace Cert.Proof.Attn
open Cert.KernelIdeal Cert.KernelIdeal.Gen Cert.Proof.Dense

section Words
variable (c : Dev nD) (arg3 : Memref sig .tc .vmem S1x128x2048 .bf16) (harg3 : arg3.IsWhole) (x0 : Vec Ideal S1x128x2048 .bf16)
  (arg8 : Memref sig .tc .vmem S1x64 .f32) (harg8 : arg8.IsWhole) (arg9 : Memref sig .tc .vmem S1x64 .f32) (harg9 : arg9.IsWhole)
  (arg10 : Memref sig .tc .vmem S1x64 .f32) (harg10 : arg10.IsWhole) (arg11 : Memref sig .tc .vmem S1x64 .f32) (harg11 : arg11.IsWhole)
  (x5 x6 x7 x8 : Vec Ideal S1x64 .f32)

/-- Comparing a row number with 64 as words: below. -/
theorem slt_small (f : Fin 128) : IntOp.cmpi CmpIPredicate.slt (BitVec.ofNat 32 f.val) 64#32 = BitVec.ofBool (f.val < 64) := by
  revert f; decide +kernel

/-- Comparing a row number with 64 as words: not below. -/
theorem sge_small (f : Fin 128) : IntOp.cmpi CmpIPredicate.sge (BitVec.ofNat 32 f.val) 64#32 = BitVec.ofBool (64 ≤ f.val) := by
  revert f; decide +kernel

/-- The queries with the upper half of the head put to zero. -/
theorem query_low (f : Fin 128) (n : Fin 2048) : kernelRun0_A.sl.r c arg3 harg3 x0 (ix2 f n) = if f.val < 64 then x0 (ix3 0 f n) else 0 := by
  rw [← select_dec, ← slt_small]
  sl_unfold_words
  unfold_payloads
  rw [View.readAt_eq_ld, harg3.read_unread]
  pointwise

/-- The queries with the lower half of the head put to zero. -/
theorem query_high (f : Fin 128) (n : Fin 2048) : kernelRun0_A.sl.r_1 c arg3 harg3 x0 (ix2 f n) = if 64 ≤ f.val then x0 (ix3 0 f n) else 0 := by
  rw [← select_dec, ← sge_small]
  sl_unfold_words
  unfold_payloads
  rw [View.readAt_eq_ld, harg3.read_unread]
  pointwise

/-- The kernel's weight between the two softmaxes. -/
theorem weight_word : kernelRun0_A.sl.r_2 c arg8 harg8 arg9 harg9 arg10 harg10 arg11 harg11 x5 x6 x7 x8 (ix2 0 0)
    = Ideal.exp (∑ x : Fin 64, x5 (ix2 0 x) * x6 (ix2 0 x)) - Ideal.exp (∑ x : Fin 64, x7 (ix2 0 x) * x8 (ix2 0 x)) + Ideal.ofBits FTy.f32 1052116297#32 := by
  sl_unfold_words
  unfold_payloads
  rw [View.readAt_eq_ld, View.readAt_eq_ld, View.readAt_eq_ld, View.readAt_eq_ld, harg8.read_unread, harg9.read_unread, harg10.read_unread, harg11.read_unread]
  pointwise

end Words

/-- The queries' scale is the real number one eighth over the logarithm of two. -/
theorem qscale_real : qscale = ((1 / 8 / Real.log 2 : ℝ) : EReal) := by
  unfold qscale
  rw [eighth_word, two_word]
  have e : Ideal.log ((2 : ℝ) : EReal) = ((Real.log 2 : ℝ) : EReal) := if_neg (by norm_num)
  rw [e]
  exact coe_div _ _ (Real.log_pos (by norm_num)).ne'

section Tile
variable (x0 : Vec Ideal S1x128x2048 .bf16) (x1 : Vec Ideal S1x8192x128 .bf16) (x2 : Vec Ideal S1x128x8192 .bf16)

/-- A kernel's exponential of scaled queries and keys is the exponential of the reference's score. -/
theorem exp_tile (kk qq : Fin 64 → EReal) (rk rq : Fin 64 → ℝ) (hk : ∀ x, kk x = rk x) (hq : ∀ x, qq x = (rq x : EReal) * qscale) :
    Ideal.exp2 (∑ x, kk x * qq x) = ((Real.exp ((∑ x, rq x * rk x) * (1 / 8)) : ℝ) : EReal) := by
  rw [← exp2_scaled]
  simp only [hk, hq, qscale_real, ← EReal.coe_mul]
  rw [coe_sum, Finset.sum_mul, Finset.sum_div]
  exact congrArg (fun r : ℝ => Ideal.exp2 (r : EReal)) (Finset.sum_congr rfl fun x _ => by ring)

/-- The kernel's sum of exponentials over the keys of a query. -/
theorem sumL_eq (Q : FVec Ideal S128x2048 .bf16) (t : ℕ) (ht : t < 4) (n : Fin 2048) (S : Fin 8192 → ℝ)
    (h : ∀ k : Fin 8192, ex x1 Q n k.val = ((Real.exp (S k) : ℝ) : EReal)) :
    sumL x1 Q (2048 * t) n = ((∑ k, seen (fun k => k.val / 64 ≤ (2048 * t + n.val) / 64) S k : ℝ) : EReal) := by
  refine (sum_tiles (ex x1 Q n) t n.val ht n.isLt).trans ?_
  rw [← coe_sum]
  refine Finset.sum_congr rfl fun k _ => ?_
  unfold seen
  split
  · exact h k
  · rfl

/-- The kernel's sum of values under exponentials over the keys of a query. -/
theorem sumA_eq (Q : FVec Ideal S128x2048 .bf16) (t : ℕ) (ht : t < 4) (d : Fin 128) (n : Fin 2048) (S V : Fin 8192 → ℝ)
    (h : ∀ k : Fin 8192, ex x1 Q n k.val = ((Real.exp (S k) : ℝ) : EReal)) (hv : ∀ k : Fin 8192, vx x2 d k.val = (V k : EReal)) :
    sumA x1 x2 Q (2048 * t) d n = ((∑ k, V k * seen (fun k => k.val / 64 ≤ (2048 * t + n.val) / 64) S k : ℝ) : EReal) := by
  refine (sum_tiles (fun j => vx x2 d j * ex x1 Q n j) t n.val ht n.isLt).trans ?_
  rw [← coe_sum]
  refine Finset.sum_congr rfl fun k _ => ?_
  unfold seen
  split
  · rw [h, hv, EReal.coe_mul]
  · rw [mul_zero]; rfl

end Tile

section Point
variable (m : (ℓ : Loc nD τ sig) → Buf (Elt Ideal) ℓ) (c : Dev nD) (t : Fin cfg0.N)
variable (rq rk : S4x8192x8x2x64.Idx → ℝ) (rv : S4x8192x8x128.Idx → ℝ) (r5 r6 r7 r8 : S1x64.Idx → ℝ)
  (hq : ∀ i, aq m c i = rq i) (hk : ∀ i, ak m c i = rk i) (hv : ∀ i, av m c i = rv i)
  (h5 : ∀ i, al m c i = r5 i) (h6 : ∀ i, am m c i = r6 i) (h7 : ∀ i, ao m c i = r7 i) (h8 : ∀ i, ap m c i = r8 i)
include hq hk

/-- The kernel's exponential with the lower half of the head. -/
theorem ex_low (arg3 : Memref sig .tc .vmem S1x128x2048 .bf16) (harg3 : arg3.IsWhole) (n : Fin 2048) (k : Fin 8192) :
    ex (iblk m c 1 t) (kernelRun0_A.sl.r c arg3 harg3 (iblk m c 0 t)) n k.val = ((Real.exp (scr rq rk 0 (bt t) (hd t) (qy t n) k) : ℝ) : EReal) := by
  have e : (⟨k.val % 8192, by omega⟩ : Fin 8192) = k := Fin.ext (Nat.mod_eq_of_lt k.isLt)
  unfold ex kx
  rw [e]
  simp only [query_low]
  refine (congrArg Ideal.exp2 (sum_low (fun f => iblk m c 1 t (ix3 0 k f)) (fun f => iblk m c 0 t (ix3 0 f n)))).trans ?_
  refine exp_tile _ _ (fun x => rk (ix5 (bt t) k (hd t) 0 x)) (fun x => rq (ix5 (bt t) (qy t n) (hd t) 0 x)) (fun x => ?_) (fun x => ?_)
  · refine (block_1 m c t k _).trans ((at5 _ _ _ rfl (Fin.ext (by show x.val / 64 = 0; omega)) (Fin.ext (by show x.val % 64 = x.val; omega))).trans (hk _))
  · refine (block_0 m c t _ n).trans (congrArg (· * qscale) ((at5 _ _ _ rfl (Fin.ext (by show x.val / 64 = 0; omega)) (Fin.ext (by show x.val % 64 = x.val; omega))).trans (hq _)))

/-- The kernel's exponential with the upper half of the head. -/
theorem ex_high (arg3 : Memref sig .tc .vmem S1x128x2048 .bf16) (harg3 : arg3.IsWhole) (n : Fin 2048) (k : Fin 8192) :
    ex (iblk m c 1 t) (kernelRun0_A.sl.r_1 c arg3 harg3 (iblk m c 0 t)) n k.val = ((Real.exp (scr rq rk 1 (bt t) (hd t) (qy t n) k) : ℝ) : EReal) := by
  have e : (⟨k.val % 8192, by omega⟩ : Fin 8192) = k := Fin.ext (Nat.mod_eq_of_lt k.isLt)
  unfold ex kx
  rw [e]
  simp only [query_high]
  refine (congrArg Ideal.exp2 (sum_high (fun f => iblk m c 1 t (ix3 0 k f)) (fun f => iblk m c 0 t (ix3 0 f n)))).trans ?_
  refine exp_tile _ _ (fun x => rk (ix5 (bt t) k (hd t) 1 x)) (fun x => rq (ix5 (bt t) (qy t n) (hd t) 1 x)) (fun x => ?_) (fun x => ?_)
  · refine (block_1 m c t k _).trans ((at5 _ _ _ rfl (Fin.ext (by show (64 + x.val) / 64 = 1; omega)) (Fin.ext (by show (64 + x.val) % 64 = x.val; omega))).trans (hk _))
  · refine (block_0 m c t _ n).trans (congrArg (· * qscale) ((at5 _ _ _ rfl (Fin.ext (by show (64 + x.val) / 64 = 1; omega)) (Fin.ext (by show (64 + x.val) % 64 = x.val; omega))).trans (hq _)))

include hv h5 h6 h7 h8

/-- The kernel's attention before the normalisation is the reference's. -/
theorem mix_point (arg3 : Memref sig .tc .vmem S1x128x2048 .bf16) (harg3 : arg3.IsWhole)
    (arg8 : Memref sig .tc .vmem S1x64 .f32) (harg8 : arg8.IsWhole) (arg9 : Memref sig .tc .vmem S1x64 .f32) (harg9 : arg9.IsWhole)
    (arg10 : Memref sig .tc .vmem S1x64 .f32) (harg10 : arg10.IsWhole) (arg11 : Memref sig .tc .vmem S1x64 .f32) (harg11 : arg11.IsWhole)
    (n : Fin 2048) (d : Fin 128) :
    mixO (fun d => sumA (iblk m c 1 t) (iblk m c 2 t) (kernelRun0_A.sl.r c arg3 harg3 (iblk m c 0 t)) (2048 * (grid0.coords t 2).val) d n)
      (fun d => sumA (iblk m c 1 t) (iblk m c 2 t) (kernelRun0_A.sl.r_1 c arg3 harg3 (iblk m c 0 t)) (2048 * (grid0.coords t 2).val) d n)
      (sumL (iblk m c 1 t) (kernelRun0_A.sl.r c arg3 harg3 (iblk m c 0 t)) (2048 * (grid0.coords t 2).val) n)
      (sumL (iblk m c 1 t) (kernelRun0_A.sl.r_1 c arg3 harg3 (iblk m c 0 t)) (2048 * (grid0.coords t 2).val) n)
      (kernelRun0_A.sl.r_2 c arg8 harg8 arg9 harg9 arg10 harg10 arg11 harg11 (iblk m c 5 t) (iblk m c 6 t) (iblk m c 7 t) (iblk m c 8 t) (ix2 0 0)) d
    = mixed (aq m c) (ak m c) (av m c) (al m c) (am m c) (ao m c) (ap m c) (bt t) (hd t) (qy t n) d := by
  obtain ⟨w, hw⟩ := weight_word_real
  have ht : (grid0.coords t 2).val < 4 := (grid0.coords t 2).isLt
  have e0 := ex_low m c t rq rk hq hk arg3 harg3 n
  have e1 := ex_high m c t rq rk hq hk arg3 harg3 n
  have ev : ∀ (k : Fin 8192), vx (iblk m c 2 t) d k.val = (rv (ix4 (bt t) k (hd t) d) : EReal) := by
    intro k
    have e : (⟨k.val % 8192, by omega⟩ : Fin 8192) = k := Fin.ext (Nat.mod_eq_of_lt k.isLt)
    unfold vx
    rw [e]
    exact (block_2 m c t d k).trans (hv _)
  have el : kernelRun0_A.sl.r_2 c arg8 harg8 arg9 harg9 arg10 harg10 arg11 harg11 (iblk m c 5 t) (iblk m c 6 t) (iblk m c 7 t) (iblk m c 8 t) (ix2 0 0)
      = (wgt r5 r6 r7 r8 w : EReal) := by
    refine (weight_word ..).trans ?_
    have b5 : ∀ x, (iblk m c 5 t : S1x64.Idx → EReal) (ix2 0 x) = al m c (ix2 0 x) := block_5 m c t
    have b6 : ∀ x, (iblk m c 6 t : S1x64.Idx → EReal) (ix2 0 x) = am m c (ix2 0 x) := block_6 m c t
    have b7 : ∀ x, (iblk m c 7 t : S1x64.Idx → EReal) (ix2 0 x) = ao m c (ix2 0 x) := block_7 m c t
    have b8 : ∀ x, (iblk m c 8 t : S1x64.Idx → EReal) (ix2 0 x) = ap m c (ix2 0 x) := block_8 m c t
    refine Eq.trans ?_ (weight_real (al m c) (am m c) (ao m c) (ap m c) r5 r6 r7 r8 h5 h6 h7 h8 w)
    refine congrArg₂ (· + ·) (congrArg₂ (· - ·) (congrArg Ideal.exp (Finset.sum_congr rfl fun x _ => ?_)) (congrArg Ideal.exp (Finset.sum_congr rfl fun x _ => ?_))) hw
    · exact congrArg₂ (· * ·) (b5 x) (b6 x)
    · exact congrArg₂ (· * ·) (b7 x) (b8 x)
  have p := fun S => seen_pos (fun k => k.val / 64 ≤ (qy t n).val / 64) S ⟨0, by omega⟩ (by show 0 / 64 ≤ _; omega)
  unfold mixO
  rw [el]
  beta_reduce
  rw [sumL_eq _ _ _ ht n _ e0, sumL_eq _ _ _ ht n _ e1, sumA_eq _ _ _ _ ht d n _ _ e0 ev, sumA_eq _ _ _ _ ht d n _ _ e1 ev]
  refine (mix_real _ _ _ _ _ _ (p _).ne' (p _).ne').trans ?_
  exact (mixed_real (aq m c) (ak m c) (av m c) (al m c) (am m c) (ao m c) (ap m c) rq rk rv r5 r6 r7 r8 hq hk hv h5 h6 h7 h8 w hw (bt t) (hd t) (qy t n) d).symm

end Point
end Cert.Proof.Attn
-- ==== Proof.Final.lean ====
/- The kernel's result array is the reference's, and the precondition's masks read as "every entry is a real number". -/
module
public import proofs.«01_k».proof.Proof.Out
public import proofs.«01_k».proof.Proof.Kern
public import proofs.«01_k».proof.Proof.Ref
public import proofs.«01_k».proof.Proof.Gen.KernelIdeal.Value
public import Idealize.ShloMosaic.Lib.Pointwise
public import Idealize.ShloMosaic.Lib.Pipeline.ValueKit.Geometry
@[expose] public section
noncomputable section
open Idealize.ShloMosaic Idealize.ShloMosaic.TcCoe Idealize.SL.Sem
namespace Cert.Proof.Attn
open Cert.KernelIdeal Cert.KernelIdeal.Gen Cert.KernelIdeal.Value Cert.Proof.Dense

variable (m : (ℓ : Loc nD τ sig) → Buf (Elt Ideal) ℓ) (c : Dev nD)

/-- The reference's result at the arguments the kernel was launched with. -/
def res : S4x1024x8192.Idx → EReal :=
  Cert.ReferenceIdeal.Read.val_main_v83 (F := Ideal) (aq m c) (ak m c) (av m c) (ag m c) (an m c) (al m c) (am m c) (ao m c) (ap m c)

/-- Where the result's block stands at a grid point: entry `(0, d, n)` of the block is this entry of the array. -/
theorem place (t : Fin cfg0.N) (d : Fin 128) (n : Fin 2048) (X : S4x1024x8192.Idx → EReal) :
    (((cfg0.win 9).blk t).view.read (Elt Ideal) X : S1x128x2048.Idx → EReal) (ix3 0 d n) = X (ix3 (bt t) (hrow (hd t) d) (qy t n)) := by
  obtain ⟨h0, h1, h2⟩ := index9 t
  rw [View.read_apply]
  show X _ = X _
  congr 1
  funext a
  apply Fin.ext
  match a with
  | ⟨0, _⟩ => show win0_9.index t 0 * 1 + 1 * 0 = (bt t).val; rw [h0]; show (bt t).val * 1 + 1 * 0 = _; omega
  | ⟨1, _⟩ => show win0_9.index t 1 * 128 + 1 * d.val = (hrow (hd t) d).val; rw [h1]; show (hd t).val * 128 + 1 * d.val = (hd t).val * 128 + d.val; omega
  | ⟨2, _⟩ => show win0_9.index t 2 * 2048 + 1 * n.val = (qy t n).val; rw [h2]; show (tl t).val * 2048 + 1 * n.val = 2048 * (tl t).val + n.val; omega

section Point
variable (rq rk : S4x8192x8x2x64.Idx → ℝ) (rv : S4x8192x8x128.Idx → ℝ) (r5 r6 r7 r8 : S1x64.Idx → ℝ)
  (hq : ∀ i, aq m c i = rq i) (hk : ∀ i, ak m c i = rk i) (hv : ∀ i, av m c i = rv i)
  (h5 : ∀ i, al m c i = r5 i) (h6 : ∀ i, am m c i = r6 i) (h7 : ∀ i, ao m c i = r7 i) (h8 : ∀ i, ap m c i = r8 i)
include hq hk hv h5 h6 h7 h8

/-- One entry of the block a grid point leaves is the reference's entry at the block's place. -/
theorem out_point (t : Fin cfg0.N) (arg3 : Memref sig .tc .vmem S1x128x2048 .bf16) (harg3 : arg3.IsWhole)
    (arg8 : Memref sig .tc .vmem S1x64 .f32) (harg8 : arg8.IsWhole) (arg9 : Memref sig .tc .vmem S1x64 .f32) (harg9 : arg9.IsWhole)
    (arg10 : Memref sig .tc .vmem S1x64 .f32) (harg10 : arg10.IsWhole) (arg11 : Memref sig .tc .vmem S1x64 .f32) (harg11 : arg11.IsWhole)
    (d : Fin 128) (n : Fin 2048) :
    outV (grid0.coords t) c arg3 harg3 arg8 harg8 arg9 harg9 arg10 harg10 arg11 harg11 (iblk m c 0 t) (iblk m c 1 t) (iblk m c 2 t) (iblk m c 3 t) (iblk m c 4 t) (iblk m c 5 t) (iblk m c 6 t) (iblk m c 7 t) (iblk m c 8 t) d n
      = res m c (ix3 (bt t) (hrow (hd t) d) (qy t n)) := by
  have e := funext fun d => mix_point m c t rq rk rv r5 r6 r7 r8 hq hk hv h5 h6 h7 h8 arg3 harg3 arg8 harg8 arg9 harg9 arg10 harg10 arg11 harg11 n d
  have e3 : (iblk m c 3 t : S1x128x2048.Idx → EReal) (ix3 0 d n) = _ := block_3 m c t d n
  have e4 : (iblk m c 4 t : S128x2048.Idx → EReal) (ix2 d n) = _ := block_4 m c t d n
  have eh : (⟨(hrow (hd t) d).val / 128, by omega⟩ : Fin 8) = hd t := Fin.ext (by
    show ((hd t).val * 128 + d.val) / 128 = (hd t).val; omega)
  have ed : (⟨(hrow (hd t) d).val % 128, by omega⟩ : Fin 128) = d := Fin.ext (by
    show ((hd t).val * 128 + d.val) % 128 = d.val; omega)
  unfold outV
  refine (congrArg (fun f => finO f _ _ d) e).trans ?_
  refine (congrArg₂ (fun a b => finO _ a b d) e4 e3).trans ?_
  unfold res
  refine Eq.trans ?_ (result ..).symm
  rw [eh, ed]
  rfl

/-- What a grid point writes back is the reference's result, read through the point's block. -/
theorem flushed_eq (t : Fin cfg0.N) : (dats m 0 c).flushed 9 t = ((cfg0.win 9).blk t).view.read (Elt Ideal) (res m c) := by
  rw [flushed9_A]
  refine funext fun (j : S1x128x2048.Idx) => ?_
  have ej : j = ix3 0 (j 1) (j 2) := (ix3_eta j).symm.trans (congrArg (fun z => ix3 z (j 1) (j 2)) (Subsingleton.elim (α := Fin 1) _ _))
  rw [ej]
  refine Eq.trans ?_ (place t (j 1) (j 2) (res m c)).symm
  exact (out_eq ..).trans (out_point m c rq rk rv r5 r6 r7 r8 hq hk hv h5 h6 h7 h8 t _ _ _ _ _ _ _ _ _ _ (j 1) (j 2))

/-- The kernel's result array is the reference's result. -/
theorem array_eq : (dats m 0 c).arrAt 9 cfg0.N = res m c :=
  (dats m 0 c).arrAt_eq_of_cover 9 (res m c) (fun t _ => flushed_eq m c rq rk rv r5 r6 r7 r8 hq hk hv h5 h6 h7 h8 t)
    ((by decide +kernel : (cfg0.win 9).Covers).cover _ (Memref.isWhole_whole _))
end Point

/-- A mask "the absolute value is below infinity" that holds everywhere says that every entry is a real number. -/
theorem real_of_mask {s : Shape} {x y : s.Idx → EReal} (hy : ∀ i, y i = (⊤ : EReal))
    (h : cmpf (F := Ideal) (φ := .f32) .olt (Host.absf (F := Ideal) (φ := .f32) x) y = fun _ => 1#1) : ∃ r : s.Idx → ℝ, ∀ i, x i = r i := by
  have hx : ∀ i, ∃ r : ℝ, x i = r := by
    intro i
    have hi := congrFun h i
    have hi' : FloatOps.cmpf (F := Ideal) (φ := .f32) .olt (FloatOps.absf (F := Ideal) (φ := .f32) (x i)) (y i) = 1#1 := hi
    rw [hy] at hi'
    have hlt : max (x i) (-(x i)) < (⊤ : EReal) := by
      by_contra hn
      have hz : FloatOps.cmpf (F := Ideal) (φ := .f32) .olt (FloatOps.absf (F := Ideal) (φ := .f32) (x i)) (⊤ : EReal) = BitVec.ofBool (decide (max (x i) (-(x i)) < (⊤ : EReal))) := rfl
      rw [hz, decide_eq_false hn] at hi'
      exact absurd hi' (by decide)
    have h1 : x i ≠ ⊤ := fun e => by simp [e] at hlt
    have h2 : x i ≠ ⊥ := fun e => by simp [e] at hlt
    exact ⟨(x i).toReal, (EReal.coe_toReal h1 h2).symm⟩
  choose r hr using hx
  exact ⟨r, hr⟩

/-- The word of infinity at the ideal floats. -/
theorem top_word : Ideal.ofBits FTy.f32 2139095040#32 = ⊤ := by
  simp [Ideal.ofBits, Ideal.ieee]
end Cert.Proof.Attn
-- ==== Proof.Algebraic.lean ====
/- The algebraic claim: the kernel and the reference, run on finite arguments that agree, leave the same result. -/
module
public import proofs.«01_k».proof.Defs
public import proofs.«01_k».proof.Proof.Final
public import proofs.«01_k».proof.Proof.Gen.Pre_finite
public import proofs.«01_k».proof.Proof.Gen.ReferenceIdeal.Run
@[expose] public section
noncomputable section
open Idealize.ShloMosaic Idealize.ShloMosaic.TcCoe Idealize.SL.Sem
namespace Cert.Proof.Attn

/-- Both programs leave the reference's result at the arguments. -/
theorem algebraic_holds : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hag
  refine ⟨fun c => res m c, ?_, ?_⟩
  · refine (θ_run _ _ _).mono (fun r h c => ⟨(h c).1.trans ?_, (h c).2⟩) (Cert.KernelIdeal.Value.run_blocks m g)
    obtain ⟨p0, p1, p2, p5, p6, p7, p8⟩ := hpre c
    obtain ⟨rq, hq⟩ := real_of_mask (x := aq m c) (fun _ => top_word) p0
    obtain ⟨rk, hk⟩ := real_of_mask (x := ak m c) (fun _ => top_word) p1
    obtain ⟨rv, hv⟩ := real_of_mask (x := av m c) (fun _ => top_word) p2
    obtain ⟨r5, h5⟩ := real_of_mask (x := al m c) (fun _ => top_word) p5
    obtain ⟨r6, h6⟩ := real_of_mask (x := am m c) (fun _ => top_word) p6
    obtain ⟨r7, h7⟩ := real_of_mask (x := ao m c) (fun _ => top_word) p7
    obtain ⟨r8, h8⟩ := real_of_mask (x := ap m c) (fun _ => top_word) p8
    exact array_eq m c rq rk rv r5 r6 r7 r8 hq hk hv h5 h6 h7 h8
  · refine (θ_run _ _ _).mono (fun r h c => ⟨(h c).1.trans ?_, (h c).2⟩) (Cert.ReferenceIdeal.Value.run m' g')
    obtain ⟨e0, e1, e2, e3, e4, e5, e6, e7, e8⟩ := hag c
    rw [Cert.ReferenceIdeal.Read.val_main_v83_eq, e0, e1, e2, e3, e4, e5, e6, e7, e8]
    rfl
end Cert.Proof.Attn
-- ==== Proof.ProjMaths.lean ====
/- The projection call's values as functions of its arguments. -/
module
public import Idealize.ShloMosaic.Lib.Pointwise
@[expose] public section
noncomputable section
open Idealize.ShloMosaic Idealize.ShloMosaic.TcCoe Idealize.SL.Sem
namespace Cert.Proof.Proj

/-- RMS-normalising a vector `f` of `n` entries by the word of `n` and the gains `g`. -/
def rms {n : ℕ} (w : BitVec 32) (f g : Fin n → EReal) (e : Fin n) : EReal :=
  f e * Ideal.rsqrt (Ideal.div (∑ x, f x * f x) (Ideal.ofBits FTy.f32 w) + Ideal.ofBits FTy.f32 897988541#32) * g e

/-- Rotating a head's vector: the first half's entries against the second's. -/
def rot (f : Fin 64 → EReal) (cs sn : Fin 32 → EReal) (e : Fin 64) : EReal :=
  if h : e.val < 32 then f e * cs ⟨e.val, h⟩ - f ⟨32 + e.val, by omega⟩ * sn ⟨e.val, h⟩
  else f ⟨32 + (e.val - 32), by omega⟩ * cs ⟨e.val - 32, by omega⟩ + f ⟨e.val - 32, by omega⟩ * sn ⟨e.val - 32, by omega⟩

/-- `x` times the logistic function of `x`. -/
def sil (x : EReal) : EReal := x * Ideal.div 1 (1 + Ideal.exp (-x))

/-- The angle by which a position turns a pair of entries. -/
def ang (s : Fin 8192) (e : Fin 32) : EReal :=
  FloatOps.sitofp (F := Ideal) FTy.f32 (BitVec.ofNat 32 s.val) * Ideal.div 1
    (Ideal.pow (Ideal.ofBits FTy.f32 1176256512#32)
      (Ideal.div (Ideal.ofBits FTy.f32 1073741824#32 * FloatOps.sitofp (F := Ideal) FTy.f32 (BitVec.ofNat 32 e.val))
        (Ideal.ofBits FTy.f32 1115684864#32)))

/-- The queries' scale: one eighth over the logarithm of two. -/
def fold : EReal := (((1 / 8) * (Real.log 2)⁻¹ : ℝ) : EReal)

section Stream
variable (X Y : (⟨3, ![4, 8192, 1024]⟩ : Shape).Idx → EReal) (W : (⟨3, ![1, 1024, 1024]⟩ : Shape).Idx → EReal)
  (G : (⟨2, ![1, 1024]⟩ : Shape).Idx → EReal) (I : (⟨3, ![1, 1024, 4096]⟩ : Shape).Idx → EReal)
  (N : (⟨2, ![1, 64]⟩ : Shape).Idx → EReal) (b : Fin 4) (s : Fin 8192)

/-- The residual stream after the even mixer's output product. -/
def stream (d : Fin 1024) : EReal := X (ix3 b s d) + ∑ j : Fin 1024, W (ix3 0 j d) * Y (ix3 b s j)

/-- The stream normalised. -/
def normed (d : Fin 1024) : EReal := rms 1149239296#32 (stream X Y W b s) (fun d => G (ix2 0 d)) d

/-- The projection of the normalised stream. -/
def proj (r : Fin 4096) : EReal := ∑ d : Fin 1024, I (ix3 0 d r) * normed X Y W G b s d

/-- A head's normalised and rotated entries, the head's projection beginning at row `o`. -/
def head (o : ℕ) (ho : o ≤ 3072) (h : Fin 16) (e : Fin 64) : EReal :=
  rot (rms 1115684864#32 (fun e => proj X Y W G I b s ⟨o + (h.val * 64 + e.val), by omega⟩) (fun e => N (ix2 0 e)))
    (fun e => Ideal.cos (ang s e)) (fun e => Ideal.sin (ang s e)) e
end Stream
end Cert.Proof.Proj
-- ==== Proof.ProjBody.lean ====
/- What the projection call leaves in its staging buffers, entry by entry. -/
module
public import proofs.«01_k».proof.Proof.Gen.Kernel2Ideal.Frame
public import Idealize.ShloMosaic.Lib.Pointwise
public import proofs.«01_k».proof.Proof.ProjMaths
@[expose] public section
noncomputable section
open Idealize.ShloMosaic Idealize.ShloMosaic.TcCoe Idealize.SL.Sem
namespace Cert.Proof.Proj

open Cert.Kernel2Ideal Cert.Kernel2Ideal.Gen

/-- The residual stream: the input and the product with the output weights. -/
theorem pay3_at (v0 : Vec Ideal S1024x1024 .bf16) (v2 : Vec Ideal S1x1024x512 .bf16) (v5 : Vec Ideal S512x1024 .f32) (d : Fin 1024) (n : Fin 512) :
    k0_pay3 (F := Ideal) v0 v2 v5 (ix2 d n) = v5 (ix2 n d) + ∑ j : Fin 1024, v0 (ix2 d j) * v2 (ix3 0 j n) := by
  unfold k0_pay3
  pointwise

/-- The normalised stream. -/
theorem pay5_at (v0 : Vec Ideal S1024x1024 .bf16) (v2 : Vec Ideal S1x1024x512 .bf16) (v5 : Vec Ideal S512x1024 .f32) (v22 : Vec Ideal S1024x1 .f32)
    (d : Fin 1024) (n : Fin 512) :
    k0_pay5 (F := Ideal) v0 v2 v5 v22 (ix2 d n)
      = rms 1149239296#32 (fun d => k0_pay3 (F := Ideal) v0 v2 v5 (ix2 d n)) (fun d => v22 (ix2 d 0)) d := by
  unfold k0_pay5
  pointwise [pay3_at, rms]

/-- A block of the projection. -/
theorem pay9_at (h : FVec Ideal S1024x512 .bf16) (w : Vec Ideal S1024x1024 .bf16) (r : Fin 1024) (n : Fin 512) :
    k0_pay9 (F := Ideal) h w (ix2 r n) = ∑ d : Fin 1024, w (ix2 r d) * h (ix2 d n) := by
  unfold k0_pay9
  pointwise

/-- Normalised and rotated keys of a head. -/
theorem pay12_at (v28 v30 : FVec Ideal S32x512 .f32) (v33 : FVec Ideal S1024x512 .f32) (v43 : Vec Ideal S64x512 .f32) (h : Fin 16) (e : Fin 64) (n : Fin 512) :
    k0_pay12 (F := Ideal) v28 v30 v33 v43 (ix2 n ⟨h.val * 64 + e.val, by omega⟩)
      = rot (rms 1115684864#32 (fun e => v33 (ix2 ⟨h.val * 64 + e.val, by omega⟩ n)) (fun e => v43 (ix2 e n)))
        (fun e => v28 (ix2 e n)) (fun e => v30 (ix2 e n)) e := by
  unfold k0_pay12
  pointwise [rms, rot]

/-- Normalised, rotated and scaled queries of a head. -/
theorem pay13_at (v28 v30 : FVec Ideal S32x512 .f32) (v34 : FVec Ideal S1024x512 .f32) (v77 : Vec Ideal S64x512 .f32) (h : Fin 16) (e : Fin 64) (n : Fin 512) :
    k0_pay13 (F := Ideal) v28 v30 v34 v77 (ix3 0 ⟨h.val * 64 + e.val, by omega⟩ n)
      = rot (rms 1115684864#32 (fun e => v34 (ix2 ⟨h.val * 64 + e.val, by omega⟩ n)) (fun e => v77 (ix2 e n)))
        (fun e => v28 (ix2 e n)) (fun e => v30 (ix2 e n)) e * Named.named (F := Ideal) (φ := .f32) Cert.Kernel2Ideal.κ "q_fold" 0x3E38AA3B#32 := by
  unfold k0_pay13
  pointwise [rms, rot]

/-- Zero less a number is its opposite. -/
theorem zero_less (x : EReal) : 0 - x = -x := by
  rw [sub_eq_add_neg, zero_add]

/-- The gate's activation. -/
theorem pay14_at (v39 : FVec Ideal S1024x512 .f32) (d : Fin 1024) (n : Fin 512) : k0_pay14 (F := Ideal) v39 (ix2 d n) = sil (v39 (ix2 d n)) := by
  unfold k0_pay14
  pointwise [sil, zero_less]

/-- The residual stream as it is stored. -/
theorem pay4_at (v0 : Vec Ideal S1024x1024 .bf16) (v2 : Vec Ideal S1x1024x512 .bf16) (v5 : Vec Ideal S512x1024 .f32) (d : Fin 1024) (n : Fin 512) :
    k0_pay4 (F := Ideal) v0 v2 v5 (ix3 0 d n) = k0_pay3 (F := Ideal) v0 v2 v5 (ix2 d n) := by
  unfold k0_pay4
  generalize k0_pay3 (F := Ideal) v0 v2 v5 = R
  pointwise

/-- The gate as it is stored. -/
theorem pay1_at (v : FVec Ideal S1024x512 .f32) (d : Fin 1024) (n : Fin 512) : k0_pay1 (F := Ideal) v (ix3 0 d n) = v (ix2 d n) := by
  unfold k0_pay1
  pointwise

/-- The values as they are stored. -/
theorem pay2_at (v : FVec Ideal S1024x512 .f32) (d : Fin 1024) (n : Fin 512) : k0_pay2 (F := Ideal) v (ix3 0 d n) = v (ix2 d n) := by
  unfold k0_pay2
  pointwise

/-- A block of the projection: the gate. -/
theorem pay10_at (h : FVec Ideal S1024x512 .bf16) (w : Vec Ideal S1024x1024 .bf16) (r : Fin 1024) (n : Fin 512) :
    k0_pay10 (F := Ideal) h w (ix2 r n) = ∑ d : Fin 1024, w (ix2 r d) * h (ix2 d n) := by
  unfold k0_pay10
  pointwise

/-- A block of the projection: the values. -/
theorem pay11_at (h : FVec Ideal S1024x512 .bf16) (w : Vec Ideal S1024x1024 .bf16) (r : Fin 1024) (n : Fin 512) :
    k0_pay11 (F := Ideal) h w (ix2 r n) = ∑ d : Fin 1024, w (ix2 r d) * h (ix2 d n) := by
  unfold k0_pay11
  pointwise

/-- A block of the projection: the keys. -/
theorem pay8_at (v0 : Vec Ideal S1024x1024 .bf16) (v2 : Vec Ideal S1x1024x512 .bf16) (v5 : Vec Ideal S512x1024 .f32) (v22 : Vec Ideal S1024x1 .f32)
    (w : Vec Ideal S1024x1024 .bf16) (r : Fin 1024) (n : Fin 512) :
    k0_pay8 (F := Ideal) v0 v2 v5 v22 w (ix2 r n) = ∑ d : Fin 1024, w (ix2 r d) * k0_pay5 (F := Ideal) v0 v2 v5 v22 (ix2 d n) := by
  unfold k0_pay8
  generalize k0_pay5 (F := Ideal) v0 v2 v5 v22 = R
  pointwise

/-- The queries' scale is the named constant. -/
theorem named_fold : Named.named (F := Ideal) (φ := .f32) Cert.Kernel2Ideal.κ "q_fold" 0x3E38AA3B#32 = fold :=
  IdealRules.named_const.ideal_named_scalar _ _ _ _ rfl

/-- A store of a whole tile leaves the tile. -/
theorem idx_1 (x : S1x1024x512.Idx) : r0_1.idx x = x := by
  funext a; apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

/-- A store of a whole tile leaves the tile. -/
theorem idx_2 (x : S512x1024.Idx) : r0_2.idx x = x := by
  funext a; apply Fin.ext
  match a with
  | ⟨0, _⟩ => show 0 + 1 * (x 0).val = (x 0).val; omega
  | ⟨1, _⟩ => show 0 + 1 * (x 1).val = (x 1).val; omega

/-- What one store of a whole tile leaves. -/
theorem canon_1 {φ : EltTy} (P : Vec Ideal S1x1024x512 φ) (y : S1x1024x512.Idx) : View.canon [⟨r0_1, P⟩] y = P y := by
  refine View.canon_apply_of_pieces P _ ?_ y (View.cover_of_tiled [⟨r0_1, P⟩] S1x1024x512.size (by rfl) y)
  intro pc hpc
  rcases List.mem_cons.mp hpc with rfl | hpc
  · exact fun x => congrArg P (idx_1 x).symm
  · nomatch hpc

/-- What one store of a whole tile leaves. -/
theorem canon_2 {φ : EltTy} (P : Vec Ideal S512x1024 φ) (y : S512x1024.Idx) : View.canon [⟨r0_2, P⟩] y = P y := by
  refine View.canon_apply_of_pieces P _ ?_ y (View.cover_of_tiled [⟨r0_2, P⟩] S512x1024.size (by rfl) y)
  intro pc hpc
  rcases List.mem_cons.mp hpc with rfl | hpc
  · exact fun x => congrArg P (idx_2 x).symm
  · nomatch hpc

section Tiles
variable (x0 : Vec Ideal S512x1024 .f32) (x1 : Vec Ideal S1x1024x512 .bf16) (x2 : Vec Ideal S1024x1024 .bf16) (x3 : Vec Ideal S1024x1 .f32)
  (x4 : Vec Ideal S4096x1024 .bf16) (x5 x6 : Vec Ideal S32x512 .f32) (x7 x8 : Vec Ideal S64x512 .f32)
  (X Y : (⟨3, ![4, 8192, 1024]⟩ : Shape).Idx → EReal) (W : (⟨3, ![1, 1024, 1024]⟩ : Shape).Idx → EReal)
  (G : (⟨2, ![1, 1024]⟩ : Shape).Idx → EReal) (I : (⟨3, ![1, 1024, 4096]⟩ : Shape).Idx → EReal)
  (Q K : (⟨2, ![1, 64]⟩ : Shape).Idx → EReal) (b : Fin 4) (s : Fin 8192) (n : Fin 512)

/-- The rows of the weights a load takes. -/
theorem ld_rows (o : ℕ) (ho : o ≤ 3072) (h : ∀ a, (![o, 0] : Fin 2 → ℕ) a + S1024x1024.size a ≤ S4096x1024.size a) (r : Fin 1024) (d : Fin 1024) :
    (View.ld x4 (Rect.unit (s := S4096x1024) ![o, 0] S1024x1024.size h) : S1024x1024.Idx → EReal) (ix2 r d) = x4 (ix2 ⟨o + r.val, by omega⟩ d) := by
  show x4 _ = x4 _
  congr 1
  funext a; apply Fin.ext
  match a with
  | ⟨0, _⟩ => show o + 1 * r.val = o + r.val; omega
  | ⟨1, _⟩ => show 0 + 1 * d.val = d.val; omega

variable (h0 : ∀ d, x0 (ix2 n d) = X (ix3 b s d)) (h1 : ∀ j, x1 (ix3 0 j n) = Y (ix3 b s j)) (h2 : ∀ d j, x2 (ix2 d j) = W (ix3 0 j d))
  (h3 : ∀ d, x3 (ix2 d 0) = G (ix2 0 d)) (h4 : ∀ r d, x4 (ix2 r d) = I (ix3 0 d r))
  (h5 : ∀ e, x5 (ix2 e n) = Ideal.cos (ang s e)) (h6 : ∀ e, x6 (ix2 e n) = Ideal.sin (ang s e))
  (h7 : ∀ e, x7 (ix2 e n) = Q (ix2 0 e)) (h8 : ∀ e, x8 (ix2 e n) = K (ix2 0 e))

/-- A load of a whole tile. -/
theorem ld_0 : (View.ld x2 r0_0 : S1024x1024.Idx → EReal) = x2 := by
  funext y
  show x2 _ = x2 _
  congr 1
  funext a; apply Fin.ext
  match a with
  | ⟨0, _⟩ => show 0 + 1 * (y 0).val = (y 0).val; omega
  | ⟨1, _⟩ => show 0 + 1 * (y 1).val = (y 1).val; omega

/-- A load of a whole tile. -/
theorem ld_1 : (View.ld x1 r0_1 : S1x1024x512.Idx → EReal) = x1 := funext fun y => congrArg x1 (idx_1 y)

/-- A load of a whole tile. -/
theorem ld_2 : (View.ld x0 r0_2 : S512x1024.Idx → EReal) = x0 := funext fun y => congrArg x0 (idx_2 y)

/-- A load of a whole tile. -/
theorem ld_3 : (View.ld x3 r0_3 : S1024x1.Idx → EReal) = x3 := by
  funext y
  show x3 _ = x3 _
  congr 1
  funext a; apply Fin.ext
  match a with
  | ⟨0, _⟩ => show 0 + 1 * (y 0).val = (y 0).val; omega
  | ⟨1, _⟩ => show 0 + 1 * (y 1).val = (y 1).val; omega

/-- A load of a whole tile. -/
theorem ld_4 : (View.ld x5 r0_4 : S32x512.Idx → EReal) = x5 := by
  funext y
  show x5 _ = x5 _
  congr 1
  funext a; apply Fin.ext
  match a with
  | ⟨0, _⟩ => show 0 + 1 * (y 0).val = (y 0).val; omega
  | ⟨1, _⟩ => show 0 + 1 * (y 1).val = (y 1).val; omega

/-- A load of a whole tile. -/
theorem ld_9 : (View.ld x7 r0_9 : S64x512.Idx → EReal) = x7 := by
  funext y
  show x7 _ = x7 _
  congr 1
  funext a; apply Fin.ext
  match a with
  | ⟨0, _⟩ => show 0 + 1 * (y 0).val = (y 0).val; omega
  | ⟨1, _⟩ => show 0 + 1 * (y 1).val = (y 1).val; omega

/-- The cosines of the tile. -/
theorem pay16_at (e : Fin 32) : k0_pay16 (F := Ideal) x0 x1 x2 x3 x4 x5 x6 x7 x8 (ix2 e n) = x5 (ix2 e n) := by
  unfold k0_pay16 k0_pay6
  rw [ld_4]
  pointwise

/-- The sines of the tile. -/
theorem pay17_at (e : Fin 32) : k0_pay17 (F := Ideal) x0 x1 x2 x3 x4 x5 x6 x7 x8 (ix2 e n) = x6 (ix2 e n) := by
  unfold k0_pay17 k0_pay7
  rw [ld_4]
  pointwise

include h0 h1 h2 in
/-- The tile's residual stream. -/
theorem stream_tile (d : Fin 1024) : k0_pay3 (F := Ideal) (View.ld x2 r0_0) (View.ld x1 r0_1) (View.ld x0 r0_2) (ix2 d n) = stream X Y W b s d := by
  rw [ld_0, ld_1, ld_2, pay3_at, h0]
  exact congrArg _ (Finset.sum_congr rfl fun j _ => congrArg₂ (· * ·) (h2 d j) (h1 j))

include h0 h1 h2 h3 in
/-- The tile's normalised stream. -/
theorem normed_tile (d : Fin 1024) : k0_pay15 (F := Ideal) x0 x1 x2 x3 x4 x5 x6 x7 x8 (ix2 d n) = normed X Y W G b s d := by
  unfold k0_pay15
  rw [pay5_at, ld_3]
  unfold normed
  exact congrArg₂ (fun f g => rms _ f g d) (funext fun d => stream_tile x0 x1 x2 X Y W b s n h0 h1 h2 d) (funext h3)

include h0 h1 h2 h3 h4 in
/-- Rows of the tile's projection. -/
theorem proj_tile (o : ℕ) (ho : o ≤ 3072) (h : ∀ a, (![o, 0] : Fin 2 → ℕ) a + S1024x1024.size a ≤ S4096x1024.size a) (r : Fin 1024) :
    (∑ d : Fin 1024, (View.ld x4 (Rect.unit (s := S4096x1024) ![o, 0] S1024x1024.size h) : S1024x1024.Idx → EReal) (ix2 r d) * k0_pay15 (F := Ideal) x0 x1 x2 x3 x4 x5 x6 x7 x8 (ix2 d n))
      = proj X Y W G I b s ⟨o + r.val, by omega⟩ := by
  unfold proj
  refine Finset.sum_congr rfl fun d _ => ?_
  rw [ld_rows x4 o ho h, h4, normed_tile x0 x1 x2 x3 x4 x5 x6 x7 x8 X Y W G b s n h0 h1 h2 h3]

include h0 h1 h2 in
/-- The residual stream the tile is left with. -/
theorem out9_at (d : Fin 1024) : out0_9 (F := Ideal) x0 x1 x2 x3 x4 x5 x6 x7 x8 (ix3 0 d n) = stream X Y W b s d := by
  unfold out0_9
  rw [canon_1, pay4_at]
  exact stream_tile x0 x1 x2 X Y W b s n h0 h1 h2 d

include h0 h1 h2 h3 h4 h5 h6 h7 in
/-- The queries the tile is left with. -/
theorem out10_at (h : Fin 16) (e : Fin 64) : out0_10 (F := Ideal) x0 x1 x2 x3 x4 x5 x6 x7 x8 (ix3 0 ⟨h.val * 64 + e.val, by omega⟩ n) = head X Y W G I Q b s 0 (by omega) h e * fold := by
  unfold out0_10
  rw [canon_1, pay13_at, named_fold]
  unfold head
  refine congrArg (· * fold) ?_
  congr 1
  · congr 1
    · funext e
      refine (pay9_at ..).trans ?_
      exact proj_tile x0 x1 x2 x3 x4 x5 x6 x7 x8 X Y W G I b s n h0 h1 h2 h3 h4 0 (by omega) _ _
    · funext e
      rw [ld_9]; exact h7 e
  · funext e
    rw [pay16_at]; exact h5 e
  · funext e
    rw [pay17_at]; exact h6 e

include h0 h1 h2 h3 h4 h5 h6 h8 in
/-- The keys the tile is left with. -/
theorem out11_at (h : Fin 16) (e : Fin 64) : out0_11 (F := Ideal) x0 x1 x2 x3 x4 x5 x6 x7 x8 (ix2 n ⟨h.val * 64 + e.val, by omega⟩) = head X Y W G I K b s 1024 (by omega) h e := by
  unfold out0_11
  rw [canon_2, pay12_at]
  unfold head
  congr 1
  · congr 1
    · funext e
      refine (pay8_at ..).trans ?_
      exact proj_tile x0 x1 x2 x3 x4 x5 x6 x7 x8 X Y W G I b s n h0 h1 h2 h3 h4 1024 (by omega) _ _
    · funext e
      rw [ld_9]; exact h8 e
  · funext e
    rw [pay16_at]; exact h5 e
  · funext e
    rw [pay17_at]; exact h6 e

include h0 h1 h2 h3 h4 in
/-- The values the tile is left with. -/
theorem out12_at (d : Fin 1024) : out0_12 (F := Ideal) x0 x1 x2 x3 x4 x5 x6 x7 x8 (ix3 0 d n) = proj X Y W G I b s ⟨2048 + d.val, by omega⟩ := by
  unfold out0_12
  rw [canon_1, pay2_at, pay11_at]
  exact proj_tile x0 x1 x2 x3 x4 x5 x6 x7 x8 X Y W G I b s n h0 h1 h2 h3 h4 2048 (by omega) _ _

include h0 h1 h2 h3 h4 in
/-- The gate the tile is left with. -/
theorem out13_at (d : Fin 1024) : out0_13 (F := Ideal) x0 x1 x2 x3 x4 x5 x6 x7 x8 (ix3 0 d n) = sil (proj X Y W G I b s ⟨3072 + d.val, by omega⟩) := by
  unfold out0_13
  rw [canon_1, pay1_at, pay14_at, pay10_at]
  exact congrArg sil (proj_tile x0 x1 x2 x3 x4 x5 x6 x7 x8 X Y W G I b s n h0 h1 h2 h3 h4 3072 (by omega) _ _)
end Tiles
end Cert.Proof.Proj
-- ==== Proof.ProjRef.lean ====
/- The reference of the projection call read at an index. -/
module
public import proofs.«01_k».proof.Proof.Gen.Reference2Ideal.Read
public import Idealize.ShloMosaic.Lib.Pointwise
public import proofs.«01_k».proof.Proof.ProjMaths
public import proofs.«01_k».proof.Proof.Maths
public import Idealize.ShloMosaic.Lib.Tactic.CleanTypes
@[expose] public section
noncomputable section
open Idealize.ShloMosaic Idealize.ShloMosaic.TcCoe Idealize.SL.Sem
namespace Cert.Proof.Proj
open Cert.Reference2Ideal Cert.Reference2Ideal.Gen Cert.Reference2Ideal.Read
variable (x0 x1 : (⟨S4x8192x1024, .f32⟩ : BufTy).Contents (Elt Ideal)) (x2 : (⟨S1x1024x1024, .f32⟩ : BufTy).Contents (Elt Ideal))
  (x3 : (⟨S1x1024, .f32⟩ : BufTy).Contents (Elt Ideal)) (x4 : (⟨S1x1024x4096, .f32⟩ : BufTy).Contents (Elt Ideal))
  (x5 x6 : (⟨S1x64, .f32⟩ : BufTy).Contents (Elt Ideal))

/-- The angles of the rotation. -/
theorem angle_ref (s : Fin 8192) (e : Fin 32) : val_main_v16 (F := Ideal) (ix2 s e) = ang s e := by
  unfold val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2 val_main_cst_3
  pointwise
  rfl

/-- The residual stream. -/
theorem res_ref (b : Fin 4) (s : Fin 8192) (d : Fin 1024) : val_main_v21 (F := Ideal) x0 x1 x2 (ix3 b s d) = stream x0 x1 x2 b s d := by
  unfold val_main_v21 val_main_v20 val_main_v19
  pointwise
  exact congrArg _ (Finset.sum_congr rfl fun j _ => mul_comm _ _)

/-- The normalised stream. -/
theorem norm_ref (b : Fin 4) (s : Fin 8192) (d : Fin 1024) : val_main_v35 (F := Ideal) x0 x1 x2 x3 (ix3 b s d) = normed x0 x1 x2 x3 b s d := by
  unfold normed rms
  simp only [← res_ref]
  unfold val_main_v35 val_main_v34 val_main_v33 val_main_v32 val_main_v31 val_main_v30 val_main_v29 val_main_v28 val_main_v27 val_main_v26 val_main_v25 val_main_v24 val_main_v23 val_main_v22 val_main_cst_4 val_main_cst_5 val_main_cst_6
  generalize val_main_v21 (F := Ideal) x0 x1 x2 = R
  pointwise

/-- The projection. -/
theorem proj_ref (b : Fin 4) (s : Fin 8192) (r : Fin 4096) : val_main_v37 (F := Ideal) x0 x1 x2 x3 x4 (ix3 b s r) = proj x0 x1 x2 x3 x4 b s r := by
  unfold proj
  simp only [← norm_ref]
  unfold val_main_v37 val_main_v36
  generalize val_main_v35 (F := Ideal) x0 x1 x2 x3 = R
  pointwise
  exact Finset.sum_congr rfl fun j _ => mul_comm _ _

/-- The normalised queries of a head. -/
theorem qn_ref (b : Fin 4) (s : Fin 8192) (h : Fin 16) (e : Fin 64) : val_main_v56 (F := Ideal) x0 x1 x2 x3 x4 x5 (ix4 b s h e)
    = rms 1115684864#32 (fun e => val_main_v37 (F := Ideal) x0 x1 x2 x3 x4 (ix3 b s ⟨0 + (h.val * 64 + e.val), by omega⟩)) (fun e => x5 (ix2 0 e)) e := by
  unfold rms
  simp only [Nat.zero_add]
  unfold val_main_v56 val_main_v55 val_main_v54 val_main_v53 val_main_v52 val_main_v51 val_main_v50 val_main_v49 val_main_v48 val_main_v47 val_main_v46 val_main_v45 val_main_v44 val_main_v43 val_main_v42 val_main_v38 val_main_cst_7 val_main_cst_8 val_main_cst_9
  generalize val_main_v37 (F := Ideal) x0 x1 x2 x3 x4 = R
  pointwise

/-- The rotated queries of a head. -/
theorem qr_ref (b : Fin 4) (s : Fin 8192) (h : Fin 16) (e : Fin 64) : val_main_v71 (F := Ideal) x0 x1 x2 x3 x4 x5 (ix4 b s h e)
    = head x0 x1 x2 x3 x4 x5 b s 0 (by omega) h e := by
  unfold head
  simp only [← proj_ref, ← angle_ref]
  refine Eq.trans ?_ (congrArg (fun f => rot f (fun e => Ideal.cos (val_main_v16 (F := Ideal) (ix2 s e))) (fun e => Ideal.sin (val_main_v16 (F := Ideal) (ix2 s e))) e) (funext fun e => qn_ref x0 x1 x2 x3 x4 x5 b s h e))
  unfold val_main_v71 val_main_v70 val_main_v69 val_main_v68 val_main_v67 val_main_v66 val_main_v65 val_main_v64 val_main_v63 val_main_v62 val_main_v61 val_main_v60 val_main_v59 val_main_v58 val_main_v57 val_main_v17 val_main_v18
  generalize val_main_v56 (F := Ideal) x0 x1 x2 x3 x4 x5 = R
  generalize val_main_v16 (F := Ideal) = A
  pointwise [rot]

/-- The normalised keys of a head. -/
theorem kn_ref (b : Fin 4) (s : Fin 8192) (h : Fin 16) (e : Fin 64) : val_main_v86 (F := Ideal) x0 x1 x2 x3 x4 x6 (ix4 b s h e)
    = rms 1115684864#32 (fun e => val_main_v37 (F := Ideal) x0 x1 x2 x3 x4 (ix3 b s ⟨1024 + (h.val * 64 + e.val), by omega⟩)) (fun e => x6 (ix2 0 e)) e := by
  unfold rms
  unfold val_main_v86 val_main_v85 val_main_v84 val_main_v83 val_main_v82 val_main_v81 val_main_v80 val_main_v79 val_main_v78 val_main_v77 val_main_v76 val_main_v75 val_main_v74 val_main_v73 val_main_v72 val_main_v39 val_main_cst_10 val_main_cst_11 val_main_cst_12
  generalize val_main_v37 (F := Ideal) x0 x1 x2 x3 x4 = R
  pointwise

/-- The rotated keys of a head. -/
theorem kr_ref (b : Fin 4) (s : Fin 8192) (h : Fin 16) (e : Fin 64) : val_main_v101 (F := Ideal) x0 x1 x2 x3 x4 x6 (ix4 b s h e)
    = head x0 x1 x2 x3 x4 x6 b s 1024 (by omega) h e := by
  unfold head
  simp only [← proj_ref, ← angle_ref]
  refine Eq.trans ?_ (congrArg (fun f => rot f (fun e => Ideal.cos (val_main_v16 (F := Ideal) (ix2 s e))) (fun e => Ideal.sin (val_main_v16 (F := Ideal) (ix2 s e))) e) (funext fun e => kn_ref x0 x1 x2 x3 x4 x6 b s h e))
  unfold val_main_v101 val_main_v100 val_main_v99 val_main_v98 val_main_v97 val_main_v96 val_main_v95 val_main_v94 val_main_v93 val_main_v92 val_main_v91 val_main_v90 val_main_v89 val_main_v88 val_main_v87 val_main_v17 val_main_v18
  generalize val_main_v86 (F := Ideal) x0 x1 x2 x3 x4 x6 = R
  generalize val_main_v16 (F := Ideal) = A
  pointwise [rot]

/-- The residual stream as the call returns it. -/
theorem x_ref (b : Fin 4) (d : Fin 1024) (s : Fin 8192) : val_main_v108 (F := Ideal) x0 x1 x2 (ix3 b d s) = stream x0 x1 x2 b s d := by
  rw [← res_ref]
  unfold val_main_v108
  generalize val_main_v21 (F := Ideal) x0 x1 x2 = R
  pointwise

/-- The keys as the call returns them. -/
theorem k_ref (b : Fin 4) (s : Fin 8192) (h : Fin 16) (e : Fin 64) : val_main_v112 (F := Ideal) x0 x1 x2 x3 x4 x6 (ix2 ⟨b.val * 8192 + s.val, by omega⟩ ⟨h.val * 64 + e.val, by omega⟩)
    = head x0 x1 x2 x3 x4 x6 b s 1024 (by omega) h e := by
  rw [← kr_ref]
  unfold val_main_v112 val_main_v111
  generalize val_main_v101 (F := Ideal) x0 x1 x2 x3 x4 x6 = R
  pointwise

/-- The values as the call returns them. -/
theorem v_ref (b : Fin 4) (d : Fin 1024) (s : Fin 8192) : val_main_v114 (F := Ideal) x0 x1 x2 x3 x4 (ix3 b d s) = proj x0 x1 x2 x3 x4 b s ⟨2048 + d.val, by omega⟩ := by
  rw [← proj_ref]
  unfold val_main_v114 val_main_v113 val_main_v40
  generalize val_main_v37 (F := Ideal) x0 x1 x2 x3 x4 = R
  pointwise

/-- The gate as the call returns it. -/
theorem g_ref (b : Fin 4) (d : Fin 1024) (s : Fin 8192) : val_main_v116 (F := Ideal) x0 x1 x2 x3 x4 (ix3 b d s) = sil (proj x0 x1 x2 x3 x4 b s ⟨3072 + d.val, by omega⟩) := by
  rw [← proj_ref]
  unfold val_main_v116 val_main_v115 val_main_call0_v5 val_main_call0_v4 val_main_call0_v3 val_main_call0_v2 val_main_call0_v1 val_main_call0_v0 val_main_call0_cst val_main_call0_cst_0 val_main_v41
  generalize val_main_v37 (F := Ideal) x0 x1 x2 x3 x4 = R
  pointwise [sil]

/-- The scale of the queries is one eighth over the logarithm of two. -/
theorem scale_ref (i : S_.Idx) : val_main_v105 (F := Ideal) i = fold := by
  show Ideal.div (Ideal.ofBits FTy.f32 1040187392#32) (Ideal.log (Ideal.ofBits FTy.f32 1073741824#32)) = _
  rw [Dense.eighth_word, Dense.two_word]
  have e : Ideal.log ((2 : ℝ) : EReal) = ((Real.log 2 : ℝ) : EReal) := if_neg (by norm_num)
  rw [e]
  refine (Dense.coe_div _ _ (Real.log_pos (by norm_num)).ne').trans ?_
  rw [div_eq_mul_inv]
  rfl

/-- The queries as the call returns them. -/
theorem q_ref (b : Fin 4) (s : Fin 8192) (h : Fin 16) (e : Fin 64) : val_main_v110 (F := Ideal) x0 x1 x2 x3 x4 x5 (ix3 b ⟨h.val * 64 + e.val, by omega⟩ s)
    = head x0 x1 x2 x3 x4 x5 b s 0 (by omega) h e * fold := by
  rw [val_main_v110_apply, val_main_v109_apply, val_main_v107_apply, val_main_v106_apply, scale_ref, ← qr_ref]
  refine congrArg (· * fold) ?_
  rw [show idx_main_v109 (ix3 b ⟨h.val * 64 + e.val, by omega⟩ s) = ix3 b s ⟨h.val * 64 + e.val, by omega⟩ from (ix3_eta _).symm]
  unfold val_main_v102
  generalize val_main_v71 (F := Ideal) x0 x1 x2 x3 x4 x5 = R
  pointwise
end Cert.Proof.Proj
-- ==== Proof.ProjFinal.lean ====
/- The projection call's arrays: the blocks it is given and the arrays it leaves. -/
module
public import proofs.«01_k».proof.Proof.Gen.Kernel2Ideal.Value
public import proofs.«01_k».proof.Proof.ProjBody
public import proofs.«01_k».proof.Proof.ProjRef
public import Idealize.ShloMosaic.Lib.StableHlo.ReadAt
public import Idealize.ShloMosaic.Lib.Claim
public import Idealize.ShloMosaic.Lib.Pipeline.ValueKit.Geometry
@[expose] public section
noncomputable section
open Idealize.ShloMosaic Idealize.ShloMosaic.TcCoe Idealize.SL.Sem
namespace Cert.Proof.Proj
open Cert.Kernel2Ideal Cert.Kernel2Ideal.Gen Cert.Kernel2Ideal.Value
variable (m : (ℓ : Loc nD τ sig) → Buf (Elt Ideal) ℓ)

/-- The batch of a grid point. -/
def bt (t : Fin cfg0.N) : Fin 4 := ⟨(grid0.coords t 0).val, (grid0.coords t 0).isLt⟩
/-- The tile of positions of a grid point. -/
def tl (t : Fin cfg0.N) : Fin 16 := ⟨(grid0.coords t 1).val, (grid0.coords t 1).isLt⟩
/-- The position of a lane of a grid point. -/
def ps (t : Fin cfg0.N) (n : Fin 512) : Fin 8192 := ⟨512 * (tl t).val + n.val, by omega⟩
/-- The row of a position in the arrays that put the batches one below the other. -/
def row (b : Fin 4) (s : Fin 8192) : Fin 32768 := ⟨b.val * 8192 + s.val, by omega⟩

/-- Where window 0's block stands at a grid point. -/
theorem index0 : ∀ t : Fin cfg0.N, win0_0.index t 0 = (grid0.coords t 0).val * 16 + (grid0.coords t 1).val ∧ win0_0.index t 1 = 0 :=
  (by decide +kernel : ∀ t : Fin grid0.N, win0_0.index t 0 = (grid0.coords t 0).val * 16 + (grid0.coords t 1).val ∧ win0_0.index t 1 = 0)

/-- Where window 1's block stands at a grid point. -/
theorem index1 : ∀ t : Fin cfg0.N, win0_1.index t 0 = (grid0.coords t 0).val ∧ win0_1.index t 1 = 0 ∧ win0_1.index t 2 = (grid0.coords t 1).val :=
  (by decide +kernel : ∀ t : Fin grid0.N, win0_1.index t 0 = (grid0.coords t 0).val ∧ win0_1.index t 1 = 0 ∧ win0_1.index t 2 = (grid0.coords t 1).val)

/-- Where window 2's block stands at a grid point. -/
theorem index2 : ∀ t : Fin cfg0.N, win0_2.index t 0 = 0 ∧ win0_2.index t 1 = 0 :=
  (by decide +kernel : ∀ t : Fin grid0.N, win0_2.index t 0 = 0 ∧ win0_2.index t 1 = 0)

/-- Where window 3's block stands at a grid point. -/
theorem index3 : ∀ t : Fin cfg0.N, win0_3.index t 0 = 0 ∧ win0_3.index t 1 = 0 :=
  (by decide +kernel : ∀ t : Fin grid0.N, win0_3.index t 0 = 0 ∧ win0_3.index t 1 = 0)

/-- Where window 4's block stands at a grid point. -/
theorem index4 : ∀ t : Fin cfg0.N, win0_4.index t 0 = 0 ∧ win0_4.index t 1 = 0 :=
  (by decide +kernel : ∀ t : Fin grid0.N, win0_4.index t 0 = 0 ∧ win0_4.index t 1 = 0)

/-- Where window 5's block stands at a grid point. -/
theorem index5 : ∀ t : Fin cfg0.N, win0_5.index t 0 = 0 ∧ win0_5.index t 1 = (grid0.coords t 1).val :=
  (by decide +kernel : ∀ t : Fin grid0.N, win0_5.index t 0 = 0 ∧ win0_5.index t 1 = (grid0.coords t 1).val)

/-- Where window 6's block stands at a grid point. -/
theorem index6 : ∀ t : Fin cfg0.N, win0_6.index t 0 = 0 ∧ win0_6.index t 1 = (grid0.coords t 1).val :=
  (by decide +kernel : ∀ t : Fin grid0.N, win0_6.index t 0 = 0 ∧ win0_6.index t 1 = (grid0.coords t 1).val)

/-- Where window 7's block stands at a grid point. -/
theorem index7 : ∀ t : Fin cfg0.N, win0_7.index t 0 = 0 ∧ win0_7.index t 1 = 0 :=
  (by decide +kernel : ∀ t : Fin grid0.N, win0_7.index t 0 = 0 ∧ win0_7.index t 1 = 0)

/-- Where window 8's block stands at a grid point. -/
theorem index8 : ∀ t : Fin cfg0.N, win0_8.index t 0 = 0 ∧ win0_8.index t 1 = 0 :=
  (by decide +kernel : ∀ t : Fin grid0.N, win0_8.index t 0 = 0 ∧ win0_8.index t 1 = 0)

/-- Where window 9's block stands at a grid point. -/
theorem index9 : ∀ t : Fin cfg0.N, win0_9.index t 0 = (grid0.coords t 0).val ∧ win0_9.index t 1 = 0 ∧ win0_9.index t 2 = (grid0.coords t 1).val :=
  (by decide +kernel : ∀ t : Fin grid0.N, win0_9.index t 0 = (grid0.coords t 0).val ∧ win0_9.index t 1 = 0 ∧ win0_9.index t 2 = (grid0.coords t 1).val)

/-- Where window 10's block stands at a grid point. -/
theorem index10 : ∀ t : Fin cfg0.N, win0_10.index t 0 = (grid0.coords t 0).val ∧ win0_10.index t 1 = 0 ∧ win0_10.index t 2 = (grid0.coords t 1).val :=
  (by decide +kernel : ∀ t : Fin grid0.N, win0_10.index t 0 = (grid0.coords t 0).val ∧ win0_10.index t 1 = 0 ∧ win0_10.index t 2 = (grid0.coords t 1).val)

/-- Where window 11's block stands at a grid point. -/
theorem index11 : ∀ t : Fin cfg0.N, win0_11.index t 0 = (grid0.coords t 0).val * 16 + (grid0.coords t 1).val ∧ win0_11.index t 1 = 0 :=
  (by decide +kernel : ∀ t : Fin grid0.N, win0_11.index t 0 = (grid0.coords t 0).val * 16 + (grid0.coords t 1).val ∧ win0_11.index t 1 = 0)

/-- Where window 12's block stands at a grid point. -/
theorem index12 : ∀ t : Fin cfg0.N, win0_12.index t 0 = (grid0.coords t 0).val ∧ win0_12.index t 1 = 0 ∧ win0_12.index t 2 = (grid0.coords t 1).val :=
  (by decide +kernel : ∀ t : Fin grid0.N, win0_12.index t 0 = (grid0.coords t 0).val ∧ win0_12.index t 1 = 0 ∧ win0_12.index t 2 = (grid0.coords t 1).val)

/-- Where window 13's block stands at a grid point. -/
theorem index13 : ∀ t : Fin cfg0.N, win0_13.index t 0 = (grid0.coords t 0).val ∧ win0_13.index t 1 = 0 ∧ win0_13.index t 2 = (grid0.coords t 1).val :=
  (by decide +kernel : ∀ t : Fin grid0.N, win0_13.index t 0 = (grid0.coords t 0).val ∧ win0_13.index t 1 = 0 ∧ win0_13.index t 2 = (grid0.coords t 1).val)

/-- The stream as launched. -/
abbrev ax (c : Dev nD) : S4x8192x1024.Idx → EReal := m ((c : Thread nD τ).loc main_arg0)
/-- The even mixers' output as launched. -/
abbrev ay (c : Dev nD) : S4x8192x1024.Idx → EReal := m ((c : Thread nD τ).loc main_arg1)
/-- The output weights as launched. -/
abbrev aw (c : Dev nD) : S1x1024x1024.Idx → EReal := m ((c : Thread nD τ).loc main_arg2)
/-- The norm gain as launched. -/
abbrev ag (c : Dev nD) : S1x1024.Idx → EReal := m ((c : Thread nD τ).loc main_arg3)
/-- The projection's weights as launched. -/
abbrev ai (c : Dev nD) : S1x1024x4096.Idx → EReal := m ((c : Thread nD τ).loc main_arg4)
/-- The queries' gain as launched. -/
abbrev aq (c : Dev nD) : S1x64.Idx → EReal := m ((c : Thread nD τ).loc main_arg5)
/-- The keys' gain as launched. -/
abbrev ak (c : Dev nD) : S1x64.Idx → EReal := m ((c : Thread nD τ).loc main_arg6)

/-- The stream before the kernel. -/
theorem entry_v19 (c : Dev nD) (b : Fin 4) (s : Fin 8192) (d : Fin 1024) : (V m c main_v19 : S32768x1024.Idx → EReal) (ix2 (row b s) d) = ax m c (ix3 b s d) := by
  unfold row
  unfold V
  after_reads_at

/-- The even mixers' output before the kernel. -/
theorem entry_v21 (c : Dev nD) (b : Fin 4) (j : Fin 1024) (s : Fin 8192) : (V m c main_v21 : S4x1024x8192.Idx → EReal) (ix3 b j s) = ay m c (ix3 b s j) := by
  unfold V
  after_reads_at

/-- The output weights before the kernel. -/
theorem entry_v24 (c : Dev nD) (d j : Fin 1024) : (V m c main_v24 : S1024x1024.Idx → EReal) (ix2 d j) = aw m c (ix3 0 j d) := by
  unfold V
  after_reads_at

/-- The norm gain before the kernel. -/
theorem entry_v26 (c : Dev nD) (d : Fin 1024) : (V m c main_v26 : S1024x1.Idx → EReal) (ix2 d 0) = ag m c (ix2 0 d) := by
  unfold V
  after_reads_at

/-- The projection's weights before the kernel. -/
theorem entry_v29 (c : Dev nD) (r : Fin 4096) (d : Fin 1024) : (V m c main_v29 : S4096x1024.Idx → EReal) (ix2 r d) = ai m c (ix3 0 d r) := by
  unfold V
  after_reads_at

/-- The cosines before the kernel. -/
theorem entry_v17 (c : Dev nD) (e : Fin 32) (s : Fin 8192) : (V m c main_v17 : S32x8192.Idx → EReal) (ix2 e s) = Ideal.cos (ang s e) := by
  unfold V
  after_reads_at
  exact congrArg _ (mul_comm _ _)

/-- The sines before the kernel. -/
theorem entry_v18 (c : Dev nD) (e : Fin 32) (s : Fin 8192) : (V m c main_v18 : S32x8192.Idx → EReal) (ix2 e s) = Ideal.sin (ang s e) := by
  unfold V
  after_reads_at
  exact congrArg _ (mul_comm _ _)

/-- The queries' gain before the kernel. -/
theorem entry_v32 (c : Dev nD) (e : Fin 64) (n : Fin 512) : (V m c main_v32 : S64x512.Idx → EReal) (ix2 e n) = aq m c (ix2 0 e) := by
  unfold V
  after_reads_at

/-- The keys' gain before the kernel. -/
theorem entry_v35 (c : Dev nD) (e : Fin 64) (n : Fin 512) : (V m c main_v35 : S64x512.Idx → EReal) (ix2 e n) = ak m c (ix2 0 e) := by
  unfold V
  after_reads_at

/-- The stream of a grid point. -/
theorem block_0 (c : Dev nD) (t : Fin cfg0.N) (n : Fin 512) (d : Fin 1024) : (iblk m c 0 t : S512x1024.Idx → EReal) (ix2 n d) = ax m c (ix3 (bt t) (ps t n) d) := by
  have hb : (iblk m c 0 t : S512x1024.Idx → EReal) (ix2 n d) = (V m c main_v19 : S32768x1024.Idx → EReal) (ix2 (row (bt t) (ps t n)) d) := by
    obtain ⟨h0, h1⟩ := index0 t
    unfold iblk
    rw [View.read_apply]
    show V m c main_v19 _ = V m c main_v19 _
    generalize V m c main_v19 = X
    congr 1
    funext a
    apply Fin.ext
    match a with
    | ⟨0, _⟩ => show win0_0.index t 0 * 512 + 1 * n.val = ((grid0.coords t 0).val * 8192 + (512 * (grid0.coords t 1).val + n.val)); rw [h0]; omega
    | ⟨1, _⟩ => show win0_0.index t 1 * 1024 + 1 * d.val = d.val; rw [h1]; omega
  exact hb.trans (entry_v19 m c (bt t) (ps t n) d)

/-- The even mixers' output of a grid point. -/
theorem block_1 (c : Dev nD) (t : Fin cfg0.N) (j : Fin 1024) (n : Fin 512) : (iblk m c 1 t : S1x1024x512.Idx → EReal) (ix3 0 j n) = ay m c (ix3 (bt t) (ps t n) j) := by
  have hb : (iblk m c 1 t : S1x1024x512.Idx → EReal) (ix3 0 j n) = (V m c main_v21 : S4x1024x8192.Idx → EReal) (ix3 (bt t) j (ps t n)) := by
    obtain ⟨h0, h1, h2⟩ := index1 t
    unfold iblk
    rw [View.read_apply]
    show V m c main_v21 _ = V m c main_v21 _
    generalize V m c main_v21 = X
    congr 1
    funext a
    apply Fin.ext
    match a with
    | ⟨0, _⟩ => show win0_1.index t 0 * 1 + 1 * 0 = (grid0.coords t 0).val; rw [h0]; omega
    | ⟨1, _⟩ => show win0_1.index t 1 * 1024 + 1 * j.val = j.val; rw [h1]; omega
    | ⟨2, _⟩ => show win0_1.index t 2 * 512 + 1 * n.val = 512 * (grid0.coords t 1).val + n.val; rw [h2]; omega
  exact hb.trans (entry_v21 m c (bt t) j (ps t n))

/-- The output weights of a grid point. -/
theorem block_2 (c : Dev nD) (t : Fin cfg0.N) (d j : Fin 1024) : (iblk m c 2 t : S1024x1024.Idx → EReal) (ix2 d j) = aw m c (ix3 0 j d) := by
  have hb : (iblk m c 2 t : S1024x1024.Idx → EReal) (ix2 d j) = (V m c main_v24 : S1024x1024.Idx → EReal) (ix2 d j) := by
    obtain ⟨h0, h1⟩ := index2 t
    unfold iblk
    rw [View.read_apply]
    show V m c main_v24 _ = V m c main_v24 _
    generalize V m c main_v24 = X
    congr 1
    funext a
    apply Fin.ext
    match a with
    | ⟨0, _⟩ => show win0_2.index t 0 * 1024 + 1 * d.val = d.val; rw [h0]; omega
    | ⟨1, _⟩ => show win0_2.index t 1 * 1024 + 1 * j.val = j.val; rw [h1]; omega
  exact hb.trans (entry_v24 m c d j)

/-- The norm gain of a grid point. -/
theorem block_3 (c : Dev nD) (t : Fin cfg0.N) (d : Fin 1024) : (iblk m c 3 t : S1024x1.Idx → EReal) (ix2 d 0) = ag m c (ix2 0 d) := by
  have hb : (iblk m c 3 t : S1024x1.Idx → EReal) (ix2 d 0) = (V m c main_v26 : S1024x1.Idx → EReal) (ix2 d 0) := by
    obtain ⟨h0, h1⟩ := index3 t
    unfold iblk
    rw [View.read_apply]
    show V m c main_v26 _ = V m c main_v26 _
    generalize V m c main_v26 = X
    congr 1
    funext a
    apply Fin.ext
    match a with
    | ⟨0, _⟩ => show win0_3.index t 0 * 1024 + 1 * d.val = d.val; rw [h0]; omega
    | ⟨1, _⟩ => show win0_3.index t 1 * 1 + 1 * 0 = 0; rw [h1]
  exact hb.trans (entry_v26 m c d)

/-- The projection's weights of a grid point. -/
theorem block_4 (c : Dev nD) (t : Fin cfg0.N) (r : Fin 4096) (d : Fin 1024) : (iblk m c 4 t : S4096x1024.Idx → EReal) (ix2 r d) = ai m c (ix3 0 d r) := by
  have hb : (iblk m c 4 t : S4096x1024.Idx → EReal) (ix2 r d) = (V m c main_v29 : S4096x1024.Idx → EReal) (ix2 r d) := by
    obtain ⟨h0, h1⟩ := index4 t
    unfold iblk
    rw [View.read_apply]
    show V m c main_v29 _ = V m c main_v29 _
    generalize V m c main_v29 = X
    congr 1
    funext a
    apply Fin.ext
    match a with
    | ⟨0, _⟩ => show win0_4.index t 0 * 4096 + 1 * r.val = r.val; rw [h0]; omega
    | ⟨1, _⟩ => show win0_4.index t 1 * 1024 + 1 * d.val = d.val; rw [h1]; omega
  exact hb.trans (entry_v29 m c r d)

/-- The cosines of a grid point. -/
theorem block_5 (c : Dev nD) (t : Fin cfg0.N) (e : Fin 32) (n : Fin 512) : (iblk m c 5 t : S32x512.Idx → EReal) (ix2 e n) = Ideal.cos (ang (ps t n) e) := by
  have hb : (iblk m c 5 t : S32x512.Idx → EReal) (ix2 e n) = (V m c main_v17 : S32x8192.Idx → EReal) (ix2 e (ps t n)) := by
    obtain ⟨h0, h1⟩ := index5 t
    unfold iblk
    rw [View.read_apply]
    show V m c main_v17 _ = V m c main_v17 _
    generalize V m c main_v17 = X
    congr 1
    funext a
    apply Fin.ext
    match a with
    | ⟨0, _⟩ => show win0_5.index t 0 * 32 + 1 * e.val = e.val; rw [h0]; omega
    | ⟨1, _⟩ => show win0_5.index t 1 * 512 + 1 * n.val = 512 * (grid0.coords t 1).val + n.val; rw [h1]; omega
  exact hb.trans (entry_v17 m c e (ps t n))

/-- The sines of a grid point. -/
theorem block_6 (c : Dev nD) (t : Fin cfg0.N) (e : Fin 32) (n : Fin 512) : (iblk m c 6 t : S32x512.Idx → EReal) (ix2 e n) = Ideal.sin (ang (ps t n) e) := by
  have hb : (iblk m c 6 t : S32x512.Idx → EReal) (ix2 e n) = (V m c main_v18 : S32x8192.Idx → EReal) (ix2 e (ps t n)) := by
    obtain ⟨h0, h1⟩ := index6 t
    unfold iblk
    rw [View.read_apply]
    show V m c main_v18 _ = V m c main_v18 _
    generalize V m c main_v18 = X
    congr 1
    funext a
    apply Fin.ext
    match a with
    | ⟨0, _⟩ => show win0_6.index t 0 * 32 + 1 * e.val = e.val; rw [h0]; omega
    | ⟨1, _⟩ => show win0_6.index t 1 * 512 + 1 * n.val = 512 * (grid0.coords t 1).val + n.val; rw [h1]; omega
  exact hb.trans (entry_v18 m c e (ps t n))

/-- The queries' gain of a grid point. -/
theorem block_7 (c : Dev nD) (t : Fin cfg0.N) (e : Fin 64) (n : Fin 512) : (iblk m c 7 t : S64x512.Idx → EReal) (ix2 e n) = aq m c (ix2 0 e) := by
  have hb : (iblk m c 7 t : S64x512.Idx → EReal) (ix2 e n) = (V m c main_v32 : S64x512.Idx → EReal) (ix2 e n) := by
    obtain ⟨h0, h1⟩ := index7 t
    unfold iblk
    rw [View.read_apply]
    show V m c main_v32 _ = V m c main_v32 _
    generalize V m c main_v32 = X
    congr 1
    funext a
    apply Fin.ext
    match a with
    | ⟨0, _⟩ => show win0_7.index t 0 * 64 + 1 * e.val = e.val; rw [h0]; omega
    | ⟨1, _⟩ => show win0_7.index t 1 * 512 + 1 * n.val = n.val; rw [h1]; omega
  exact hb.trans (entry_v32 m c e n)

/-- The keys' gain of a grid point. -/
theorem block_8 (c : Dev nD) (t : Fin cfg0.N) (e : Fin 64) (n : Fin 512) : (iblk m c 8 t : S64x512.Idx → EReal) (ix2 e n) = ak m c (ix2 0 e) := by
  have hb : (iblk m c 8 t : S64x512.Idx → EReal) (ix2 e n) = (V m c main_v35 : S64x512.Idx → EReal) (ix2 e n) := by
    obtain ⟨h0, h1⟩ := index8 t
    unfold iblk
    rw [View.read_apply]
    show V m c main_v35 _ = V m c main_v35 _
    generalize V m c main_v35 = X
    congr 1
    funext a
    apply Fin.ext
    match a with
    | ⟨0, _⟩ => show win0_8.index t 0 * 64 + 1 * e.val = e.val; rw [h0]; omega
    | ⟨1, _⟩ => show win0_8.index t 1 * 512 + 1 * n.val = n.val; rw [h1]; omega
  exact hb.trans (entry_v35 m c e n)

/-- Where window 9's block stands in its array. -/
theorem place9 (t : Fin cfg0.N) (d : Fin 1024) (n : Fin 512) (X : S4x1024x8192.Idx → EReal) :
    (((cfg0.win 9).blk t).view.read (Elt Ideal) X : S1x1024x512.Idx → EReal) (ix3 0 d n) = X (ix3 (bt t) d (ps t n)) := by
    obtain ⟨h0, h1, h2⟩ := index9 t
    rw [View.read_apply]
    show X _ = X _
    congr 1
    funext a
    apply Fin.ext
    match a with
    | ⟨0, _⟩ => show win0_9.index t 0 * 1 + 1 * 0 = (grid0.coords t 0).val; rw [h0]; omega
    | ⟨1, _⟩ => show win0_9.index t 1 * 1024 + 1 * d.val = d.val; rw [h1]; omega
    | ⟨2, _⟩ => show win0_9.index t 2 * 512 + 1 * n.val = 512 * (grid0.coords t 1).val + n.val; rw [h2]; omega

/-- Where window 10's block stands in its array. -/
theorem place10 (t : Fin cfg0.N) (d : Fin 1024) (n : Fin 512) (X : S4x1024x8192.Idx → EReal) :
    (((cfg0.win 10).blk t).view.read (Elt Ideal) X : S1x1024x512.Idx → EReal) (ix3 0 d n) = X (ix3 (bt t) d (ps t n)) := by
    obtain ⟨h0, h1, h2⟩ := index10 t
    rw [View.read_apply]
    show X _ = X _
    congr 1
    funext a
    apply Fin.ext
    match a with
    | ⟨0, _⟩ => show win0_10.index t 0 * 1 + 1 * 0 = (grid0.coords t 0).val; rw [h0]; omega
    | ⟨1, _⟩ => show win0_10.index t 1 * 1024 + 1 * d.val = d.val; rw [h1]; omega
    | ⟨2, _⟩ => show win0_10.index t 2 * 512 + 1 * n.val = 512 * (grid0.coords t 1).val + n.val; rw [h2]; omega

/-- Where window 12's block stands in its array. -/
theorem place12 (t : Fin cfg0.N) (d : Fin 1024) (n : Fin 512) (X : S4x1024x8192.Idx → EReal) :
    (((cfg0.win 12).blk t).view.read (Elt Ideal) X : S1x1024x512.Idx → EReal) (ix3 0 d n) = X (ix3 (bt t) d (ps t n)) := by
    obtain ⟨h0, h1, h2⟩ := index12 t
    rw [View.read_apply]
    show X _ = X _
    congr 1
    funext a
    apply Fin.ext
    match a with
    | ⟨0, _⟩ => show win0_12.index t 0 * 1 + 1 * 0 = (grid0.coords t 0).val; rw [h0]; omega
    | ⟨1, _⟩ => show win0_12.index t 1 * 1024 + 1 * d.val = d.val; rw [h1]; omega
    | ⟨2, _⟩ => show win0_12.index t 2 * 512 + 1 * n.val = 512 * (grid0.coords t 1).val + n.val; rw [h2]; omega

/-- Where window 13's block stands in its array. -/
theorem place13 (t : Fin cfg0.N) (d : Fin 1024) (n : Fin 512) (X : S4x1024x8192.Idx → EReal) :
    (((cfg0.win 13).blk t).view.read (Elt Ideal) X : S1x1024x512.Idx → EReal) (ix3 0 d n) = X (ix3 (bt t) d (ps t n)) := by
    obtain ⟨h0, h1, h2⟩ := index13 t
    rw [View.read_apply]
    show X _ = X _
    congr 1
    funext a
    apply Fin.ext
    match a with
    | ⟨0, _⟩ => show win0_13.index t 0 * 1 + 1 * 0 = (grid0.coords t 0).val; rw [h0]; omega
    | ⟨1, _⟩ => show win0_13.index t 1 * 1024 + 1 * d.val = d.val; rw [h1]; omega
    | ⟨2, _⟩ => show win0_13.index t 2 * 512 + 1 * n.val = 512 * (grid0.coords t 1).val + n.val; rw [h2]; omega

/-- Where window 11's block stands in its array. -/
theorem place11 (t : Fin cfg0.N) (n : Fin 512) (d : Fin 1024) (X : S32768x1024.Idx → EReal) :
    (((cfg0.win 11).blk t).view.read (Elt Ideal) X : S512x1024.Idx → EReal) (ix2 n d) = X (ix2 (row (bt t) (ps t n)) d) := by
    obtain ⟨h0, h1⟩ := index11 t
    rw [View.read_apply]
    show X _ = X _
    congr 1
    funext a
    apply Fin.ext
    match a with
    | ⟨0, _⟩ => show win0_11.index t 0 * 512 + 1 * n.val = (grid0.coords t 0).val * 8192 + (512 * (grid0.coords t 1).val + n.val); rw [h0]; omega
    | ⟨1, _⟩ => show win0_11.index t 1 * 1024 + 1 * d.val = d.val; rw [h1]; omega

/-- A row of a projection is a head's entry. -/
theorem split (f : Fin 1024) : ∃ (h : Fin 16) (e : Fin 64), f = ⟨h.val * 64 + e.val, by omega⟩ :=
  ⟨⟨f.val / 64, by omega⟩, ⟨f.val % 64, by omega⟩, Fin.ext (by show f.val = f.val / 64 * 64 + f.val % 64; omega)⟩

section Arrays
variable (c : Dev nD)
open Cert.Reference2Ideal.Read

/-- The residual stream the call leaves. -/
def r9 : S4x1024x8192.Idx → EReal := val_main_v108 (F := Ideal) (ax m c) (ay m c) (aw m c)
/-- The queries the call leaves. -/
def r10 : S4x1024x8192.Idx → EReal := val_main_v110 (F := Ideal) (ax m c) (ay m c) (aw m c) (ag m c) (ai m c) (aq m c)
/-- The keys the call leaves. -/
def r11 : S32768x1024.Idx → EReal := val_main_v112 (F := Ideal) (ax m c) (ay m c) (aw m c) (ag m c) (ai m c) (ak m c)
/-- The values the call leaves. -/
def r12 : S4x1024x8192.Idx → EReal := val_main_v114 (F := Ideal) (ax m c) (ay m c) (aw m c) (ag m c) (ai m c)
/-- The gate the call leaves. -/
def r13 : S4x1024x8192.Idx → EReal := val_main_v116 (F := Ideal) (ax m c) (ay m c) (aw m c) (ag m c) (ai m c)

/-- The residual stream a grid point writes back. -/
theorem flush9 (t : Fin cfg0.N) : (dats m 0 c).flushed 9 t = ((cfg0.win 9).blk t).view.read (Elt Ideal) (r9 m c) := by
  rw [flushed9]
  refine funext fun (j : S1x1024x512.Idx) => ?_
  have ej : j = ix3 0 (j 1) (j 2) := (ix3_eta j).symm.trans (congrArg (fun z => ix3 z (j 1) (j 2)) (Subsingleton.elim (α := Fin 1) _ _))
  rw [ej]
  generalize (j 1 : Fin 1024) = f, (j 2 : Fin 512) = n
  refine Eq.trans ?_ (place9 t f n (r9 m c)).symm
  refine Eq.trans ?_ (x_ref (ax m c) (ay m c) (aw m c) (bt t) f (ps t n)).symm
  exact out9_at (iblk m c 0 t) (iblk m c 1 t) (iblk m c 2 t) (iblk m c 3 t) (iblk m c 4 t) (iblk m c 5 t) (iblk m c 6 t) (iblk m c 7 t) (iblk m c 8 t) (ax m c) (ay m c) (aw m c) (bt t) (ps t n) n (fun d => block_0 m c t n d) (fun j => block_1 m c t j n) (fun d j => block_2 m c t d j) f

/-- The residual stream the call leaves are the reference's. -/
theorem array9 : (dats m 0 c).arrAt 9 cfg0.N = r9 m c :=
  (dats m 0 c).arrAt_eq_of_cover 9 (r9 m c) (fun t _ => flush9 m c t)
    ((by decide +kernel : (cfg0.win 9).Covers).cover _ (Memref.isWhole_whole _))

/-- The queries a grid point writes back. -/
theorem flush10 (t : Fin cfg0.N) : (dats m 0 c).flushed 10 t = ((cfg0.win 10).blk t).view.read (Elt Ideal) (r10 m c) := by
  rw [flushed10]
  refine funext fun (j : S1x1024x512.Idx) => ?_
  have ej : j = ix3 0 (j 1) (j 2) := (ix3_eta j).symm.trans (congrArg (fun z => ix3 z (j 1) (j 2)) (Subsingleton.elim (α := Fin 1) _ _))
  rw [ej]
  generalize (j 1 : Fin 1024) = f, (j 2 : Fin 512) = n
  obtain ⟨h, e, rfl⟩ := split f
  refine Eq.trans ?_ (place10 t _ n (r10 m c)).symm
  refine Eq.trans ?_ (q_ref (ax m c) (ay m c) (aw m c) (ag m c) (ai m c) (aq m c) (bt t) (ps t n) h e).symm
  exact out10_at (iblk m c 0 t) (iblk m c 1 t) (iblk m c 2 t) (iblk m c 3 t) (iblk m c 4 t) (iblk m c 5 t) (iblk m c 6 t) (iblk m c 7 t) (iblk m c 8 t) (ax m c) (ay m c) (aw m c) (ag m c) (ai m c) (aq m c) (bt t) (ps t n) n (fun d => block_0 m c t n d) (fun j => block_1 m c t j n) (fun d j => block_2 m c t d j) (fun d => block_3 m c t d) (fun r d => block_4 m c t r d) (fun e => block_5 m c t e n) (fun e => block_6 m c t e n) (fun e => block_7 m c t e n) h e

/-- The queries the call leaves are the reference's. -/
theorem array10 : (dats m 0 c).arrAt 10 cfg0.N = r10 m c :=
  (dats m 0 c).arrAt_eq_of_cover 10 (r10 m c) (fun t _ => flush10 m c t)
    ((by decide +kernel : (cfg0.win 10).Covers).cover _ (Memref.isWhole_whole _))

/-- The keys a grid point writes back. -/
theorem flush11 (t : Fin cfg0.N) : (dats m 0 c).flushed 11 t = ((cfg0.win 11).blk t).view.read (Elt Ideal) (r11 m c) := by
  rw [flushed11]
  refine funext fun (j : S512x1024.Idx) => ?_
  have ej : j = ix2 (j 0) (j 1) := (ix2_eta j).symm
  rw [ej]
  generalize (j 0 : Fin 512) = n, (j 1 : Fin 1024) = f
  obtain ⟨h, e, rfl⟩ := split f
  refine Eq.trans ?_ (place11 t n _ (r11 m c)).symm
  refine Eq.trans ?_ (k_ref (ax m c) (ay m c) (aw m c) (ag m c) (ai m c) (ak m c) (bt t) (ps t n) h e).symm
  exact out11_at (iblk m c 0 t) (iblk m c 1 t) (iblk m c 2 t) (iblk m c 3 t) (iblk m c 4 t) (iblk m c 5 t) (iblk m c 6 t) (iblk m c 7 t) (iblk m c 8 t) (ax m c) (ay m c) (aw m c) (ag m c) (ai m c) (ak m c) (bt t) (ps t n) n (fun d => block_0 m c t n d) (fun j => block_1 m c t j n) (fun d j => block_2 m c t d j) (fun d => block_3 m c t d) (fun r d => block_4 m c t r d) (fun e => block_5 m c t e n) (fun e => block_6 m c t e n) (fun e => block_8 m c t e n) h e

/-- The keys the call leaves are the reference's. -/
theorem array11 : (dats m 0 c).arrAt 11 cfg0.N = r11 m c :=
  (dats m 0 c).arrAt_eq_of_cover 11 (r11 m c) (fun t _ => flush11 m c t)
    ((by decide +kernel : (cfg0.win 11).Covers).cover _ (Memref.isWhole_whole _))

/-- The values a grid point writes back. -/
theorem flush12 (t : Fin cfg0.N) : (dats m 0 c).flushed 12 t = ((cfg0.win 12).blk t).view.read (Elt Ideal) (r12 m c) := by
  rw [flushed12]
  refine funext fun (j : S1x1024x512.Idx) => ?_
  have ej : j = ix3 0 (j 1) (j 2) := (ix3_eta j).symm.trans (congrArg (fun z => ix3 z (j 1) (j 2)) (Subsingleton.elim (α := Fin 1) _ _))
  rw [ej]
  generalize (j 1 : Fin 1024) = f, (j 2 : Fin 512) = n
  refine Eq.trans ?_ (place12 t f n (r12 m c)).symm
  refine Eq.trans ?_ (v_ref (ax m c) (ay m c) (aw m c) (ag m c) (ai m c) (bt t) f (ps t n)).symm
  exact out12_at (iblk m c 0 t) (iblk m c 1 t) (iblk m c 2 t) (iblk m c 3 t) (iblk m c 4 t) (iblk m c 5 t) (iblk m c 6 t) (iblk m c 7 t) (iblk m c 8 t) (ax m c) (ay m c) (aw m c) (ag m c) (ai m c) (bt t) (ps t n) n (fun d => block_0 m c t n d) (fun j => block_1 m c t j n) (fun d j => block_2 m c t d j) (fun d => block_3 m c t d) (fun r d => block_4 m c t r d) f

/-- The values the call leaves are the reference's. -/
theorem array12 : (dats m 0 c).arrAt 12 cfg0.N = r12 m c :=
  (dats m 0 c).arrAt_eq_of_cover 12 (r12 m c) (fun t _ => flush12 m c t)
    ((by decide +kernel : (cfg0.win 12).Covers).cover _ (Memref.isWhole_whole _))

/-- The gate a grid point writes back. -/
theorem flush13 (t : Fin cfg0.N) : (dats m 0 c).flushed 13 t = ((cfg0.win 13).blk t).view.read (Elt Ideal) (r13 m c) := by
  rw [flushed13]
  refine funext fun (j : S1x1024x512.Idx) => ?_
  have ej : j = ix3 0 (j 1) (j 2) := (ix3_eta j).symm.trans (congrArg (fun z => ix3 z (j 1) (j 2)) (Subsingleton.elim (α := Fin 1) _ _))
  rw [ej]
  generalize (j 1 : Fin 1024) = f, (j 2 : Fin 512) = n
  refine Eq.trans ?_ (place13 t f n (r13 m c)).symm
  refine Eq.trans ?_ (g_ref (ax m c) (ay m c) (aw m c) (ag m c) (ai m c) (bt t) f (ps t n)).symm
  exact out13_at (iblk m c 0 t) (iblk m c 1 t) (iblk m c 2 t) (iblk m c 3 t) (iblk m c 4 t) (iblk m c 5 t) (iblk m c 6 t) (iblk m c 7 t) (iblk m c 8 t) (ax m c) (ay m c) (aw m c) (ag m c) (ai m c) (bt t) (ps t n) n (fun d => block_0 m c t n d) (fun j => block_1 m c t j n) (fun d j => block_2 m c t d j) (fun d => block_3 m c t d) (fun r d => block_4 m c t r d) f

/-- The gate the call leaves are the reference's. -/
theorem array13 : (dats m 0 c).arrAt 13 cfg0.N = r13 m c :=
  (dats m 0 c).arrAt_eq_of_cover 13 (r13 m c) (fun t _ => flush13 m c t)
    ((by decide +kernel : (cfg0.win 13).Covers).cover _ (Memref.isWhole_whole _))

end Arrays
end Cert.Proof.Proj
-- ==== Proof.ProjAlgebraic.lean ====
/- The projection call's claims: kernel and reference, run on arguments that agree, leave the same five results. -/
module
public import proofs.«01_k».proof.Defs
public import proofs.«01_k».proof.Proof.ProjFinal
public import proofs.«01_k».proof.Proof.Gen.Reference2Ideal.Run
@[expose] public section
noncomputable section
open Idealize.ShloMosaic Idealize.ShloMosaic.TcCoe Idealize.SL.Sem
namespace Cert.Proof.Proj

/-- Both programs leave the reference's results at the arguments. -/
theorem algebraic_holds : Cert.algebraic_Kernel2Ideal_Reference2Ideal (hKernel2Ideal := Cert.Kernel2Ideal.Gen.facts)
    (hReference2Ideal := Cert.Reference2Ideal.Gen.facts) := by
  intro m g m' g' _ hag
  refine ⟨fun c => r9 m c, fun c => r10 m c, fun c => r11 m c, fun c => r12 m c, fun c => r13 m c, ?_, ?_⟩
  · refine (θ_run _ _ _).mono (fun r h c => ?_) (Cert.Kernel2Ideal.Value.run_blocks m g)
    obtain ⟨k0, k1, k2, k3, k4, k⟩ := h c
    exact ⟨k0.trans (array9 m c), k1.trans (array10 m c), k2.trans (array11 m c), k3.trans (array12 m c), k4.trans (array13 m c), k⟩
  · refine (θ_run _ _ _).mono (fun r h c => ?_) (Cert.Reference2Ideal.Value.run m' g')
    obtain ⟨k0, k1, k2, k3, k4, k⟩ := h c
    obtain ⟨e0, e1, e2, e3, e4, e5, e6⟩ := hag c
    refine ⟨k0.trans ?_, k1.trans ?_, k2.trans ?_, k3.trans ?_, k4.trans ?_, k⟩
    · rw [Cert.Reference2Ideal.Read.val_main_v108_eq, e0, e1, e2]
      rfl
    · rw [Cert.Reference2Ideal.Read.val_main_v110_eq, e0, e1, e2, e3, e4, e5]
      rfl
    · rw [Cert.Reference2Ideal.Read.val_main_v112_eq, e0, e1, e2, e3, e4, e6]
      rfl
    · rw [Cert.Reference2Ideal.Read.val_main_v114_eq, e0, e1, e2, e3, e4]
      rfl
    · rw [Cert.Reference2Ideal.Read.val_main_v116_eq, e0, e1, e2, e3, e4]
      rfl

/-- The reference writes nothing but its results and leaves its arguments. -/
theorem reference_quiescent : Cert.quiescent_Reference2Ideal (hReference2Ideal := Cert.Reference2Ideal.Gen.facts) := fun m g _ =>
  (θ_run Cert.Reference2Ideal.defs _ _).mono (fun r h => And.intro (fun c => (h c).2.2.2.2.2)
    (Idealize.ShloMosaic.sem_eq_zero_of_no_sems (by decide) r.2)) (Cert.Reference2Ideal.Value.run m g)

/-- The named constant stands for the literal the kernel is compiled with. -/
theorem preserves_holds : Cert.preserves_Kernel2_Kernel2Ideal :=
  IdealRules.named_const.statement Cert.Kernel2Ideal.κ "q_fold" .f32 0x3E38AA3B#32 (((1 / 8) * (Real.log 2)⁻¹ : ℝ) : EReal) rfl
end Cert.Proof.Proj
-- ==== Proof.LastBody.lean ====
/- The output product: what the call leaves in its staging buffer at a grid point, read through the ring of three buffers. -/
module
public import proofs.«01_k».proof.Proof.Gen.Kernel3Ideal.Frame
public import Idealize.ShloMosaic.Lib.Pointwise
public import Idealize.ShloMosaic.Lib.VecWindow
public import Idealize.ShloMosaic.Lib.WholeRead
@[expose] public section
noncomputable section
open Idealize.ShloMosaic Idealize.ShloMosaic.TcCoe Idealize.SL.Sem
namespace Cert.Proof.Last
open Cert.Kernel3Ideal Cert.Kernel3Ideal.Gen

/-- The stored tile: the stream and the product with the weights, turned. -/
theorem pay1_at (w : FVec Ideal S1024x1024 .bf16) (y : Vec Ideal S1x1024x1024 .bf16) (x : Vec Ideal S1x1024x1024 .f32) (n d : Fin 1024) :
    k0_pay1 (F := Ideal) w y x (ix2 n d) = x (ix3 0 d n) + ∑ j : Fin 1024, w (ix2 d j) * y (ix3 0 j n) := by
  unfold k0_pay1
  pointwise

/-- The weights as the product takes them. -/
theorem pay2_at (w : Vec Ideal S1024x1024 .bf16) (d j : Fin 1024) : k0_pay2 (F := Ideal) w (ix2 d j) = w (ix2 d j) := by
  unfold k0_pay2
  pointwise

/-- A tile without its leading axis of one entry. -/
theorem lead (h : S1024x1024.numel = S1x1024x1024.numel) (a b : Fin 1024) : Shape.reshapeEquiv h (ix2 a b) = ix3 0 a b := by
  pointwise

/-- The first ring's slot at an index of its buffer. -/
theorem slot_x (s : Fin 3) (W : S3x1024x1024.Idx → EReal) (a b : Fin 1024) :
    ((rslot0_0 s).view.read (Elt Ideal) W : S1024x1024.Idx → EReal) (ix2 a b) = W (ix3 s a b) := by
  show W ((Rect.unit (s := S3x1024x1024) ![s.val, 0, 0] S1x1024x1024.size (inb_slot0_0 s)).emb (Shape.reshapeEquiv _ (ix2 a b))) = _
  rw [lead]
  congr 1
  funext i
  apply Fin.ext
  match i with
  | ⟨0, _⟩ => show s.val + 1 * 0 = s.val; omega
  | ⟨1, _⟩ => show 0 + 1 * a.val = a.val; omega
  | ⟨2, _⟩ => show 0 + 1 * b.val = b.val; omega

/-- The second ring's slot at an index of its buffer. -/
theorem slot_y (s : Fin 3) (W : S3x1024x1024.Idx → EReal) (a b : Fin 1024) :
    ((rslot0_1 s).view.read (Elt Ideal) W : S1024x1024.Idx → EReal) (ix2 a b) = W (ix3 s a b) := by
  show W ((Rect.unit (s := S3x1024x1024) ![s.val, 0, 0] S1x1024x1024.size (inb_slot0_1 s)).emb (Shape.reshapeEquiv _ (ix2 a b))) = _
  rw [lead]
  congr 1
  funext i
  apply Fin.ext
  match i with
  | ⟨0, _⟩ => show s.val + 1 * 0 = s.val; omega
  | ⟨1, _⟩ => show 0 + 1 * a.val = a.val; omega
  | ⟨2, _⟩ => show 0 + 1 * b.val = b.val; omega

/-- A tile of the stream at an index of its array. -/
theorem src_x (k : Fin 32) (W : S4x1024x8192.Idx → EReal) (a b : Fin 1024) :
    ((srcB0_0 k).view.read (Elt Ideal) W : S1024x1024.Idx → EReal) (ix2 a b) = W (ix3 ⟨k.val / 8, by omega⟩ a ⟨1024 * (k.val % 8) + b.val, by omega⟩) := by
  show W ((Rect.unit (s := S4x1024x8192) ![(k.val / 8), 0, 1024 * (k.val % 8)] S1x1024x1024.size (inb_src0_0 k)).emb (Shape.reshapeEquiv _ (ix2 a b))) = _
  rw [lead]
  congr 1
  funext i
  apply Fin.ext
  match i with
  | ⟨0, _⟩ => show k.val / 8 + 1 * 0 = k.val / 8; omega
  | ⟨1, _⟩ => show 0 + 1 * a.val = a.val; omega
  | ⟨2, _⟩ => show 1024 * (k.val % 8) + 1 * b.val = 1024 * (k.val % 8) + b.val; omega

/-- A tile of the attention's output at an index of its array. -/
theorem src_y (k : Fin 32) (W : S4x1024x8192.Idx → EReal) (a b : Fin 1024) :
    ((srcB0_1 k).view.read (Elt Ideal) W : S1024x1024.Idx → EReal) (ix2 a b) = W (ix3 ⟨k.val / 8, by omega⟩ a ⟨1024 * (k.val % 8) + b.val, by omega⟩) := by
  show W ((Rect.unit (s := S4x1024x8192) ![(k.val / 8), 0, 1024 * (k.val % 8)] S1x1024x1024.size (inb_src0_1 k)).emb (Shape.reshapeEquiv _ (ix2 a b))) = _
  rw [lead]
  congr 1
  funext i
  apply Fin.ext
  match i with
  | ⟨0, _⟩ => show k.val / 8 + 1 * 0 = k.val / 8; omega
  | ⟨1, _⟩ => show 0 + 1 * a.val = a.val; omega
  | ⟨2, _⟩ => show 1024 * (k.val % 8) + 1 * b.val = 1024 * (k.val % 8) + b.val; omega

/-- A slot into which a tile was copied whole holds the tile. -/
theorem landed {e : EltTy} {sp : Space} (v : View sig .tc sp S1024x1024 e) (f : v.ty.Contents (Elt Ideal)) (X : S1024x1024.Idx → Elt Ideal e) (i : S1024x1024.Idx) :
    v.read (Elt Ideal) (v.writes (Elt Ideal) f [⟨Rect.whole S1024x1024, X⟩]) i = X i :=
  congrFun (View.read_writes_full v f _ X []) i

/-- What the body reads at its slot of the first ring: the tile that was copied there. -/
theorem read_x (s : Fin 3) (off : Fin 3 → ℕ) (ho : off = ![s.val, 0, 0]) (h : ∀ a, off a + (![1, 1024, 1024] : Fin 3 → ℕ) a ≤ S3x1024x1024.size a)
    (k : Fin 32) (W : S4x1024x8192.Idx → EReal) (f : (rslot0_0 s).view.ty.Contents (Elt Ideal)) (a b : Fin 1024) :
    (View.readAt (Elt Ideal) scM0_0.view (Rect.unit (s := S3x1024x1024) off ![1, 1024, 1024] h).toLoadRect
      ((rslot0_0 s).view.writes (Elt Ideal) f [⟨Rect.whole S1024x1024, ReadAs.same.apply (View.read (Elt Ideal) (srcB0_0 k).view W)⟩]) : S1x1024x1024.Idx → EReal) (ix3 0 a b)
      = W (ix3 ⟨k.val / 8, by omega⟩ a ⟨1024 * (k.val % 8) + b.val, by omega⟩) := by
  subst ho
  refine Eq.trans ?_ ((landed (rslot0_0 s).view f (ReadAs.same.apply (View.read (Elt Ideal) (srcB0_0 k).view W)) (ix2 a b)).trans (src_x k W a b))
  generalize (rslot0_0 s).view.writes (Elt Ideal) f _ = Z
  refine Eq.trans ?_ (slot_x s Z a b).symm
  show (Z : S3x1024x1024.Idx → EReal) _ = (Z : S3x1024x1024.Idx → EReal) _
  congr 1
  funext i
  apply Fin.ext
  match i with
  | ⟨0, _⟩ => show s.val + 1 * 0 = s.val; omega
  | ⟨1, _⟩ => show 0 + 1 * a.val = a.val; omega
  | ⟨2, _⟩ => show 0 + 1 * b.val = b.val; omega

/-- What the body reads at its slot of the second ring: the tile that was copied there. -/
theorem read_y (s : Fin 3) (off : Fin 3 → ℕ) (ho : off = ![s.val, 0, 0]) (h : ∀ a, off a + (![1, 1024, 1024] : Fin 3 → ℕ) a ≤ S3x1024x1024.size a)
    (k : Fin 32) (W : S4x1024x8192.Idx → EReal) (f : (rslot0_1 s).view.ty.Contents (Elt Ideal)) (a b : Fin 1024) :
    (View.readAt (Elt Ideal) scM0_1.view (Rect.unit (s := S3x1024x1024) off ![1, 1024, 1024] h).toLoadRect
      ((rslot0_1 s).view.writes (Elt Ideal) f [⟨Rect.whole S1024x1024, ReadAs.same.apply (View.read (Elt Ideal) (srcB0_1 k).view W)⟩]) : S1x1024x1024.Idx → EReal) (ix3 0 a b)
      = W (ix3 ⟨k.val / 8, by omega⟩ a ⟨1024 * (k.val % 8) + b.val, by omega⟩) := by
  subst ho
  refine Eq.trans ?_ ((landed (rslot0_1 s).view f (ReadAs.same.apply (View.read (Elt Ideal) (srcB0_1 k).view W)) (ix2 a b)).trans (src_y k W a b))
  generalize (rslot0_1 s).view.writes (Elt Ideal) f _ = Z
  refine Eq.trans ?_ (slot_y s Z a b).symm
  show (Z : S3x1024x1024.Idx → EReal) _ = (Z : S3x1024x1024.Idx → EReal) _
  congr 1
  funext i
  apply Fin.ext
  match i with
  | ⟨0, _⟩ => show s.val + 1 * 0 = s.val; omega
  | ⟨1, _⟩ => show 0 + 1 * a.val = a.val; omega
  | ⟨2, _⟩ => show 0 + 1 * b.val = b.val; omega

section Cases
variable (c : Dev nD) (t : Fin cfg0.N) (arg3 : Memref sig .tc .vmem S1024x1024 .bf16) (harg3 : arg3.IsWhole)
  (arg4 : Memref sig .tc .vmem S1024x1024 .f32) (harg4 : arg4.IsWhole) (x0 : Vec Ideal S1024x1024 .bf16)
  (fh0 fh1 : S4x1024x8192.Idx → EReal)

/-- What one store of a whole tile leaves. -/
theorem stored (w : S1024x1024.Idx → EReal) (f : VO0_1.ty.Contents (Elt Ideal)) (i : S1024x1024.Idx) :
    (VO0_1.read (Elt Ideal) (VO0_1.writes (Elt Ideal) f [⟨Rect.unit ![0, 0] ![1024, 1024] inb_S1024x1024_S1024x1024_0_0, w⟩]) : S1024x1024.Idx → EReal) i = w i :=
  congrFun (View.read_writes_full VO0_1 f _ w []) i

/-- The weights the body loads. -/
theorem loaded (d j : Fin 1024) :
    (k0_pay2 (F := Ideal) (View.readAt (Elt Ideal) arg3.view (Rect.unit (s := S1024x1024) ![0, 0] S1024x1024.size inb_S1024x1024_S1024x1024_0_0).toLoadRect (harg3.unread x0)) : S1024x1024.Idx → EReal) (ix2 d j)
      = x0 (ix2 d j) := by
  rw [pay2_at]
  refine (harg3.readAt_unread x0 _ _).trans (congrArg x0 ?_)
  funext i
  apply Fin.ext
  match i with
  | ⟨0, _⟩ => show 0 + 1 * d.val = d.val; omega
  | ⟨1, _⟩ => show 0 + 1 * j.val = j.val; omega

/-- The tile a grid point leaves, from the weights it is given and the two arrays it copies from. -/
def tile (x0 : Vec Ideal S1024x1024 .bf16) (fh0 fh1 : S4x1024x8192.Idx → EReal) (k : Fin 32) (n d : Fin 1024) : EReal :=
  fh0 (ix3 ⟨k.val / 8, by omega⟩ d ⟨1024 * (k.val % 8) + n.val, by omega⟩)
    + ∑ j : Fin 1024, x0 (ix2 d j) * fh1 (ix3 ⟨k.val / 8, by omega⟩ j ⟨1024 * (k.val % 8) + n.val, by omega⟩)

/-- The first grid point. -/
theorem out_A (hc0 : cond0_0 (grid0.coords t)) (hc1 : cond0_1 (grid0.coords t)) (n d : Fin 1024) :
    (out0_A_1 (F := Ideal) c t arg3 harg3 arg4 harg4 hc0 hc1 x0 fh0 fh1 : S1024x1024.Idx → EReal) (ix2 n d) = tile x0 fh0 fh1 (Ring.bk 32 t.val) n d := by
  unfold out0_A_1 kernelRun0_A
  refine (stored _ _ _).trans ((pay1_at _ _ _ n d).trans ?_)
  refine congrArg₂ (· + ·) ?_ (Finset.sum_congr rfl fun j _ => congrArg₂ (· * ·) ?_ ?_)
  · exact read_x (Ring.sl 3 t.val) _ (coff0_0_13 t) _ (Ring.bk 32 t.val) fh0 _ d n
  · exact loaded arg3 harg3 x0 d j
  · exact read_y (Ring.sl 3 t.val) _ (coff0_0_13 t) _ (Ring.bk 32 t.val) fh1 _ j n

/-- A grid point that starts the copies of a later tile. -/
theorem out_B (hc0 : ¬cond0_0 (grid0.coords t)) (hc1 : cond0_1 (grid0.coords t)) (n d : Fin 1024) :
    (out0_B_1 (F := Ideal) c t arg3 harg3 arg4 harg4 hc0 hc1 x0 fh0 fh1 : S1024x1024.Idx → EReal) (ix2 n d) = tile x0 fh0 fh1 (Ring.bk 32 t.val) n d := by
  unfold out0_B_1 kernelRun0_B
  refine (stored _ _ _).trans ((pay1_at _ _ _ n d).trans ?_)
  refine congrArg₂ (· + ·) ?_ (Finset.sum_congr rfl fun j _ => congrArg₂ (· * ·) ?_ ?_)
  · exact read_x (Ring.sl 3 t.val) _ (coff0_0_13 t) _ (Ring.bk 32 t.val) fh0 _ d n
  · exact loaded arg3 harg3 x0 d j
  · exact read_y (Ring.sl 3 t.val) _ (coff0_0_13 t) _ (Ring.bk 32 t.val) fh1 _ j n

/-- A grid point that starts none. -/
theorem out_C (hc0 : ¬cond0_0 (grid0.coords t)) (hc1 : ¬cond0_1 (grid0.coords t)) (n d : Fin 1024) :
    (out0_C_1 (F := Ideal) c t arg3 harg3 arg4 harg4 hc0 hc1 x0 fh0 fh1 : S1024x1024.Idx → EReal) (ix2 n d) = tile x0 fh0 fh1 (Ring.bk 32 t.val) n d := by
  unfold out0_C_1 kernelRun0_C
  refine (stored _ _ _).trans ((pay1_at _ _ _ n d).trans ?_)
  refine congrArg₂ (· + ·) ?_ (Finset.sum_congr rfl fun j _ => congrArg₂ (· * ·) ?_ ?_)
  · exact read_x (Ring.sl 3 t.val) _ (coff0_0_13 t) _ (Ring.bk 32 t.val) fh0 _ d n
  · exact loaded arg3 harg3 x0 d j
  · exact read_y (Ring.sl 3 t.val) _ (coff0_0_13 t) _ (Ring.bk 32 t.val) fh1 _ j n
end Cases

/-- The tile a grid point waits for is its own. -/
theorem own : ∀ t : Fin cfg0.N, (Ring.bk 32 t.val).val = t.val :=
  (by decide +kernel : ∀ t : Fin grid0.N, (Ring.bk 32 t.val).val = t.val)
end Cert.Proof.Last
-- ==== Proof.LastFinal.lean ====
/- The output product's arrays: what the call is given, what it leaves, and the reference at an index. -/
module
public import proofs.«01_k».proof.Proof.Gen.Kernel3Ideal.Value
public import proofs.«01_k».proof.Proof.Gen.Reference3Ideal.Read
public import proofs.«01_k».proof.Proof.LastBody
public import Idealize.ShloMosaic.Lib.StableHlo.ReadAt
public import Idealize.ShloMosaic.Lib.Claim
public import Idealize.ShloMosaic.Lib.Pipeline.ValueKit.Geometry
@[expose] public section
noncomputable section
open Idealize.ShloMosaic Idealize.ShloMosaic.TcCoe Idealize.SL.Sem
namespace Cert.Proof.Last
open Cert.Kernel3Ideal Cert.Kernel3Ideal.Gen Cert.Kernel3Ideal.Value
variable (m : (ℓ : Loc nD τ sig) → Buf (Elt Ideal) ℓ)

/-- The row of a position in the array that puts the batches one below the other. -/
def row (b : Fin 4) (s : Fin 8192) : Fin 32768 := ⟨b.val * 8192 + s.val, by omega⟩

/-- The reference's result: the stream and the product with the weights. -/
theorem out_ref (x0 x1 : (⟨Cert.Reference3Ideal.S4x8192x1024, .f32⟩ : BufTy).Contents (Elt Ideal)) (x2 : (⟨Cert.Reference3Ideal.S1x1024x1024, .f32⟩ : BufTy).Contents (Elt Ideal))
    (b : Fin 4) (s : Fin 8192) (d : Fin 1024) :
    Cert.Reference3Ideal.Read.val_main_v3 (F := Ideal) x0 x1 x2 (ix2 (row b s) d) = x0 (ix3 b s d) + ∑ j : Fin 1024, x2 (ix3 0 j d) * x1 (ix3 b s j) := by
  unfold row Cert.Reference3Ideal.Read.val_main_v3 Cert.Reference3Ideal.Read.val_main_v2 Cert.Reference3Ideal.Read.val_main_v1 Cert.Reference3Ideal.Read.val_main_v0
  pointwise
  exact congrArg _ (Finset.sum_congr rfl fun j _ => mul_comm _ _)

section Arrays
variable (c : Dev nD)

/-- The residual stream the call is given. -/
abbrev ax : S4x8192x1024.Idx → EReal := m ⟨c, main_arg0⟩
/-- The odd attention's output the call is given. -/
abbrev ay : S4x8192x1024.Idx → EReal := m ⟨c, main_arg1⟩
/-- The output weights the call is given. -/
abbrev aw : S1x1024x1024.Idx → EReal := m ⟨c, main_arg2⟩

/-- The stream before the kernel. -/
theorem entry_v0 (b : Fin 4) (d : Fin 1024) (s : Fin 8192) : (V m c main_v0 : S4x1024x8192.Idx → EReal) (ix3 b d s) = ax m c (ix3 b s d) := by
  unfold V
  after_reads_at

/-- The attention's output before the kernel. -/
theorem entry_v2 (b : Fin 4) (j : Fin 1024) (s : Fin 8192) : (V m c main_v2 : S4x1024x8192.Idx → EReal) (ix3 b j s) = ay m c (ix3 b s j) := by
  unfold V
  after_reads_at

/-- The output weights before the kernel. -/
theorem entry_v5 (d j : Fin 1024) : (V m c main_v5 : S1024x1024.Idx → EReal) (ix2 d j) = aw m c (ix3 0 j d) := by
  unfold V
  after_reads_at

/-- Where window 0's block stands at a grid point. -/
theorem index0 : ∀ t : Fin cfg0.N, win0_0.index t 0 = 0 ∧ win0_0.index t 1 = 0 :=
  (by decide +kernel : ∀ t : Fin grid0.N, win0_0.index t 0 = 0 ∧ win0_0.index t 1 = 0)

/-- Where window 1's block stands at a grid point. -/
theorem index1 : ∀ t : Fin cfg0.N, win0_1.index t 0 = t.val ∧ win0_1.index t 1 = 0 :=
  (by decide +kernel : ∀ t : Fin grid0.N, win0_1.index t 0 = t.val ∧ win0_1.index t 1 = 0)

/-- The grid has 32 points. -/
theorem small (t : Fin cfg0.N) : t.val < 32 := t.isLt
/-- The batch of a grid point. -/
def bt (t : Fin cfg0.N) : Fin 4 := ⟨t.val / 8, by have := small t; omega⟩
/-- The position of a lane of a grid point. -/
def ps (t : Fin cfg0.N) (n : Fin 1024) : Fin 8192 := ⟨1024 * (t.val % 8) + n.val, by omega⟩

/-- The weights' block. -/
theorem block_0 (t : Fin cfg0.N) (d j : Fin 1024) : (iblk m c 0 t : S1024x1024.Idx → EReal) (ix2 d j) = aw m c (ix3 0 j d) := by
  refine Eq.trans ?_ (entry_v5 m c d j)
  obtain ⟨h0, h1⟩ := index0 t
  unfold iblk
  rw [View.read_apply]
  show V m c main_v5 _ = V m c main_v5 _
  congr 1
  funext a
  apply Fin.ext
  match a with
  | ⟨0, _⟩ => show win0_0.index t 0 * 1024 + 1 * d.val = d.val; rw [h0]; omega
  | ⟨1, _⟩ => show win0_0.index t 1 * 1024 + 1 * j.val = j.val; rw [h1]; omega

/-- Where an entry of window 1's block lies in its array. -/
theorem place1 (t : Fin cfg0.N) (n d : Fin 1024) (X : S32768x1024.Idx → EReal) :
    (((cfg0.win 1).blk t).view.read (Elt Ideal) X : S1024x1024.Idx → EReal) (ix2 n d) = X (ix2 (row (bt t) (ps t n)) d) := by
  obtain ⟨h0, h1⟩ := index1 t
  rw [View.read_apply]
  show X _ = X _
  congr 1
  funext a
  apply Fin.ext
  match a with
  | ⟨0, _⟩ => show win0_1.index t 0 * 1024 + 1 * n.val = t.val / 8 * 8192 + (1024 * (t.val % 8) + n.val); rw [h0]; omega
  | ⟨1, _⟩ => show win0_1.index t 1 * 1024 + 1 * d.val = d.val; rw [h1]; omega

/-- The result, of the arguments. -/
def result : S32768x1024.Idx → EReal := Cert.Reference3Ideal.Read.val_main_v3 (F := Ideal) (ax m c) (ay m c) (aw m c)

/-- A grid point's tile is the reference's. -/
theorem tile_ref (t : Fin cfg0.N) (n d : Fin 1024) :
    tile (iblk m c 0 t) (V m c main_v0) (V m c main_v2) (Ring.bk 32 t.val) n d = result m c (ix2 (row (bt t) (ps t n)) d) := by
  have hb : ∀ h, (⟨(Ring.bk 32 t.val).val / 8, h⟩ : Fin 4) = bt t := fun h => Fin.ext (congrArg (· / 8) (own t))
  have hs : ∀ h, (⟨1024 * ((Ring.bk 32 t.val).val % 8) + n.val, h⟩ : Fin 8192) = ps t n := fun h => Fin.ext (congrArg (fun k => 1024 * (k % 8) + n.val) (own t))
  unfold result
  rw [out_ref]
  unfold tile
  rw [hb, hs]
  exact congrArg₂ (· + ·) (entry_v0 m c _ _ _) (Finset.sum_congr rfl fun j _ => congrArg₂ (· * ·) (block_0 m c t d j) (entry_v2 m c _ _ _))

/-- What a grid point writes back is its tile. -/
theorem flushed_at (t : Fin cfg0.N) : ∃ Z : S1024x1024.Idx → EReal,
    (dats m 0 c).flushed 1 t = (cfg0.win 1).cut (grid0.coords t) Z ∧ ∀ n d : Fin 1024, Z (ix2 n d) = result m c (ix2 (row (bt t) (ps t n)) d) := by
  have hN := small t
  by_cases h1 : t.val < 30
  · by_cases h0 : t.val % 32 = 0
    · exact ⟨_, flushed1_A m c t h0 h1, fun n d => (out_A c t _ _ _ _ _ _ _ _ _ n d).trans (tile_ref m c t n d)⟩
    · exact ⟨_, flushed1_B m c t h0 h1, fun n d => (out_B c t _ _ _ _ _ _ _ _ _ n d).trans (tile_ref m c t n d)⟩
  · have h0 : ¬t.val % 32 = 0 := by omega
    exact ⟨_, flushed1_C m c t h0 h1, fun n d => (out_C c t _ _ _ _ _ _ _ _ _ n d).trans (tile_ref m c t n d)⟩

/-- What a grid point writes back is its block of the reference's result. -/
theorem flush1 (t : Fin cfg0.N) : (dats m 0 c).flushed 1 t = ((cfg0.win 1).blk t).view.read (Elt Ideal) (result m c) := by
  obtain ⟨Z, e, h⟩ := flushed_at m c t
  rw [e]
  refine funext fun (j : S1024x1024.Idx) => ?_
  have ej : j = ix2 (j 0) (j 1) := (ix2_eta j).symm
  rw [ej]
  generalize (j 0 : Fin 1024) = n, (j 1 : Fin 1024) = d
  refine Eq.trans ?_ (place1 t n d (result m c)).symm
  exact h n d

/-- The stream the call leaves is the reference's. -/
theorem array1 : (dats m 0 c).arrAt 1 cfg0.N = result m c :=
  (dats m 0 c).arrAt_eq_of_cover 1 (result m c) (fun t _ => flush1 m c t)
    ((by decide +kernel : (cfg0.win 1).Covers).cover _ (Memref.isWhole_whole _))

end Arrays
end Cert.Proof.Last
-- ==== Proof.LastAlgebraic.lean ====
/- The output product's claims: kernel and reference, run on arguments that agree, leave the same result. -/
module
public import proofs.«01_k».proof.Defs
public import proofs.«01_k».proof.Proof.LastFinal
public import proofs.«01_k».proof.Proof.Gen.Reference3Ideal.Run
@[expose] public section
noncomputable section
open Idealize.ShloMosaic Idealize.ShloMosaic.TcCoe Idealize.SL.Sem
namespace Cert.Proof.Last

/-- Both programs leave the reference's result at the arguments. -/
theorem algebraic_holds : Cert.algebraic_Kernel3Ideal_Reference3Ideal (hKernel3Ideal := Cert.Kernel3Ideal.Gen.facts)
    (hReference3Ideal := Cert.Reference3Ideal.Gen.facts) := by
  intro m g m' g' _ hag
  refine ⟨fun c => result m c, ?_, ?_⟩
  · refine (θ_run _ _ _).mono (fun r h c => ?_) (Cert.Kernel3Ideal.Value.run_blocks m g)
    obtain ⟨k0, k⟩ := h c
    exact ⟨k0.trans (array1 m c), k⟩
  · refine (θ_run _ _ _).mono (fun r h c => ?_) (Cert.Reference3Ideal.Value.run m' g')
    obtain ⟨k0, k⟩ := h c
    obtain ⟨e0, e1, e2⟩ := hag c
    refine ⟨k0.trans ?_, k⟩
    rw [Cert.Reference3Ideal.Read.val_main_v3_eq, e0, e1, e2]
    rfl

/-- The reference writes nothing but its result and leaves its arguments. -/
theorem reference_quiescent : Cert.quiescent_Reference3Ideal (hReference3Ideal := Cert.Reference3Ideal.Gen.facts) := fun m g _ =>
  (θ_run Cert.Reference3Ideal.defs _ _).mono (fun r h => And.intro (fun c => (h c).2)
    (Idealize.ShloMosaic.sem_eq_zero_of_no_sems (by decide) r.2)) (Cert.Reference3Ideal.Value.run m g)
end Cert.Proof.Last
-- ==== Proof.EvenMaths.lean ====
/- The even projection's values as functions of its arguments. -/
module
public import proofs.«01_k».proof.Proof.ProjMaths
@[expose] public section
noncomputable section
open Idealize.ShloMosaic Idealize.ShloMosaic.TcCoe Idealize.SL.Sem
namespace Cert.Proof.Even
open Cert.Proof.Proj (rms rot sil ang fold)
variable (X : (⟨3, ![4, 8192, 1024]⟩ : Shape).Idx → EReal) (G : (⟨2, ![1, 1024]⟩ : Shape).Idx → EReal)
  (I : (⟨3, ![1, 1024, 3328]⟩ : Shape).Idx → EReal) (N : (⟨2, ![1, 64]⟩ : Shape).Idx → EReal) (b : Fin 4) (s : Fin 8192)

/-- The input normalised. -/
def normed (d : Fin 1024) : EReal := rms 1149239296#32 (fun d => X (ix3 b s d)) (fun d => G (ix2 0 d)) d

/-- The projection of the normalised input. -/
def proj (r : Fin 3328) : EReal := ∑ d : Fin 1024, I (ix3 0 d r) * normed X G b s d

/-- A head's normalised entries, the heads' projection beginning at row `o`. -/
def hd (o h : ℕ) (ho : o + h * 64 ≤ 3264) (e : Fin 64) : EReal :=
  rms 1115684864#32 (fun e : Fin 64 => proj X G I b s ⟨o + (h * 64 + e.val), by omega⟩) (fun e => N (ix2 0 e)) e

/-- A head's normalised and rotated entries. -/
def turned (o h : ℕ) (ho : o + h * 64 ≤ 3264) (e : Fin 64) : EReal :=
  rot (hd X G I N b s o h ho) (fun e => Ideal.cos (ang s e)) (fun e => Ideal.sin (ang s e)) e

/-- The rows of values by heads, sixteen ones after each head's 64 entries, the values' projection beginning at row `o`. -/
def banded (o : ℕ) (ho : o ≤ 2816) (r : Fin 640) : EReal :=
  if r.val % 80 < 64 then proj X G I b s ⟨o + (r.val / 80 * 64 + r.val % 80 % 64), by omega⟩ else 1

/-- Where a row of `banded` is a head's entry. -/
theorem banded_entry (o : ℕ) (ho : o ≤ 2816) (r : Fin 640) (k : ℕ) (hk : k < 3328) (h : r.val % 80 < 64) (e : k = o + (r.val / 80 * 64 + r.val % 80)) :
    banded X G I b s o ho r = proj X G I b s ⟨k, hk⟩ := by
  unfold banded
  rw [if_pos h]
  exact congrArg (proj X G I b s) (Fin.ext (by show o + (r.val / 80 * 64 + r.val % 80 % 64) = k; omega))

/-- Where a row of `banded` is a one. -/
theorem banded_one (o : ℕ) (ho : o ≤ 2816) (r : Fin 640) (h : 64 ≤ r.val % 80) : banded X G I b s o ho r = 1 := by
  unfold banded
  rw [if_neg (by omega)]

/-- The gate's row of the projection: the first mixer's, then the second's. -/
def gated (r : Fin 1024) : EReal :=
  sil (if h : r.val < 512 then proj X G I b s ⟨768 + r.val, by omega⟩ else proj X G I b s ⟨2816 + (r.val - 512), by omega⟩)
end Cert.Proof.Even
-- ==== Proof.EvenBlocks.lean ====
/- The blocks the even projection is given at a grid point. -/
module
public import proofs.«01_k».proof.Proof.Gen.Kernel4Ideal.Value
public import proofs.«01_k».proof.Proof.EvenMaths
public import Idealize.ShloMosaic.Lib.StableHlo.ReadAt
public import Idealize.ShloMosaic.Lib.Claim
public import Idealize.ShloMosaic.Lib.Pipeline.ValueKit.Geometry
@[expose] public section
noncomputable section
open Idealize.ShloMosaic Idealize.ShloMosaic.TcCoe Idealize.SL.Sem
namespace Cert.Proof.Even
open Cert.Kernel4Ideal Cert.Kernel4Ideal.Gen Cert.Kernel4Ideal.Value
open Cert.Proof.Proj (ang)
variable (m : (ℓ : Loc nD τ sig) → Buf (Elt Ideal) ℓ)

/-- The batch of a grid point. -/
def bt (t : Fin cfg0.N) : Fin 4 := ⟨(grid0.coords t 0).val, (grid0.coords t 0).isLt⟩
/-- The tile of positions of a grid point. -/
def tl (t : Fin cfg0.N) : Fin 8 := ⟨(grid0.coords t 1).val, (grid0.coords t 1).isLt⟩
/-- The position of a lane of a grid point. -/
def ps (t : Fin cfg0.N) (n : Fin 1024) : Fin 8192 := ⟨1024 * (tl t).val + n.val, by omega⟩
/-- The row of a position in the arrays that put the batches one below the other. -/
def row (b : Fin 4) (s : Fin 8192) : Fin 32768 := ⟨b.val * 8192 + s.val, by omega⟩

/-- Where window 0's block stands at a grid point. -/
theorem index0 : ∀ t : Fin cfg0.N, win0_0.index t 0 = (grid0.coords t 0).val * 8 + (grid0.coords t 1).val ∧ win0_0.index t 1 = 0 :=
  (by decide +kernel : ∀ t : Fin grid0.N, win0_0.index t 0 = (grid0.coords t 0).val * 8 + (grid0.coords t 1).val ∧ win0_0.index t 1 = 0)

/-- Where window 1's block stands at a grid point. -/
theorem index1 : ∀ t : Fin cfg0.N, win0_1.index t 0 = 0 ∧ win0_1.index t 1 = 0 :=
  (by decide +kernel : ∀ t : Fin grid0.N, win0_1.index t 0 = 0 ∧ win0_1.index t 1 = 0)

/-- Where window 2's block stands at a grid point. -/
theorem index2 : ∀ t : Fin cfg0.N, win0_2.index t 0 = 0 ∧ win0_2.index t 1 = 0 :=
  (by decide +kernel : ∀ t : Fin grid0.N, win0_2.index t 0 = 0 ∧ win0_2.index t 1 = 0)

/-- Where window 3's block stands at a grid point. -/
theorem index3 : ∀ t : Fin cfg0.N, win0_3.index t 0 = 0 ∧ win0_3.index t 1 = (grid0.coords t 1).val :=
  (by decide +kernel : ∀ t : Fin grid0.N, win0_3.index t 0 = 0 ∧ win0_3.index t 1 = (grid0.coords t 1).val)

/-- Where window 4's block stands at a grid point. -/
theorem index4 : ∀ t : Fin cfg0.N, win0_4.index t 0 = 0 ∧ win0_4.index t 1 = (grid0.coords t 1).val :=
  (by decide +kernel : ∀ t : Fin grid0.N, win0_4.index t 0 = 0 ∧ win0_4.index t 1 = (grid0.coords t 1).val)

/-- Where window 5's block stands at a grid point. -/
theorem index5 : ∀ t : Fin cfg0.N, win0_5.index t 0 = 0 ∧ win0_5.index t 1 = 0 :=
  (by decide +kernel : ∀ t : Fin grid0.N, win0_5.index t 0 = 0 ∧ win0_5.index t 1 = 0)

/-- Where window 6's block stands at a grid point. -/
theorem index6 : ∀ t : Fin cfg0.N, win0_6.index t 0 = 0 ∧ win0_6.index t 1 = 0 :=
  (by decide +kernel : ∀ t : Fin grid0.N, win0_6.index t 0 = 0 ∧ win0_6.index t 1 = 0)

/-- Where window 7's block stands at a grid point. -/
theorem index7 : ∀ t : Fin cfg0.N, win0_7.index t 0 = 0 ∧ win0_7.index t 1 = 0 :=
  (by decide +kernel : ∀ t : Fin grid0.N, win0_7.index t 0 = 0 ∧ win0_7.index t 1 = 0)

/-- Where window 8's block stands at a grid point. -/
theorem index8 : ∀ t : Fin cfg0.N, win0_8.index t 0 = 0 ∧ win0_8.index t 1 = 0 :=
  (by decide +kernel : ∀ t : Fin grid0.N, win0_8.index t 0 = 0 ∧ win0_8.index t 1 = 0)

/-- The input as launched. -/
abbrev ax (c : Dev nD) : S4x8192x1024.Idx → EReal := m ((c : Thread nD τ).loc main_arg0)
/-- The norm gain as launched. -/
abbrev ag (c : Dev nD) : S1x1024.Idx → EReal := m ((c : Thread nD τ).loc main_arg1)
/-- The projection's weights as launched. -/
abbrev ai (c : Dev nD) : S1x1024x3328.Idx → EReal := m ((c : Thread nD τ).loc main_arg2)
/-- The gain of the first mixer's queries as launched. -/
abbrev aaq (c : Dev nD) : S1x64.Idx → EReal := m ((c : Thread nD τ).loc main_arg3)
/-- The gain of the first mixer's keys as launched. -/
abbrev aak (c : Dev nD) : S1x64.Idx → EReal := m ((c : Thread nD τ).loc main_arg4)
/-- The gain of the second mixer's queries as launched. -/
abbrev abq (c : Dev nD) : S1x64.Idx → EReal := m ((c : Thread nD τ).loc main_arg5)
/-- The gain of the second mixer's keys as launched. -/
abbrev abk (c : Dev nD) : S1x64.Idx → EReal := m ((c : Thread nD τ).loc main_arg6)

/-- The input before the kernel. -/
theorem entry_v19 (c : Dev nD) (b : Fin 4) (s : Fin 8192) (d : Fin 1024) : (V m c main_v19 : S32768x1024.Idx → EReal) (ix2 (row b s) d) = ax m c (ix3 b s d) := by
  unfold row
  unfold V
  after_reads_at

/-- The input of a grid point. -/
theorem block_0 (c : Dev nD) (t : Fin cfg0.N) (n d : Fin 1024) : (iblk m c 0 t : S1024x1024.Idx → EReal) (ix2 n d) = ax m c (ix3 (bt t) (ps t n) d) := by
  have hb : (iblk m c 0 t : S1024x1024.Idx → EReal) (ix2 n d) = (V m c main_v19 : S32768x1024.Idx → EReal) (ix2 (row (bt t) (ps t n)) d) := by
    obtain ⟨h0, h1⟩ := index0 t
    unfold iblk
    rw [View.read_apply]
    show V m c main_v19 _ = V m c main_v19 _
    generalize V m c main_v19 = X
    congr 1
    funext a
    apply Fin.ext
    match a with
    | ⟨0, _⟩ => show win0_0.index t 0 * 1024 + 1 * n.val = (grid0.coords t 0).val * 8192 + (1024 * (grid0.coords t 1).val + n.val); rw [h0]; omega
    | ⟨1, _⟩ => show win0_0.index t 1 * 1024 + 1 * d.val = d.val; rw [h1]; omega
  exact hb.trans (entry_v19 m c (bt t) (ps t n) d)

/-- The norm gain before the kernel. -/
theorem entry_v21 (c : Dev nD) (d : Fin 1024) : (V m c main_v21 : S1x1024.Idx → EReal) (ix2 0 d) = ag m c (ix2 0 d) := by
  unfold V
  after_reads_at

/-- The norm gain of a grid point. -/
theorem block_1 (c : Dev nD) (t : Fin cfg0.N) (d : Fin 1024) : (iblk m c 1 t : S1x1024.Idx → EReal) (ix2 0 d) = ag m c (ix2 0 d) := by
  have hb : (iblk m c 1 t : S1x1024.Idx → EReal) (ix2 0 d) = (V m c main_v21 : S1x1024.Idx → EReal) (ix2 0 d) := by
    obtain ⟨h0, h1⟩ := index1 t
    unfold iblk
    rw [View.read_apply]
    show V m c main_v21 _ = V m c main_v21 _
    generalize V m c main_v21 = X
    congr 1
    funext a
    apply Fin.ext
    match a with
    | ⟨0, _⟩ => show win0_1.index t 0 * 1 + 1 * 0 = 0; rw [h0]
    | ⟨1, _⟩ => show win0_1.index t 1 * 1024 + 1 * d.val = d.val; rw [h1]; omega
  exact hb.trans (entry_v21 m c d)

/-- The projection's weights before the kernel. -/
theorem entry_v24 (c : Dev nD) (r : Fin 3328) (d : Fin 1024) : (V m c main_v24 : S3328x1024.Idx → EReal) (ix2 r d) = ai m c (ix3 0 d r) := by
  unfold V
  after_reads_at

/-- The projection's weights of a grid point. -/
theorem block_2 (c : Dev nD) (t : Fin cfg0.N) (r : Fin 3328) (d : Fin 1024) : (iblk m c 2 t : S3328x1024.Idx → EReal) (ix2 r d) = ai m c (ix3 0 d r) := by
  have hb : (iblk m c 2 t : S3328x1024.Idx → EReal) (ix2 r d) = (V m c main_v24 : S3328x1024.Idx → EReal) (ix2 r d) := by
    obtain ⟨h0, h1⟩ := index2 t
    unfold iblk
    rw [View.read_apply]
    show V m c main_v24 _ = V m c main_v24 _
    generalize V m c main_v24 = X
    congr 1
    funext a
    apply Fin.ext
    match a with
    | ⟨0, _⟩ => show win0_2.index t 0 * 3328 + 1 * r.val = r.val; rw [h0]; omega
    | ⟨1, _⟩ => show win0_2.index t 1 * 1024 + 1 * d.val = d.val; rw [h1]; omega
  exact hb.trans (entry_v24 m c r d)

/-- The cosines before the kernel. -/
theorem entry_v17 (c : Dev nD) (e : Fin 32) (s : Fin 8192) : (V m c main_v17 : S32x8192.Idx → EReal) (ix2 e s) = Ideal.cos (ang s e) := by
  unfold V
  after_reads_at
  exact congrArg _ (mul_comm _ _)

/-- The cosines of a grid point. -/
theorem block_3 (c : Dev nD) (t : Fin cfg0.N) (e : Fin 32) (n : Fin 1024) : (iblk m c 3 t : S32x1024.Idx → EReal) (ix2 e n) = Ideal.cos (ang (ps t n) e) := by
  have hb : (iblk m c 3 t : S32x1024.Idx → EReal) (ix2 e n) = (V m c main_v17 : S32x8192.Idx → EReal) (ix2 e (ps t n)) := by
    obtain ⟨h0, h1⟩ := index3 t
    unfold iblk
    rw [View.read_apply]
    show V m c main_v17 _ = V m c main_v17 _
    generalize V m c main_v17 = X
    congr 1
    funext a
    apply Fin.ext
    match a with
    | ⟨0, _⟩ => show win0_3.index t 0 * 32 + 1 * e.val = e.val; rw [h0]; omega
    | ⟨1, _⟩ => show win0_3.index t 1 * 1024 + 1 * n.val = 1024 * (grid0.coords t 1).val + n.val; rw [h1]; omega
  exact hb.trans (entry_v17 m c e (ps t n))

/-- The sines before the kernel. -/
theorem entry_v18 (c : Dev nD) (e : Fin 32) (s : Fin 8192) : (V m c main_v18 : S32x8192.Idx → EReal) (ix2 e s) = Ideal.sin (ang s e) := by
  unfold V
  after_reads_at
  exact congrArg _ (mul_comm _ _)

/-- The sines of a grid point. -/
theorem block_4 (c : Dev nD) (t : Fin cfg0.N) (e : Fin 32) (n : Fin 1024) : (iblk m c 4 t : S32x1024.Idx → EReal) (ix2 e n) = Ideal.sin (ang (ps t n) e) := by
  have hb : (iblk m c 4 t : S32x1024.Idx → EReal) (ix2 e n) = (V m c main_v18 : S32x8192.Idx → EReal) (ix2 e (ps t n)) := by
    obtain ⟨h0, h1⟩ := index4 t
    unfold iblk
    rw [View.read_apply]
    show V m c main_v18 _ = V m c main_v18 _
    generalize V m c main_v18 = X
    congr 1
    funext a
    apply Fin.ext
    match a with
    | ⟨0, _⟩ => show win0_4.index t 0 * 32 + 1 * e.val = e.val; rw [h0]; omega
    | ⟨1, _⟩ => show win0_4.index t 1 * 1024 + 1 * n.val = 1024 * (grid0.coords t 1).val + n.val; rw [h1]; omega
  exact hb.trans (entry_v18 m c e (ps t n))

/-- The gain of the first mixer's queries before the kernel. -/
theorem entry_v27 (c : Dev nD) (e : Fin 64) (n : Fin 1024) : (V m c main_v27 : S64x1024.Idx → EReal) (ix2 e n) = aaq m c (ix2 0 e) := by
  unfold V
  after_reads_at

/-- The gain of the first mixer's queries of a grid point. -/
theorem block_5 (c : Dev nD) (t : Fin cfg0.N) (e : Fin 64) (n : Fin 1024) : (iblk m c 5 t : S64x1024.Idx → EReal) (ix2 e n) = aaq m c (ix2 0 e) := by
  have hb : (iblk m c 5 t : S64x1024.Idx → EReal) (ix2 e n) = (V m c main_v27 : S64x1024.Idx → EReal) (ix2 e n) := by
    obtain ⟨h0, h1⟩ := index5 t
    unfold iblk
    rw [View.read_apply]
    show V m c main_v27 _ = V m c main_v27 _
    generalize V m c main_v27 = X
    congr 1
    funext a
    apply Fin.ext
    match a with
    | ⟨0, _⟩ => show win0_5.index t 0 * 64 + 1 * e.val = e.val; rw [h0]; omega
    | ⟨1, _⟩ => show win0_5.index t 1 * 1024 + 1 * n.val = n.val; rw [h1]; omega
  exact hb.trans (entry_v27 m c e n)

/-- The gain of the first mixer's keys before the kernel. -/
theorem entry_v30 (c : Dev nD) (e : Fin 64) (n : Fin 1024) : (V m c main_v30 : S64x1024.Idx → EReal) (ix2 e n) = aak m c (ix2 0 e) := by
  unfold V
  after_reads_at

/-- The gain of the first mixer's keys of a grid point. -/
theorem block_6 (c : Dev nD) (t : Fin cfg0.N) (e : Fin 64) (n : Fin 1024) : (iblk m c 6 t : S64x1024.Idx → EReal) (ix2 e n) = aak m c (ix2 0 e) := by
  have hb : (iblk m c 6 t : S64x1024.Idx → EReal) (ix2 e n) = (V m c main_v30 : S64x1024.Idx → EReal) (ix2 e n) := by
    obtain ⟨h0, h1⟩ := index6 t
    unfold iblk
    rw [View.read_apply]
    show V m c main_v30 _ = V m c main_v30 _
    generalize V m c main_v30 = X
    congr 1
    funext a
    apply Fin.ext
    match a with
    | ⟨0, _⟩ => show win0_6.index t 0 * 64 + 1 * e.val = e.val; rw [h0]; omega
    | ⟨1, _⟩ => show win0_6.index t 1 * 1024 + 1 * n.val = n.val; rw [h1]; omega
  exact hb.trans (entry_v30 m c e n)

/-- The gain of the second mixer's queries before the kernel. -/
theorem entry_v33 (c : Dev nD) (e : Fin 64) (n : Fin 1024) : (V m c main_v33 : S64x1024.Idx → EReal) (ix2 e n) = abq m c (ix2 0 e) := by
  unfold V
  after_reads_at

/-- The gain of the second mixer's queries of a grid point. -/
theorem block_7 (c : Dev nD) (t : Fin cfg0.N) (e : Fin 64) (n : Fin 1024) : (iblk m c 7 t : S64x1024.Idx → EReal) (ix2 e n) = abq m c (ix2 0 e) := by
  have hb : (iblk m c 7 t : S64x1024.Idx → EReal) (ix2 e n) = (V m c main_v33 : S64x1024.Idx → EReal) (ix2 e n) := by
    obtain ⟨h0, h1⟩ := index7 t
    unfold iblk
    rw [View.read_apply]
    show V m c main_v33 _ = V m c main_v33 _
    generalize V m c main_v33 = X
    congr 1
    funext a
    apply Fin.ext
    match a with
    | ⟨0, _⟩ => show win0_7.index t 0 * 64 + 1 * e.val = e.val; rw [h0]; omega
    | ⟨1, _⟩ => show win0_7.index t 1 * 1024 + 1 * n.val = n.val; rw [h1]; omega
  exact hb.trans (entry_v33 m c e n)

/-- The gain of the second mixer's keys before the kernel. -/
theorem entry_v36 (c : Dev nD) (e : Fin 64) (n : Fin 1024) : (V m c main_v36 : S64x1024.Idx → EReal) (ix2 e n) = abk m c (ix2 0 e) := by
  unfold V
  after_reads_at

/-- The gain of the second mixer's keys of a grid point. -/
theorem block_8 (c : Dev nD) (t : Fin cfg0.N) (e : Fin 64) (n : Fin 1024) : (iblk m c 8 t : S64x1024.Idx → EReal) (ix2 e n) = abk m c (ix2 0 e) := by
  have hb : (iblk m c 8 t : S64x1024.Idx → EReal) (ix2 e n) = (V m c main_v36 : S64x1024.Idx → EReal) (ix2 e n) := by
    obtain ⟨h0, h1⟩ := index8 t
    unfold iblk
    rw [View.read_apply]
    show V m c main_v36 _ = V m c main_v36 _
    generalize V m c main_v36 = X
    congr 1
    funext a
    apply Fin.ext
    match a with
    | ⟨0, _⟩ => show win0_8.index t 0 * 64 + 1 * e.val = e.val; rw [h0]; omega
    | ⟨1, _⟩ => show win0_8.index t 1 * 1024 + 1 * n.val = n.val; rw [h1]; omega
  exact hb.trans (entry_v36 m c e n)
end Cert.Proof.Even
-- ==== Proof.EvenPay.lean ====
/- The values the even projection's body stores, entry by entry. -/
module
public import proofs.«01_k».proof.Proof.Gen.Kernel4Ideal.Skeleton
public import Idealize.ShloMosaic.Lib.Pointwise
public import proofs.«01_k».proof.Proof.EvenMaths
@[expose] public section
noncomputable section
open Idealize.ShloMosaic Idealize.ShloMosaic.TcCoe Idealize.SL.Sem
namespace Cert.Proof.Even
open Cert.Kernel4Ideal Cert.Kernel4Ideal.Gen
open Cert.Proof.Proj (rms rot sil ang fold)

/-- The normalised input. -/
theorem pay8_at (x : Vec Ideal S1024x1024 .f32) (g : Vec Ideal S1x1024 .f32) (n d : Fin 1024) :
    k0_pay8 (F := Ideal) x g (ix2 n d) = rms 1149239296#32 (fun d => x (ix2 n d)) (fun d => g (ix2 0 d)) d := by
  unfold k0_pay8
  pointwise [rms]

/-- The first mixer's rows of the projection. -/
theorem pay11_at (x : Vec Ideal S1024x1024 .f32) (g : Vec Ideal S1x1024 .f32) (w : Vec Ideal S1280x1024 .bf16) (r : Fin 1280) (n : Fin 1024) :
    k0_pay11 (F := Ideal) x g w (ix2 r n) = ∑ d : Fin 1024, w (ix2 r d) * k0_pay8 (F := Ideal) x g (ix2 n d) := by
  unfold k0_pay11
  generalize k0_pay8 (F := Ideal) x g = R
  pointwise

/-- The second mixer's queries and keys of the projection. -/
theorem pay12_at (x : Vec Ideal S1024x1024 .f32) (g : Vec Ideal S1x1024 .f32) (w : Vec Ideal S1024x1024 .bf16) (r : Fin 1024) (n : Fin 1024) :
    k0_pay12 (F := Ideal) x g w (ix2 r n) = ∑ d : Fin 1024, w (ix2 r d) * k0_pay8 (F := Ideal) x g (ix2 n d) := by
  unfold k0_pay12
  generalize k0_pay8 (F := Ideal) x g = R
  pointwise

/-- The second mixer's values and gate of the projection. -/
theorem pay13_at (x : Vec Ideal S1024x1024 .f32) (g : Vec Ideal S1x1024 .f32) (w : Vec Ideal S1024x1024 .bf16) (r : Fin 1024) (n : Fin 1024) :
    k0_pay13 (F := Ideal) x g w (ix2 r n) = ∑ d : Fin 1024, w (ix2 r d) * k0_pay8 (F := Ideal) x g (ix2 n d) := by
  unfold k0_pay13
  generalize k0_pay8 (F := Ideal) x g = R
  pointwise

/-- The first mixer's keys of a head. -/
theorem pay17_at (cs sn : FVec Ideal S32x1024 .f32) (kn : FVec Ideal S64x1024 .f32) (x : Vec Ideal S1024x1024 .f32) (g : Vec Ideal S1x1024 .f32)
    (w : Vec Ideal S1280x1024 .bf16) (h : Fin 2) (e : Fin 64) (n : Fin 1024) :
    k0_pay17 (F := Ideal) cs sn kn (k0_pay15 x g w) (k0_pay16 x g w) (ix2 n ⟨h.val * 64 + e.val, by omega⟩)
      = rot (rms 1115684864#32 (fun e => k0_pay11 (F := Ideal) x g w (ix2 ⟨512 + (h.val * 64 + e.val), by omega⟩ n)) (fun e => kn (ix2 e n)))
        (fun e => cs (ix2 e n)) (fun e => sn (ix2 e n)) e := by
  unfold k0_pay17 k0_pay16 k0_pay15
  generalize k0_pay11 (F := Ideal) x g w = A
  pointwise [rms, rot]

/-- The first mixer's queries of a head. -/
theorem pay21_at (cs sn : FVec Ideal S32x1024 .f32) (A : FVec Ideal S1280x1024 .f32) (q : Vec Ideal S64x1024 .f32) (h : Fin 8) (e : Fin 64) (n : Fin 1024) :
    k0_pay21 (F := Ideal) cs sn (k0_pay19 A q) (k0_pay20 A q) (ix3 0 ⟨h.val * 64 + e.val, by omega⟩ n)
      = rot (rms 1115684864#32 (fun e => A (ix2 ⟨h.val * 64 + e.val, by omega⟩ n)) (fun e => q (ix2 e n)))
        (fun e => cs (ix2 e n)) (fun e => sn (ix2 e n)) e * Named.named (F := Ideal) (φ := .f32) Cert.Kernel4Ideal.κ "q_fold" 0x3E38AA3B#32 := by
  unfold k0_pay21 k0_pay20 k0_pay19 k0_pay18
  pointwise [rms, rot]

/-- The second mixer's keys of a head. -/
theorem pay29_at (B : FVec Ideal S1024x1024 .f32) (k : Vec Ideal S64x1024 .f32) (h : Fin 8) (e : Fin 64) (n : Fin 1024) :
    k0_pay29 (F := Ideal) B k (ix2 n ⟨h.val * 64 + e.val, by omega⟩)
      = rms 1115684864#32 (fun e => B (ix2 ⟨512 + (h.val * 64 + e.val), by omega⟩ n)) (fun e => k (ix2 e n)) e := by
  unfold k0_pay29
  pointwise [rms]

/-- The second mixer's queries of a head. -/
theorem pay34_at (B : FVec Ideal S1024x1024 .f32) (q : FVec Ideal S64x1024 .f32) (h : Fin 8) (e : Fin 64) (n : Fin 1024) :
    k0_pay34 (F := Ideal) q (k0_pay31 B) (k0_pay32 B) k0_pay33 (ix3 0 ⟨h.val * 64 + e.val, by omega⟩ n)
      = rms 1115684864#32 (fun e => B (ix2 ⟨h.val * 64 + e.val, by omega⟩ n)) (fun e => q (ix2 e n)) e
        * Named.named (F := Ideal) (φ := .f32) Cert.Kernel4Ideal.κ "q_fold" 0x3E38AA3B#32 := by
  unfold k0_pay34 k0_pay33 k0_pay32 k0_pay31
  pointwise [rms]

/-- Zero less a number is its opposite. -/
theorem zero_less (x : EReal) : 0 - x = -x := by
  rw [sub_eq_add_neg, zero_add]

/-- The first mixer's gate. -/
theorem pay28_at (A : FVec Ideal S1280x1024 .f32) (r : Fin 512) (n : Fin 1024) : k0_pay28 (F := Ideal) A (ix3 0 r n) = sil (A (ix2 ⟨768 + r.val, by omega⟩ n)) := by
  unfold k0_pay28
  pointwise [sil, zero_less]

/-- The second mixer's gate. -/
theorem pay35_at (C : FVec Ideal S1024x1024 .f32) (r : Fin 512) (n : Fin 1024) : k0_pay35 (F := Ideal) C (ix3 0 r n) = sil (C (ix2 ⟨512 + r.val, by omega⟩ n)) := by
  unfold k0_pay35
  pointwise [sil, zero_less]

/-- Ones as they are stored. -/
theorem pay25_at (r : Fin 16) (n : Fin 1024) : k0_pay25 (F := Ideal) (ix3 0 r n) = 1 := by
  unfold k0_pay25 k0_pay23
  pointwise

/-- Ones as they are stored. -/
theorem pay27_at (r : Fin 16) (n : Fin 1024) : k0_pay27 (F := Ideal) (ix3 0 r n) = 1 := by
  unfold k0_pay27 k0_pay23
  pointwise

/-- Ones as they are stored. -/
theorem pay39_at (r : Fin 16) (n : Fin 1024) : k0_pay39 (F := Ideal) (ix3 0 r n) = 1 := by
  unfold k0_pay39 k0_pay37
  pointwise

/-- Ones as they are stored. -/
theorem pay41_at (r : Fin 16) (n : Fin 1024) : k0_pay41 (F := Ideal) k0_pay37 (ix3 0 r n) = 1 := by
  unfold k0_pay41 k0_pay37
  pointwise

/-- Ones as they are stored. -/
theorem pay43_at (r : Fin 16) (n : Fin 1024) : k0_pay43 (F := Ideal) k0_pay37 (ix3 0 r n) = 1 := by
  unfold k0_pay43 k0_pay37
  pointwise

/-- Ones as they are stored. -/
theorem pay45_at (r : Fin 16) (n : Fin 1024) : k0_pay45 (F := Ideal) k0_pay37 (ix3 0 r n) = 1 := by
  unfold k0_pay45 k0_pay37
  pointwise

/-- Ones as they are stored. -/
theorem pay1_at (r : Fin 16) (n : Fin 1024) : k0_pay1 (F := Ideal) k0_pay37 (ix3 0 r n) = 1 := by
  unfold k0_pay1 k0_pay37
  pointwise

/-- Ones as they are stored. -/
theorem pay3_at (r : Fin 16) (n : Fin 1024) : k0_pay3 (F := Ideal) k0_pay37 (ix3 0 r n) = 1 := by
  unfold k0_pay3 k0_pay37
  pointwise

/-- Ones as they are stored. -/
theorem pay5_at (r : Fin 16) (n : Fin 1024) : k0_pay5 (F := Ideal) k0_pay37 (ix3 0 r n) = 1 := by
  unfold k0_pay5 k0_pay37
  pointwise

/-- Ones as they are stored. -/
theorem pay7_at (r : Fin 16) (n : Fin 1024) : k0_pay7 (F := Ideal) k0_pay37 (ix3 0 r n) = 1 := by
  unfold k0_pay7 k0_pay37
  pointwise

/-- The first mixer's values of its first head. -/
theorem pay24_at (A : FVec Ideal S1280x1024 .f32) (e : Fin 64) (n : Fin 1024) : k0_pay24 (F := Ideal) A (ix3 0 e n) = A (ix2 ⟨640 + e.val, by omega⟩ n) := by
  unfold k0_pay24 k0_pay22
  pointwise

/-- The first mixer's values of its second head. -/
theorem pay26_at (A : FVec Ideal S1280x1024 .f32) (e : Fin 64) (n : Fin 1024) : k0_pay26 (F := Ideal) A (ix3 0 e n) = A (ix2 ⟨704 + e.val, by omega⟩ n) := by
  unfold k0_pay26 k0_pay22
  pointwise
  exact congrArg (fun r => A (ix2 r n)) (Fin.ext (by show 640 + (64 + e.val) = 704 + e.val; omega))

/-- The second mixer's values of head 0. -/
theorem pay38_at (C : FVec Ideal S1024x1024 .f32) (e : Fin 64) (n : Fin 1024) : k0_pay38 (F := Ideal) C (ix3 0 e n) = C (ix2 ⟨0 + e.val, by omega⟩ n) := by
  unfold k0_pay38 k0_pay36
  pointwise

/-- The second mixer's values of head 1. -/
theorem pay40_at (C : FVec Ideal S1024x1024 .f32) (e : Fin 64) (n : Fin 1024) : k0_pay40 (F := Ideal) (k0_pay36 C) (ix3 0 e n) = C (ix2 ⟨64 + e.val, by omega⟩ n) := by
  unfold k0_pay40 k0_pay36
  pointwise

/-- The second mixer's values of head 2. -/
theorem pay42_at (C : FVec Ideal S1024x1024 .f32) (e : Fin 64) (n : Fin 1024) : k0_pay42 (F := Ideal) (k0_pay36 C) (ix3 0 e n) = C (ix2 ⟨128 + e.val, by omega⟩ n) := by
  unfold k0_pay42 k0_pay36
  pointwise

/-- The second mixer's values of head 3. -/
theorem pay44_at (C : FVec Ideal S1024x1024 .f32) (e : Fin 64) (n : Fin 1024) : k0_pay44 (F := Ideal) (k0_pay36 C) (ix3 0 e n) = C (ix2 ⟨192 + e.val, by omega⟩ n) := by
  unfold k0_pay44 k0_pay36
  pointwise

/-- The second mixer's values of head 4. -/
theorem pay46_at (C : FVec Ideal S1024x1024 .f32) (e : Fin 64) (n : Fin 1024) : k0_pay46 (F := Ideal) (k0_pay36 C) (ix3 0 e n) = C (ix2 ⟨256 + e.val, by omega⟩ n) := by
  unfold k0_pay46 k0_pay36
  pointwise

/-- The second mixer's values of head 5. -/
theorem pay2_at (C : FVec Ideal S1024x1024 .f32) (e : Fin 64) (n : Fin 1024) : k0_pay2 (F := Ideal) (k0_pay36 C) (ix3 0 e n) = C (ix2 ⟨320 + e.val, by omega⟩ n) := by
  unfold k0_pay2 k0_pay36
  pointwise

/-- The second mixer's values of head 6. -/
theorem pay4_at (C : FVec Ideal S1024x1024 .f32) (e : Fin 64) (n : Fin 1024) : k0_pay4 (F := Ideal) (k0_pay36 C) (ix3 0 e n) = C (ix2 ⟨384 + e.val, by omega⟩ n) := by
  unfold k0_pay4 k0_pay36
  pointwise

/-- The second mixer's values of head 7. -/
theorem pay6_at (C : FVec Ideal S1024x1024 .f32) (e : Fin 64) (n : Fin 1024) : k0_pay6 (F := Ideal) (k0_pay36 C) (ix3 0 e n) = C (ix2 ⟨448 + e.val, by omega⟩ n) := by
  unfold k0_pay6 k0_pay36
  pointwise
end Cert.Proof.Even
-- ==== Proof.EvenBody.lean ====
/- The even projection's body: the entries of the blocks it leaves. -/
module
public import proofs.«01_k».proof.Proof.Gen.Kernel4Ideal.Frame
public import proofs.«01_k».proof.Proof.EvenPay
public import Idealize.ShloMosaic.Lib.WholeRead
public import Idealize.ShloMosaic.Lib.VecWindow
public import Idealize.ShloMosaic.Lib.Pipeline.ValueKit.Tiles
@[expose] public section
noncomputable section
open Idealize.ShloMosaic Idealize.ShloMosaic.TcCoe Idealize.SL.Sem
namespace Cert.Proof.Even
open Cert.Kernel4Ideal Cert.Kernel4Ideal.Gen
open Cert.Proof.Proj (rms rot sil ang fold)

/-- The folded scale the queries are multiplied by. -/
theorem named_fold : Named.named (F := Ideal) (φ := .f32) Cert.Kernel4Ideal.κ "q_fold" 0x3E38AA3B#32 = fold := rfl

/-- A load of a whole block reads the block. -/
theorem whole {S : Shape} {e : EltTy} (arg : Memref sig .tc .vmem S e) (h : arg.IsWhole) (x : S.Idx → Elt Ideal e) (off : Fin S.rank → ℕ) (z : ∀ a, off a = 0)
    (inb : ∀ a, off a + S.size a ≤ S.size a) (j : S.Idx) :
    (View.readAt (Elt Ideal) arg.view (Rect.unit off S.size inb).toLoadRect (h.unread x) : S.Idx → Elt Ideal e) j = x j := by
  refine Eq.trans (h.readAt_unread x (Rect.unit off S.size inb).toLoadRect j) ?_
  refine congrArg x (funext fun a => Fin.ext ?_)
  show off a + 1 * (j a).val = (j a).val
  rw [z a]
  omega

/-- A load of some of the weights' rows reads those rows. -/
theorem rows {R : ℕ} (arg : Memref sig .tc .vmem S3328x1024 .bf16) (h : arg.IsWhole) (x : S3328x1024.Idx → EReal) (o : ℕ)
    (inb : ∀ a, (![o, 0] : Fin 2 → ℕ) a + (![R, 1024] : Fin 2 → ℕ) a ≤ S3328x1024.size a) (r : Fin R) (d : Fin 1024) (k : Fin 3328) (e : k.val = o + r.val) :
    (View.readAt (Elt Ideal) arg.view (Rect.unit (s := S3328x1024) ![o, 0] ![R, 1024] inb).toLoadRect (h.unread x) : (⟨2, ![R, 1024]⟩ : Shape).Idx → EReal) (ix2 r d) = x (ix2 k d) := by
  refine Eq.trans (h.readAt_unread (Val := Elt Ideal) (e := .bf16) x (Rect.unit (s := S3328x1024) ![o, 0] ![R, 1024] inb).toLoadRect (ix2 r d)) ?_
  refine congrArg x (funext fun a => Fin.ext ?_)
  match a with
  | ⟨0, _⟩ => show o + 1 * r.val = k.val; omega
  | ⟨1, _⟩ => show 0 + 1 * d.val = d.val; omega

section Values
variable (X : (⟨3, ![4, 8192, 1024]⟩ : Shape).Idx → EReal) (G : (⟨2, ![1, 1024]⟩ : Shape).Idx → EReal)
  (I : (⟨3, ![1, 1024, 3328]⟩ : Shape).Idx → EReal) (N : (⟨2, ![1, 64]⟩ : Shape).Idx → EReal) (b : Fin 4) (s : Fin 8192) (n : Fin 1024)

/-- The normalised input of a lane. -/
theorem norm_lane (x : Vec Ideal S1024x1024 .f32) (g : Vec Ideal S1x1024 .f32) (h0 : ∀ d, x (ix2 n d) = X (ix3 b s d)) (h1 : ∀ d, g (ix2 0 d) = G (ix2 0 d)) (d : Fin 1024) :
    k0_pay8 (F := Ideal) x g (ix2 n d) = normed X G b s d := by
  rw [pay8_at]
  unfold normed
  simp only [h0, h1]

/-- A lane's product of some of the weights' rows. -/
theorem proj_lane {R : ℕ} (x : Vec Ideal S1024x1024 .f32) (g : Vec Ideal S1x1024 .f32) (w : (⟨2, ![R, 1024]⟩ : Shape).Idx → EReal) (h0 : ∀ d, x (ix2 n d) = X (ix3 b s d)) (h1 : ∀ d, g (ix2 0 d) = G (ix2 0 d))
    (r : Fin R) (k : Fin 3328) (hw : ∀ d, w (ix2 r d) = I (ix3 0 d k)) :
    ∑ d : Fin 1024, w (ix2 r d) * k0_pay8 (F := Ideal) x g (ix2 n d) = proj X G I b s k := by
  unfold proj
  exact Finset.sum_congr rfl fun d _ => congrArg₂ (· * ·) (hw d) (norm_lane X G b s n x g h0 h1 d)

/-- A head's normalised entries from a lane's rows of the projection. -/
theorem hd_lane (f g : Fin 64 → EReal) (o h : ℕ) (ho : o + h * 64 ≤ 3264) (hf : ∀ e : Fin 64, f e = proj X G I b s ⟨o + (h * 64 + e.val), by omega⟩) (hg : ∀ e, g e = N (ix2 0 e)) (e : Fin 64) :
    rms 1115684864#32 f g e = hd X G I N b s o h ho e := by
  unfold hd
  rw [funext hf, funext hg]

/-- A head's rotated entries from a lane's rows of the projection. -/
theorem turned_lane (f g : Fin 64 → EReal) (cs sn : Fin 32 → EReal) (o h : ℕ) (ho : o + h * 64 ≤ 3264) (hf : ∀ e : Fin 64, f e = proj X G I b s ⟨o + (h * 64 + e.val), by omega⟩) (hg : ∀ e, g e = N (ix2 0 e))
    (hc : ∀ e, cs e = Ideal.cos (ang s e)) (hs : ∀ e, sn e = Ideal.sin (ang s e)) (e : Fin 64) :
    rot (rms 1115684864#32 f g) cs sn e = turned X G I N b s o h ho e := by
  unfold turned
  rw [funext fun e => hd_lane X G I N b s f g o h ho hf hg e, funext hc, funext hs]
end Values

section Blocks
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S3328x1024 .bf16) (harg4 : arg4.IsWhole) (arg5 : Memref sig .tc .vmem S32x1024 .f32) (harg5 : arg5.IsWhole) (arg6 : Memref sig .tc .vmem S32x1024 .f32) (harg6 : arg6.IsWhole) (arg7 : Memref sig .tc .vmem S64x1024 .f32) (harg7 : arg7.IsWhole) (arg8 : Memref sig .tc .vmem S64x1024 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S1x512x1024 .bf16) (harg11 : arg11.IsWhole) (arg12 : Memref sig .tc .vmem S1024x128 .bf16) (harg12 : arg12.IsWhole) (arg13 : Memref sig .tc .vmem S1x160x1024 .bf16) (harg13 : arg13.IsWhole) (arg14 : Memref sig .tc .vmem S1x512x1024 .bf16) (harg14 : arg14.IsWhole) (arg15 : Memref sig .tc .vmem S1024x512 .bf16) (harg15 : arg15.IsWhole) (arg16 : Memref sig .tc .vmem S1x640x1024 .bf16) (harg16 : arg16.IsWhole) (arg17 : Memref sig .tc .vmem S1x1024x1024 .f32) (harg17 : arg17.IsWhole) (x0 : Vec Ideal S1024x1024 .f32) (x1 : Vec Ideal S1x1024 .f32) (x2 : Vec Ideal S3328x1024 .bf16) (x3 : Vec Ideal S32x1024 .f32) (x4 : Vec Ideal S32x1024 .f32) (x5 : Vec Ideal S64x1024 .f32) (x6 : Vec Ideal S64x1024 .f32) (x7 : Vec Ideal S64x1024 .f32) (x8 : Vec Ideal S64x1024 .f32)
  (X : (⟨3, ![4, 8192, 1024]⟩ : Shape).Idx → EReal) (G : (⟨2, ![1, 1024]⟩ : Shape).Idx → EReal)
  (I : (⟨3, ![1, 1024, 3328]⟩ : Shape).Idx → EReal) (N : (⟨2, ![1, 64]⟩ : Shape).Idx → EReal) (b : Fin 4) (s : Fin 8192) (n : Fin 1024)

/-- The first mixer's rows of the projection at a lane. -/
theorem rowsA (h0 : ∀ d : Fin 1024, x0 (ix2 n d) = X (ix3 b s d)) (h1 : ∀ d : Fin 1024, x1 (ix2 0 d) = G (ix2 0 d)) (h2 : ∀ (r : Fin 3328) (d : Fin 1024), x2 (ix2 r d) = I (ix3 0 d r)) (r : Fin 1280) (k : Fin 3328) (e : k.val = 0 + r.val) :
    (kernelRun0_A.sl.r_2 (F := Ideal) c arg2 harg2 arg3 harg3 arg4 harg4 x0 x1 x2 : S1280x1024.Idx → EReal) (ix2 r n) = proj X G I b s k := by
  unfold kernelRun0_A.sl.r_2
  rw [pay11_at]
  exact proj_lane X G I b s n _ _ _ (fun d => (whole arg2 harg2 x0 ![0, 0] (by decide) inb_S1024x1024_S1024x1024_0_0 (ix2 n d)).trans (h0 d)) (fun d => (whole arg3 harg3 x1 ![0, 0] (by decide) inb_S1x1024_S1x1024_0_0 (ix2 0 d)).trans (h1 d)) r k
    (fun d => (rows arg4 harg4 x2 0 _ r d k e).trans (h2 k d))

/-- The second mixer's rows of queries and keys of the projection at a lane. -/
theorem rowsB (h0 : ∀ d : Fin 1024, x0 (ix2 n d) = X (ix3 b s d)) (h1 : ∀ d : Fin 1024, x1 (ix2 0 d) = G (ix2 0 d)) (h2 : ∀ (r : Fin 3328) (d : Fin 1024), x2 (ix2 r d) = I (ix3 0 d r)) (r : Fin 1024) (k : Fin 3328) (e : k.val = 1280 + r.val) :
    (kernelRun0_A.sl.r_3 (F := Ideal) c arg2 harg2 arg3 harg3 arg4 harg4 x0 x1 x2 : S1024x1024.Idx → EReal) (ix2 r n) = proj X G I b s k := by
  unfold kernelRun0_A.sl.r_3
  rw [pay12_at]
  exact proj_lane X G I b s n _ _ _ (fun d => (whole arg2 harg2 x0 ![0, 0] (by decide) inb_S1024x1024_S1024x1024_0_0 (ix2 n d)).trans (h0 d)) (fun d => (whole arg3 harg3 x1 ![0, 0] (by decide) inb_S1x1024_S1x1024_0_0 (ix2 0 d)).trans (h1 d)) r k
    (fun d => (rows arg4 harg4 x2 1280 _ r d k e).trans (h2 k d))

/-- The second mixer's rows of values and gate of the projection at a lane. -/
theorem rowsC (h0 : ∀ d : Fin 1024, x0 (ix2 n d) = X (ix3 b s d)) (h1 : ∀ d : Fin 1024, x1 (ix2 0 d) = G (ix2 0 d)) (h2 : ∀ (r : Fin 3328) (d : Fin 1024), x2 (ix2 r d) = I (ix3 0 d r)) (r : Fin 1024) (k : Fin 3328) (e : k.val = 2304 + r.val) :
    (kernelRun0_A.sl.r_4 (F := Ideal) c arg2 harg2 arg3 harg3 arg4 harg4 x0 x1 x2 : S1024x1024.Idx → EReal) (ix2 r n) = proj X G I b s k := by
  unfold kernelRun0_A.sl.r_4
  rw [pay13_at]
  exact proj_lane X G I b s n _ _ _ (fun d => (whole arg2 harg2 x0 ![0, 0] (by decide) inb_S1024x1024_S1024x1024_0_0 (ix2 n d)).trans (h0 d)) (fun d => (whole arg3 harg3 x1 ![0, 0] (by decide) inb_S1x1024_S1x1024_0_0 (ix2 0 d)).trans (h1 d)) r k
    (fun d => (rows arg4 harg4 x2 2304 _ r d k e).trans (h2 k d))

/-- A table as the body holds it. -/
theorem table3 (e : Fin 32) : (kernelRun0_A.sl.r (F := Ideal) c arg5 harg5 x3 : S32x1024.Idx → EReal) (ix2 e n) = x3 (ix2 e n) := by
  unfold kernelRun0_A.sl.r k0_pay9
  refine Eq.trans ?_ (whole arg5 harg5 x3 ![0, 0] (by decide) inb_S32x1024_S32x1024_0_0 (ix2 e n))
  pointwise

/-- A table as the body holds it. -/
theorem table4 (e : Fin 32) : (kernelRun0_A.sl.r_1 (F := Ideal) c arg6 harg6 x4 : S32x1024.Idx → EReal) (ix2 e n) = x4 (ix2 e n) := by
  unfold kernelRun0_A.sl.r_1 k0_pay10
  refine Eq.trans ?_ (whole arg6 harg6 x4 ![0, 0] (by decide) inb_S32x1024_S32x1024_0_0 (ix2 e n))
  pointwise

/-- A table as the body holds it. -/
theorem table6 (e : Fin 64) : (kernelRun0_A.sl.r_5 (F := Ideal) c arg8 harg8 x6 : S64x1024.Idx → EReal) (ix2 e n) = x6 (ix2 e n) := by
  unfold kernelRun0_A.sl.r_5 k0_pay14
  refine Eq.trans ?_ (whole arg8 harg8 x6 ![0, 0] (by decide) inb_S64x1024_S64x1024_0_0 (ix2 e n))
  pointwise

/-- A table as the body holds it. -/
theorem table7 (e : Fin 64) : (kernelRun0_A.sl.r_10 (F := Ideal) c arg9 harg9 x7 : S64x1024.Idx → EReal) (ix2 e n) = x7 (ix2 e n) := by
  unfold kernelRun0_A.sl.r_10 k0_pay30
  refine Eq.trans ?_ (whole arg9 harg9 x7 ![0, 0] (by decide) inb_S64x1024_S64x1024_0_0 (ix2 e n))
  pointwise

/-- What one store of a whole block leaves. -/
theorem stored {S : Shape} {e : EltTy} {sp : Space} (v : View sig .tc sp S e) (off : Fin S.rank → ℕ) (z : ∀ a, off a = 0) (inb : ∀ a, off a + S.size a ≤ S.size a) (w : S.Idx → Elt Ideal e) (f : v.ty.Contents (Elt Ideal)) (j : S.Idx) :
    (v.read (Elt Ideal) (v.writes (Elt Ideal) f [⟨Rect.unit off S.size inb, w⟩]) : S.Idx → Elt Ideal e) j = w j := by
  have hz : off = fun _ => 0 := funext z
  subst hz
  exact congrFun (View.read_writes_full v f _ w []) j

/-- The first mixer's queries. -/
theorem out9_at (h0 : ∀ d : Fin 1024, x0 (ix2 n d) = X (ix3 b s d)) (h1 : ∀ d : Fin 1024, x1 (ix2 0 d) = G (ix2 0 d)) (h2 : ∀ (r : Fin 3328) (d : Fin 1024), x2 (ix2 r d) = I (ix3 0 d r)) (h3 : ∀ e : Fin 32, x3 (ix2 e n) = Ideal.cos (ang s e)) (h4 : ∀ e : Fin 32, x4 (ix2 e n) = Ideal.sin (ang s e)) (h5 : ∀ e : Fin 64, x5 (ix2 e n) = N (ix2 0 e)) (h : Fin 8) (e : Fin 64) :
    (out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 : S1x512x1024.Idx → EReal) (ix3 0 ⟨h.val * 64 + e.val, by omega⟩ n) = turned X G I N b s 0 h.val (by omega) e * fold := by
  unfold out0_A_9 kernelRun0_A
  refine (stored _ _ (by decide) _ _ _ _).trans ?_
  unfold kernelRun0_A.sl.r_8 kernelRun0_A.sl.r_9
  refine (pay21_at _ _ _ _ h e n).trans ?_
  rw [named_fold]
  exact congrArg (· * fold) (turned_lane X G I N b s _ _ _ _ 0 h.val (by omega) (fun e => rowsA c arg2 harg2 arg3 harg3 arg4 harg4 x0 x1 x2 X G I b s n h0 h1 h2 ⟨h.val * 64 + e.val, by omega⟩ _ rfl) (fun e => (whole arg7 harg7 x5 ![0, 0] (by decide) inb_S64x1024_S64x1024_0_0 (ix2 e n)).trans (h5 e)) (fun e => (table3 c arg5 harg5 x3 n e).trans (h3 e)) (fun e => (table4 c arg6 harg6 x4 n e).trans (h4 e)) e)

/-- The first mixer's keys. -/
theorem out10_at (h0 : ∀ d : Fin 1024, x0 (ix2 n d) = X (ix3 b s d)) (h1 : ∀ d : Fin 1024, x1 (ix2 0 d) = G (ix2 0 d)) (h2 : ∀ (r : Fin 3328) (d : Fin 1024), x2 (ix2 r d) = I (ix3 0 d r)) (h3 : ∀ e : Fin 32, x3 (ix2 e n) = Ideal.cos (ang s e)) (h4 : ∀ e : Fin 32, x4 (ix2 e n) = Ideal.sin (ang s e)) (h6 : ∀ e : Fin 64, x6 (ix2 e n) = N (ix2 0 e)) (h : Fin 2) (e : Fin 64) :
    (out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 : S1024x128.Idx → EReal) (ix2 n ⟨h.val * 64 + e.val, by omega⟩) = turned X G I N b s 512 h.val (by omega) e := by
  unfold out0_A_10 kernelRun0_A
  refine (stored _ _ (by decide) _ _ _ _).trans ?_
  unfold kernelRun0_A.sl.r_6 kernelRun0_A.sl.r_7
  refine (pay17_at _ _ _ _ _ _ h e n).trans ?_
  exact turned_lane X G I N b s _ _ _ _ 512 h.val (by omega) (fun e => rowsA c arg2 harg2 arg3 harg3 arg4 harg4 x0 x1 x2 X G I b s n h0 h1 h2 ⟨512 + (h.val * 64 + e.val), by omega⟩ _ (Nat.zero_add _).symm) (fun e => (table6 c arg8 harg8 x6 n e).trans (h6 e)) (fun e => (table3 c arg5 harg5 x3 n e).trans (h3 e)) (fun e => (table4 c arg6 harg6 x4 n e).trans (h4 e)) e

/-- The second mixer's queries. -/
theorem out12_at (h0 : ∀ d : Fin 1024, x0 (ix2 n d) = X (ix3 b s d)) (h1 : ∀ d : Fin 1024, x1 (ix2 0 d) = G (ix2 0 d)) (h2 : ∀ (r : Fin 3328) (d : Fin 1024), x2 (ix2 r d) = I (ix3 0 d r)) (h7 : ∀ e : Fin 64, x7 (ix2 e n) = N (ix2 0 e)) (h : Fin 8) (e : Fin 64) :
    (out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 : S1x512x1024.Idx → EReal) (ix3 0 ⟨h.val * 64 + e.val, by omega⟩ n) = hd X G I N b s 1280 h.val (by omega) e * fold := by
  unfold out0_A_12 kernelRun0_A
  refine (stored _ _ (by decide) _ _ _ _).trans ?_
  unfold kernelRun0_A.sl.r_11 kernelRun0_A.sl.r_12
  refine (pay34_at _ _ h e n).trans ?_
  rw [named_fold]
  exact congrArg (· * fold) (hd_lane X G I N b s _ _ 1280 h.val (by omega) (fun e => rowsB c arg2 harg2 arg3 harg3 arg4 harg4 x0 x1 x2 X G I b s n h0 h1 h2 ⟨h.val * 64 + e.val, by omega⟩ _ rfl) (fun e => (table7 c arg9 harg9 x7 n e).trans (h7 e)) e)

/-- The second mixer's keys. -/
theorem out13_at (h0 : ∀ d : Fin 1024, x0 (ix2 n d) = X (ix3 b s d)) (h1 : ∀ d : Fin 1024, x1 (ix2 0 d) = G (ix2 0 d)) (h2 : ∀ (r : Fin 3328) (d : Fin 1024), x2 (ix2 r d) = I (ix3 0 d r)) (h8 : ∀ e : Fin 64, x8 (ix2 e n) = N (ix2 0 e)) (h : Fin 8) (e : Fin 64) :
    (out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 : S1024x512.Idx → EReal) (ix2 n ⟨h.val * 64 + e.val, by omega⟩) = hd X G I N b s 1792 h.val (by omega) e := by
  unfold out0_A_13 kernelRun0_A
  refine (stored _ _ (by decide) _ _ _ _).trans ?_
  refine (pay29_at _ _ h e n).trans ?_
  exact hd_lane X G I N b s _ _ 1792 h.val (by omega) (fun e => rowsB c arg2 harg2 arg3 harg3 arg4 harg4 x0 x1 x2 X G I b s n h0 h1 h2 ⟨512 + (h.val * 64 + e.val), by omega⟩ _ (by show 1792 + (h.val * 64 + e.val) = 1280 + (512 + (h.val * 64 + e.val)); omega)) (fun e => (whole arg10 harg10 x8 ![0, 0] (by decide) inb_S64x1024_S64x1024_0_0 (ix2 e n)).trans (h8 e)) e

/-- A store of a head's values at its entries. -/
theorem entry_piece {R : ℕ} (w : (⟨3, ![1, 64, 1024]⟩ : Shape).Idx → EReal) (o base k : ℕ) (ho : base ≤ 2816) (r : Fin R) (hR : R ≤ 640) (hk : k + 64 ≤ 3328) (h : o % 80 = 0) (hb : k = base + o / 80 * 64)
    (hw : ∀ e : Fin 64, w (ix3 0 e n) = proj X G I b s ⟨k + e.val, by omega⟩)
    (y : (⟨3, ![1, 64, 1024]⟩ : Shape).Idx) (hy : ∀ a, ((ix3 (0 : Fin 1) r n : (⟨3, ![1, R, 1024]⟩ : Shape).Idx) a : ℕ) = (![0, o, 0] : Fin 3 → ℕ) a + y a) :
    w y = banded X G I b s base ho ⟨r.val, by omega⟩ := by
  obtain ⟨y0, y1, y2, rfl⟩ : ∃ a b e, y = (ix3 a b e : (⟨3, ![1, 64, 1024]⟩ : Shape).Idx) := ⟨y 0, y 1, y 2, (ix3_eta y).symm⟩
  have e0 : y0 = 0 := Subsingleton.elim _ _
  have e1 : r.val = o + y1.val := hy 1
  have e2 : n = y2 := Fin.ext ((hy 2).trans (Nat.zero_add _))
  subst e0; subst e2
  have l := y1.isLt
  rw [hw y1]
  refine (banded_entry X G I b s base ho _ _ _ ?_ ?_).symm
  · show r.val % 80 < 64
    omega
  · show k + y1.val = base + (r.val / 80 * 64 + r.val % 80)
    omega

/-- A store of the ones below a head's values at its entries. -/
theorem ones_piece {R : ℕ} (w : (⟨3, ![1, 16, 1024]⟩ : Shape).Idx → EReal) (o base : ℕ) (ho : base ≤ 2816) (r : Fin R) (hR : R ≤ 640) (h : o % 80 = 64)
    (hw : ∀ e : Fin 16, w (ix3 0 e n) = 1)
    (y : (⟨3, ![1, 16, 1024]⟩ : Shape).Idx) (hy : ∀ a, ((ix3 (0 : Fin 1) r n : (⟨3, ![1, R, 1024]⟩ : Shape).Idx) a : ℕ) = (![0, o, 0] : Fin 3 → ℕ) a + y a) :
    w y = banded X G I b s base ho ⟨r.val, by omega⟩ := by
  obtain ⟨y0, y1, y2, rfl⟩ : ∃ a b e, y = (ix3 a b e : (⟨3, ![1, 16, 1024]⟩ : Shape).Idx) := ⟨y 0, y 1, y 2, (ix3_eta y).symm⟩
  have e0 : y0 = 0 := Subsingleton.elim _ _
  have e1 : r.val = o + y1.val := hy 1
  have e2 : n = y2 := Fin.ext ((hy 2).trans (Nat.zero_add _))
  subst e0; subst e2
  have l := y1.isLt
  rw [hw y1]
  exact (banded_one X G I b s base ho _ (by show 64 ≤ r.val % 80; omega)).symm

/-- A store of one mixer's gate at its entries. -/
theorem gate_piece (w : (⟨3, ![1, 512, 1024]⟩ : Shape).Idx → EReal) (o : ℕ) (r : Fin 1024)
    (hw : ∀ e : Fin 512, r.val = o + e.val → w (ix3 0 e n) = gated X G I b s r)
    (y : (⟨3, ![1, 512, 1024]⟩ : Shape).Idx) (hy : ∀ a, ((ix3 (0 : Fin 1) r n : S1x1024x1024.Idx) a : ℕ) = (![0, o, 0] : Fin 3 → ℕ) a + y a) :
    w y = gated X G I b s r := by
  obtain ⟨y0, y1, y2, rfl⟩ : ∃ a b e, y = (ix3 a b e : (⟨3, ![1, 512, 1024]⟩ : Shape).Idx) := ⟨y 0, y 1, y 2, (ix3_eta y).symm⟩
  have e0 : y0 = 0 := Subsingleton.elim _ _
  have e2 : n = y2 := Fin.ext ((hy 2).trans (Nat.zero_add _))
  subst e0; subst e2
  exact hw y1 (hy 1)

/-- The first mixer's values, with the ones below each head's. -/
theorem out11_at (h0 : ∀ d : Fin 1024, x0 (ix2 n d) = X (ix3 b s d)) (h1 : ∀ d : Fin 1024, x1 (ix2 0 d) = G (ix2 0 d)) (h2 : ∀ (r : Fin 3328) (d : Fin 1024), x2 (ix2 r d) = I (ix3 0 d r)) (r : Fin 160) :
    (out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 : S1x160x1024.Idx → EReal) (ix3 0 r n) = banded X G I b s 640 (by omega) ⟨r.val, by omega⟩ := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8)]
  refine View.canon_eq_of_allAt _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _) ?_
  unfold kernelRun0_A
  exact (
    (View.allAt_cons_unit _ _ _ _ _ (fun y hy => ones_piece X G I b s n _ 144 640 (by omega) r (by omega) (by omega) (fun e => pay27_at e n) y hy)
    (View.allAt_cons_unit _ _ _ _ _ (fun y hy => entry_piece X G I b s n _ 80 640 704 (by omega) r (by omega) (by omega) (by omega) (by omega) (fun e => (pay26_at _ e n).trans (rowsA c arg2 harg2 arg3 harg3 arg4 harg4 x0 x1 x2 X G I b s n h0 h1 h2 _ _ (by show 704 + e.val = 0 + (704 + e.val); omega))) y hy)
    (View.allAt_cons_unit _ _ _ _ _ (fun y hy => ones_piece X G I b s n _ 64 640 (by omega) r (by omega) (by omega) (fun e => pay25_at e n) y hy)
    (View.allAt_cons_unit _ _ _ _ _ (fun y hy => entry_piece X G I b s n _ 0 640 640 (by omega) r (by omega) (by omega) (by omega) (by omega) (fun e => (pay24_at _ e n).trans (rowsA c arg2 harg2 arg3 harg3 arg4 harg4 x0 x1 x2 X G I b s n h0 h1 h2 _ _ (by show 640 + e.val = 0 + (640 + e.val); omega))) y hy)
    (View.allAt_nil _ _))))))

/-- The second mixer's values, with the ones below each head's. -/
theorem out14_at (h0 : ∀ d : Fin 1024, x0 (ix2 n d) = X (ix3 b s d)) (h1 : ∀ d : Fin 1024, x1 (ix2 0 d) = G (ix2 0 d)) (h2 : ∀ (r : Fin 3328) (d : Fin 1024), x2 (ix2 r d) = I (ix3 0 d r)) (r : Fin 640) :
    (out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 : S1x640x1024.Idx → EReal) (ix3 0 r n) = banded X G I b s 2304 (by omega) r := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8)]
  refine View.canon_eq_of_allAt _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _) ?_
  unfold kernelRun0_A
  exact (
    (View.allAt_cons_unit _ _ _ _ _ (fun y hy => ones_piece X G I b s n _ 624 2304 (by omega) r (by omega) (by omega) (fun e => pay7_at e n) y hy)
    (View.allAt_cons_unit _ _ _ _ _ (fun y hy => entry_piece X G I b s n _ 560 2304 2752 (by omega) r (by omega) (by omega) (by omega) (by omega) (fun e => (pay6_at _ e n).trans (rowsC c arg2 harg2 arg3 harg3 arg4 harg4 x0 x1 x2 X G I b s n h0 h1 h2 _ _ (by show 2752 + e.val = 2304 + (448 + e.val); omega))) y hy)
    (View.allAt_cons_unit _ _ _ _ _ (fun y hy => ones_piece X G I b s n _ 544 2304 (by omega) r (by omega) (by omega) (fun e => pay5_at e n) y hy)
    (View.allAt_cons_unit _ _ _ _ _ (fun y hy => entry_piece X G I b s n _ 480 2304 2688 (by omega) r (by omega) (by omega) (by omega) (by omega) (fun e => (pay4_at _ e n).trans (rowsC c arg2 harg2 arg3 harg3 arg4 harg4 x0 x1 x2 X G I b s n h0 h1 h2 _ _ (by show 2688 + e.val = 2304 + (384 + e.val); omega))) y hy)
    (View.allAt_cons_unit _ _ _ _ _ (fun y hy => ones_piece X G I b s n _ 464 2304 (by omega) r (by omega) (by omega) (fun e => pay3_at e n) y hy)
    (View.allAt_cons_unit _ _ _ _ _ (fun y hy => entry_piece X G I b s n _ 400 2304 2624 (by omega) r (by omega) (by omega) (by omega) (by omega) (fun e => (pay2_at _ e n).trans (rowsC c arg2 harg2 arg3 harg3 arg4 harg4 x0 x1 x2 X G I b s n h0 h1 h2 _ _ (by show 2624 + e.val = 2304 + (320 + e.val); omega))) y hy)
    (View.allAt_cons_unit _ _ _ _ _ (fun y hy => ones_piece X G I b s n _ 384 2304 (by omega) r (by omega) (by omega) (fun e => pay1_at e n) y hy)
    (View.allAt_cons_unit _ _ _ _ _ (fun y hy => entry_piece X G I b s n _ 320 2304 2560 (by omega) r (by omega) (by omega) (by omega) (by omega) (fun e => (pay46_at _ e n).trans (rowsC c arg2 harg2 arg3 harg3 arg4 harg4 x0 x1 x2 X G I b s n h0 h1 h2 _ _ (by show 2560 + e.val = 2304 + (256 + e.val); omega))) y hy)
    (View.allAt_cons_unit _ _ _ _ _ (fun y hy => ones_piece X G I b s n _ 304 2304 (by omega) r (by omega) (by omega) (fun e => pay45_at e n) y hy)
    (View.allAt_cons_unit _ _ _ _ _ (fun y hy => entry_piece X G I b s n _ 240 2304 2496 (by omega) r (by omega) (by omega) (by omega) (by omega) (fun e => (pay44_at _ e n).trans (rowsC c arg2 harg2 arg3 harg3 arg4 harg4 x0 x1 x2 X G I b s n h0 h1 h2 _ _ (by show 2496 + e.val = 2304 + (192 + e.val); omega))) y hy)
    (View.allAt_cons_unit _ _ _ _ _ (fun y hy => ones_piece X G I b s n _ 224 2304 (by omega) r (by omega) (by omega) (fun e => pay43_at e n) y hy)
    (View.allAt_cons_unit _ _ _ _ _ (fun y hy => entry_piece X G I b s n _ 160 2304 2432 (by omega) r (by omega) (by omega) (by omega) (by omega) (fun e => (pay42_at _ e n).trans (rowsC c arg2 harg2 arg3 harg3 arg4 harg4 x0 x1 x2 X G I b s n h0 h1 h2 _ _ (by show 2432 + e.val = 2304 + (128 + e.val); omega))) y hy)
    (View.allAt_cons_unit _ _ _ _ _ (fun y hy => ones_piece X G I b s n _ 144 2304 (by omega) r (by omega) (by omega) (fun e => pay41_at e n) y hy)
    (View.allAt_cons_unit _ _ _ _ _ (fun y hy => entry_piece X G I b s n _ 80 2304 2368 (by omega) r (by omega) (by omega) (by omega) (by omega) (fun e => (pay40_at _ e n).trans (rowsC c arg2 harg2 arg3 harg3 arg4 harg4 x0 x1 x2 X G I b s n h0 h1 h2 _ _ (by show 2368 + e.val = 2304 + (64 + e.val); omega))) y hy)
    (View.allAt_cons_unit _ _ _ _ _ (fun y hy => ones_piece X G I b s n _ 64 2304 (by omega) r (by omega) (by omega) (fun e => pay39_at e n) y hy)
    (View.allAt_cons_unit _ _ _ _ _ (fun y hy => entry_piece X G I b s n _ 0 2304 2304 (by omega) r (by omega) (by omega) (by omega) (by omega) (fun e => (pay38_at _ e n).trans (rowsC c arg2 harg2 arg3 harg3 arg4 harg4 x0 x1 x2 X G I b s n h0 h1 h2 _ _ (by show 2304 + e.val = 2304 + (0 + e.val); omega))) y hy)
    (View.allAt_nil _ _))))))))))))))))))

/-- The first mixer's half of the gate. -/
theorem gate_low (r : Fin 1024) (z : EReal) (e : Fin 512) (he : r.val = 0 + e.val) (hz : z = proj X G I b s ⟨768 + e.val, by omega⟩) : sil z = gated X G I b s r := by
  have l := e.isLt
  unfold gated
  rw [dif_pos (by omega), hz]
  exact congrArg (fun k => sil (proj X G I b s k)) (Fin.ext (by show 768 + e.val = 768 + r.val; omega))

/-- The second mixer's half of the gate. -/
theorem gate_high (r : Fin 1024) (z : EReal) (e : Fin 512) (he : r.val = 512 + e.val) (hz : z = proj X G I b s ⟨2816 + e.val, by omega⟩) : sil z = gated X G I b s r := by
  unfold gated
  rw [dif_neg (by omega), hz]
  exact congrArg (fun k => sil (proj X G I b s k)) (Fin.ext (by show 2816 + e.val = 2816 + (r.val - 512); omega))

/-- The gate. -/
theorem out15_at (h0 : ∀ d : Fin 1024, x0 (ix2 n d) = X (ix3 b s d)) (h1 : ∀ d : Fin 1024, x1 (ix2 0 d) = G (ix2 0 d)) (h2 : ∀ (r : Fin 3328) (d : Fin 1024), x2 (ix2 r d) = I (ix3 0 d r)) (r : Fin 1024) :
    (out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 : S1x1024x1024.Idx → EReal) (ix3 0 r n) = gated X G I b s r := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8)]
  refine View.canon_eq_of_allAt _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _) ?_
  unfold kernelRun0_A
  exact (
    (View.allAt_cons_unit _ _ _ _ _ (fun y hy => gate_piece X G I b s n _ 512 r (fun e he => (pay35_at _ e n).trans (gate_high X G I b s r _ e he (rowsC c arg2 harg2 arg3 harg3 arg4 harg4 x0 x1 x2 X G I b s n h0 h1 h2 ⟨512 + e.val, by omega⟩ _ (by show 2816 + e.val = 2304 + (512 + e.val); omega)))) y hy)
    (View.allAt_cons_unit _ _ _ _ _ (fun y hy => gate_piece X G I b s n _ 0 r (fun e he => (pay28_at _ e n).trans (gate_low X G I b s r _ e he (rowsA c arg2 harg2 arg3 harg3 arg4 harg4 x0 x1 x2 X G I b s n h0 h1 h2 ⟨768 + e.val, by omega⟩ _ (Nat.zero_add _).symm))) y hy)
    (View.allAt_nil _ _))))
end Blocks
end Cert.Proof.Even
-- ==== Proof.EvenRef.lean ====
/- The reference of the even projection read at an index. -/
module
public import proofs.«01_k».proof.Proof.Gen.Reference4Ideal.Read
public import Idealize.ShloMosaic.Lib.Pointwise
public import proofs.«01_k».proof.Proof.EvenMaths
public import proofs.«01_k».proof.Proof.Maths
public import Idealize.ShloMosaic.Lib.Tactic.CleanTypes
@[expose] public section
noncomputable section
open Idealize.ShloMosaic Idealize.ShloMosaic.TcCoe Idealize.SL.Sem
namespace Cert.Proof.Even
open Cert.Reference4Ideal Cert.Reference4Ideal.Gen Cert.Reference4Ideal.Read
open Cert.Proof.Proj (rms rot sil ang fold)
variable (x0 : (⟨S4x8192x1024, .f32⟩ : BufTy).Contents (Elt Ideal)) (x1 : (⟨S1x1024, .f32⟩ : BufTy).Contents (Elt Ideal))
  (x2 : (⟨S1x1024x3328, .f32⟩ : BufTy).Contents (Elt Ideal)) (x3 x4 x5 x6 : (⟨S1x64, .f32⟩ : BufTy).Contents (Elt Ideal))

/-- The angles of the rotation. -/
theorem angle_ref (s : Fin 8192) (e : Fin 32) : val_main_v16 (F := Ideal) (ix2 s e) = ang s e := by
  unfold val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2 val_main_cst_3
  pointwise
  rfl

/-- The normalised input. -/
theorem norm_ref (b : Fin 4) (s : Fin 8192) (d : Fin 1024) : val_main_v32 (F := Ideal) x0 x1 (ix3 b s d) = normed x0 x1 b s d := by
  unfold normed rms
  unfold val_main_v32 val_main_v31 val_main_v30 val_main_v29 val_main_v28 val_main_v27 val_main_v26 val_main_v25 val_main_v24 val_main_v23 val_main_v22 val_main_v21 val_main_v20 val_main_v19 val_main_cst_4 val_main_cst_5 val_main_cst_6
  pointwise

/-- The projection. -/
theorem proj_ref (b : Fin 4) (s : Fin 8192) (r : Fin 3328) : val_main_v34 (F := Ideal) x0 x1 x2 (ix3 b s r) = proj x0 x1 x2 b s r := by
  unfold proj
  simp only [← norm_ref]
  unfold val_main_v34 val_main_v33
  generalize val_main_v32 (F := Ideal) x0 x1 = R
  pointwise
  exact Finset.sum_congr rfl fun j _ => mul_comm _ _

/-- The scale of the queries is one eighth over the logarithm of two. -/
theorem scale_ref (i : S_.Idx) : val_main_v44 (F := Ideal) i = fold := by
  show Ideal.div (Ideal.ofBits FTy.f32 1040187392#32) (Ideal.log (Ideal.ofBits FTy.f32 1073741824#32)) = _
  rw [Dense.eighth_word, Dense.two_word]
  have e : Ideal.log ((2 : ℝ) : EReal) = ((Real.log 2 : ℝ) : EReal) := if_neg (by norm_num)
  rw [e]
  refine (Dense.coe_div _ _ (Real.log_pos (by norm_num)).ne').trans ?_
  rw [div_eq_mul_inv]
  rfl
end Cert.Proof.Even
-- ==== Proof.EvenRefA.lean ====
/- The reference of the even projection read at an index: the first mixer's queries and keys. -/
module
public import proofs.«01_k».proof.Proof.Gen.Reference4Ideal.Read
public import Idealize.ShloMosaic.Lib.Pointwise
public import proofs.«01_k».proof.Proof.EvenRef
public import Idealize.ShloMosaic.Lib.Tactic.CleanTypes
@[expose] public section
noncomputable section
open Idealize.ShloMosaic Idealize.ShloMosaic.TcCoe Idealize.SL.Sem
namespace Cert.Proof.Even
open Cert.Reference4Ideal Cert.Reference4Ideal.Gen Cert.Reference4Ideal.Read
open Cert.Proof.Proj (rms rot sil ang fold)
variable (x0 : (⟨S4x8192x1024, .f32⟩ : BufTy).Contents (Elt Ideal)) (x1 : (⟨S1x1024, .f32⟩ : BufTy).Contents (Elt Ideal))
  (x2 : (⟨S1x1024x3328, .f32⟩ : BufTy).Contents (Elt Ideal)) (x3 x4 x5 x6 : (⟨S1x64, .f32⟩ : BufTy).Contents (Elt Ideal))

/-- The normalised first mixer's queries of a head. -/
theorem aqn_ref (b : Fin 4) (s : Fin 8192) (h : Fin 8) (e : Fin 64) : val_main_v59 (F := Ideal) x0 x1 x2 x3 (ix4 b s h e)
    = hd x0 x1 x2 x3 b s 0 h.val (by omega) e := by
  unfold hd rms
  simp only [← proj_ref, Nat.zero_add]
  unfold val_main_v59 val_main_v58 val_main_v57 val_main_v56 val_main_v55 val_main_v54 val_main_v53 val_main_v52 val_main_v51 val_main_v50 val_main_v49 val_main_v48 val_main_v47 val_main_v46 val_main_v45 val_main_v35 val_main_cst_9 val_main_cst_10 val_main_cst_11
  generalize val_main_v34 (F := Ideal) x0 x1 x2 = R
  pointwise

/-- The rotated first mixer's queries of a head. -/
theorem aqr_ref (b : Fin 4) (s : Fin 8192) (h : Fin 8) (e : Fin 64) : val_main_v74 (F := Ideal) x0 x1 x2 x3 (ix4 b s h e)
    = turned x0 x1 x2 x3 b s 0 h.val (by omega) e := by
  unfold turned
  simp only [← angle_ref]
  refine Eq.trans ?_ (congrArg (fun f => rot f (fun e => Ideal.cos (val_main_v16 (F := Ideal) (ix2 s e))) (fun e => Ideal.sin (val_main_v16 (F := Ideal) (ix2 s e))) e) (funext fun e => aqn_ref x0 x1 x2 x3 b s h e))
  unfold val_main_v74 val_main_v73 val_main_v72 val_main_v71 val_main_v70 val_main_v69 val_main_v68 val_main_v67 val_main_v66 val_main_v65 val_main_v64 val_main_v63 val_main_v62 val_main_v61 val_main_v60 val_main_v17 val_main_v18
  generalize val_main_v59 (F := Ideal) x0 x1 x2 x3 = R
  generalize val_main_v16 (F := Ideal) = A
  pointwise [rot]

/-- The first mixer's queries as the call returns them. -/
theorem aq_ref (b : Fin 4) (s : Fin 8192) (h : Fin 8) (e : Fin 64) : val_main_v146 (F := Ideal) x0 x1 x2 x3 (ix3 b ⟨h.val * 64 + e.val, by omega⟩ s)
    = turned x0 x1 x2 x3 b s 0 h.val (by omega) e * fold := by
  rw [val_main_v146_apply, val_main_v145_apply, val_main_v78_apply, val_main_v77_apply, val_main_v76_apply, scale_ref, ← aqr_ref]
  refine congrArg (· * fold) ?_
  rw [show idx_main_v145 (ix3 b ⟨h.val * 64 + e.val, by omega⟩ s) = ix3 b s ⟨h.val * 64 + e.val, by omega⟩ from (ix3_eta _).symm]
  unfold val_main_v75
  generalize val_main_v74 (F := Ideal) x0 x1 x2 x3 = R
  pointwise

/-- The normalised first mixer's keys of a head. -/
theorem akn_ref (b : Fin 4) (s : Fin 8192) (h : Fin 2) (e : Fin 64) : val_main_v93 (F := Ideal) x0 x1 x2 x4 (ix4 b s h e)
    = hd x0 x1 x2 x4 b s 512 h.val (by omega) e := by
  unfold hd rms
  simp only [← proj_ref]
  unfold val_main_v93 val_main_v92 val_main_v91 val_main_v90 val_main_v89 val_main_v88 val_main_v87 val_main_v86 val_main_v85 val_main_v84 val_main_v83 val_main_v82 val_main_v81 val_main_v80 val_main_v79 val_main_v36 val_main_cst_12 val_main_cst_13 val_main_cst_14
  generalize val_main_v34 (F := Ideal) x0 x1 x2 = R
  pointwise

/-- The rotated first mixer's keys of a head. -/
theorem akr_ref (b : Fin 4) (s : Fin 8192) (h : Fin 2) (e : Fin 64) : val_main_v108 (F := Ideal) x0 x1 x2 x4 (ix4 b s h e)
    = turned x0 x1 x2 x4 b s 512 h.val (by omega) e := by
  unfold turned
  simp only [← angle_ref]
  refine Eq.trans ?_ (congrArg (fun f => rot f (fun e => Ideal.cos (val_main_v16 (F := Ideal) (ix2 s e))) (fun e => Ideal.sin (val_main_v16 (F := Ideal) (ix2 s e))) e) (funext fun e => akn_ref x0 x1 x2 x4 b s h e))
  unfold val_main_v108 val_main_v107 val_main_v106 val_main_v105 val_main_v104 val_main_v103 val_main_v102 val_main_v101 val_main_v100 val_main_v99 val_main_v98 val_main_v97 val_main_v96 val_main_v95 val_main_v94 val_main_v17 val_main_v18
  generalize val_main_v93 (F := Ideal) x0 x1 x2 x4 = R
  generalize val_main_v16 (F := Ideal) = A
  pointwise [rot]

/-- The first mixer's keys as the call returns them. -/
theorem ak_ref (b : Fin 4) (s : Fin 8192) (h : Fin 2) (e : Fin 64) : val_main_v148 (F := Ideal) x0 x1 x2 x4 (ix2 ⟨b.val * 8192 + s.val, by omega⟩ ⟨h.val * 64 + e.val, by omega⟩)
    = turned x0 x1 x2 x4 b s 512 h.val (by omega) e := by
  rw [← akr_ref]
  unfold val_main_v148 val_main_v147
  generalize val_main_v108 (F := Ideal) x0 x1 x2 x4 = R
  pointwise
end Cert.Proof.Even
-- ==== Proof.EvenRefB.lean ====
/- The reference of the even projection read at an index: the second mixer's queries and keys. -/
module
public import proofs.«01_k».proof.Proof.Gen.Reference4Ideal.Read
public import Idealize.ShloMosaic.Lib.Pointwise
public import proofs.«01_k».proof.Proof.EvenRef
public import Idealize.ShloMosaic.Lib.Tactic.CleanTypes
@[expose] public section
noncomputable section
open Idealize.ShloMosaic Idealize.ShloMosaic.TcCoe Idealize.SL.Sem
namespace Cert.Proof.Even
open Cert.Reference4Ideal Cert.Reference4Ideal.Gen Cert.Reference4Ideal.Read
open Cert.Proof.Proj (rms rot sil ang fold)
variable (x0 : (⟨S4x8192x1024, .f32⟩ : BufTy).Contents (Elt Ideal)) (x1 : (⟨S1x1024, .f32⟩ : BufTy).Contents (Elt Ideal))
  (x2 : (⟨S1x1024x3328, .f32⟩ : BufTy).Contents (Elt Ideal)) (x3 x4 x5 x6 : (⟨S1x64, .f32⟩ : BufTy).Contents (Elt Ideal))

/-- The normalised second mixer's queries of a head. -/
theorem bqn_ref (b : Fin 4) (s : Fin 8192) (h : Fin 8) (e : Fin 64) : val_main_v123 (F := Ideal) x0 x1 x2 x5 (ix4 b s h e)
    = hd x0 x1 x2 x5 b s 1280 h.val (by omega) e := by
  unfold hd rms
  simp only [← proj_ref]
  unfold val_main_v123 val_main_v122 val_main_v121 val_main_v120 val_main_v119 val_main_v118 val_main_v117 val_main_v116 val_main_v115 val_main_v114 val_main_v113 val_main_v112 val_main_v111 val_main_v110 val_main_v109 val_main_v39 val_main_cst_15 val_main_cst_16 val_main_cst_17
  generalize val_main_v34 (F := Ideal) x0 x1 x2 = R
  pointwise

/-- The second mixer's queries as the call returns them. -/
theorem bq_ref (b : Fin 4) (s : Fin 8192) (h : Fin 8) (e : Fin 64) : val_main_v156 (F := Ideal) x0 x1 x2 x5 (ix3 b ⟨h.val * 64 + e.val, by omega⟩ s)
    = hd x0 x1 x2 x5 b s 1280 h.val (by omega) e * fold := by
  rw [val_main_v156_apply, val_main_v155_apply, val_main_v127_apply, val_main_v126_apply, val_main_v125_apply, scale_ref, ← bqn_ref]
  refine congrArg (· * fold) ?_
  rw [show idx_main_v155 (ix3 b ⟨h.val * 64 + e.val, by omega⟩ s) = ix3 b s ⟨h.val * 64 + e.val, by omega⟩ from (ix3_eta _).symm]
  unfold val_main_v124
  generalize val_main_v123 (F := Ideal) x0 x1 x2 x5 = R
  pointwise

/-- The normalised second mixer's keys of a head. -/
theorem bkn_ref (b : Fin 4) (s : Fin 8192) (h : Fin 8) (e : Fin 64) : val_main_v142 (F := Ideal) x0 x1 x2 x6 (ix4 b s h e)
    = hd x0 x1 x2 x6 b s 1792 h.val (by omega) e := by
  unfold hd rms
  simp only [← proj_ref]
  unfold val_main_v142 val_main_v141 val_main_v140 val_main_v139 val_main_v138 val_main_v137 val_main_v136 val_main_v135 val_main_v134 val_main_v133 val_main_v132 val_main_v131 val_main_v130 val_main_v129 val_main_v128 val_main_v40 val_main_cst_18 val_main_cst_19 val_main_cst_20
  generalize val_main_v34 (F := Ideal) x0 x1 x2 = R
  pointwise

/-- The second mixer's keys as the call returns them. -/
theorem bk_ref (b : Fin 4) (s : Fin 8192) (h : Fin 8) (e : Fin 64) : val_main_v158 (F := Ideal) x0 x1 x2 x6 (ix2 ⟨b.val * 8192 + s.val, by omega⟩ ⟨h.val * 64 + e.val, by omega⟩)
    = hd x0 x1 x2 x6 b s 1792 h.val (by omega) e := by
  rw [← bkn_ref]
  unfold val_main_v158 val_main_v157
  generalize val_main_v142 (F := Ideal) x0 x1 x2 x6 = R
  pointwise
end Cert.Proof.Even
-- ==== Proof.EvenRefV.lean ====
/- The reference of the even projection read at an index: the values. -/
module
public import proofs.«01_k».proof.Proof.Gen.Reference4Ideal.Read
public import Idealize.ShloMosaic.Lib.Pointwise
public import proofs.«01_k».proof.Proof.EvenRef
public import Idealize.ShloMosaic.Lib.Tactic.CleanTypes
@[expose] public section
noncomputable section
open Idealize.ShloMosaic Idealize.ShloMosaic.TcCoe Idealize.SL.Sem
namespace Cert.Proof.Even
open Cert.Reference4Ideal Cert.Reference4Ideal.Gen Cert.Reference4Ideal.Read
open Cert.Proof.Proj (rms rot sil ang fold)
variable (x0 : (⟨S4x8192x1024, .f32⟩ : BufTy).Contents (Elt Ideal)) (x1 : (⟨S1x1024, .f32⟩ : BufTy).Contents (Elt Ideal))
  (x2 : (⟨S1x1024x3328, .f32⟩ : BufTy).Contents (Elt Ideal)) (x3 x4 x5 x6 : (⟨S1x64, .f32⟩ : BufTy).Contents (Elt Ideal))

/-- The first mixer's values by heads. -/
theorem avh_ref (b : Fin 4) (s : Fin 8192) (h : Fin 2) (e : Fin 64) : val_main_v149 (F := Ideal) x0 x1 x2 (ix4 b s h e)
    = proj x0 x1 x2 b s ⟨640 + (h.val * 64 + e.val), by omega⟩ := by
  rw [← proj_ref]
  unfold val_main_v149 val_main_v37
  generalize val_main_v34 (F := Ideal) x0 x1 x2 = R
  pointwise

/-- The ones below a head's entries. -/
theorem avo_ref (i : S4x8192x2x16.Idx) : val_main_v150 (F := Ideal) i = 1 := by
  have e : i = ix4 (i 0) (i 1) (i 2) (i 3) := (ix4_eta i).symm
  rw [e]
  unfold val_main_v150 val_main_cst_21
  pointwise

/-- The first mixer's values by heads, with the ones below each head's. -/
theorem avc_ref (b : Fin 4) (s : Fin 8192) (h : Fin 2) (e : Fin 80) : val_main_v151 (F := Ideal) x0 x1 x2 (ix4 b s h e)
    = if g : e.val < 64 then val_main_v149 (F := Ideal) x0 x1 x2 (ix4 b s h ⟨e.val, g⟩) else 1 := by
  unfold val_main_v151
  have o : ∀ i, val_main_v150 (F := Ideal) i = 1 := avo_ref
  generalize val_main_v149 (F := Ideal) x0 x1 x2 = R
  generalize val_main_v150 (F := Ideal) = O at o
  pointwise
  simp only [o]

/-- The first mixer's values as the call returns them. -/
theorem av_ref (b : Fin 4) (s : Fin 8192) (h : Fin 2) (e : Fin 80) : val_main_v154 (F := Ideal) x0 x1 x2 (ix3 b ⟨h.val * 80 + e.val, by omega⟩ s)
    = banded x0 x1 x2 b s 640 (by omega) ⟨h.val * 80 + e.val, by omega⟩ := by
  have r : val_main_v154 (F := Ideal) x0 x1 x2 (ix3 b ⟨h.val * 80 + e.val, by omega⟩ s) = val_main_v151 (F := Ideal) x0 x1 x2 (ix4 b s h e) := by
    rw [val_main_v154_apply, val_main_v153_apply, val_main_v152_apply]
    generalize val_main_v151 (F := Ideal) x0 x1 x2 = R
    show R _ = R _
    refine congrArg R (funext fun a => Fin.ext ?_)
    obtain ⟨b, hb⟩ := b
    obtain ⟨s, hs⟩ := s
    obtain ⟨h, hh⟩ := h
    obtain ⟨e, he⟩ := e
    match a with
    | ⟨0, _⟩ => show ((b * 8192 + s) * 160 + (h * 80 + e)) / 1310720 = b; omega
    | ⟨1, _⟩ => show ((b * 8192 + s) * 160 + (h * 80 + e)) / 160 % 8192 = s; omega
    | ⟨2, _⟩ => show ((b * 8192 + s) * 160 + (h * 80 + e)) / 80 % 2 = h; omega
    | ⟨3, _⟩ => show ((b * 8192 + s) * 160 + (h * 80 + e)) % 80 = e; omega
  rw [r, avc_ref]
  by_cases g : e.val < 64
  · rw [dif_pos g, avh_ref]
    exact (banded_entry x0 x1 x2 b s 640 (by omega) ⟨h.val * 80 + e.val, by omega⟩ (640 + (h.val * 64 + e.val)) (by omega) (by show (h.val * 80 + e.val) % 80 < 64; omega)
      (by show _ = 640 + ((h.val * 80 + e.val) / 80 * 64 + (h.val * 80 + e.val) % 80); omega)).symm
  · rw [dif_neg g]
    exact (banded_one x0 x1 x2 b s 640 (by omega) _ (by show 64 ≤ (h.val * 80 + e.val) % 80; omega)).symm

/-- The second mixer's values by heads. -/
theorem bvh_ref (b : Fin 4) (s : Fin 8192) (h : Fin 8) (e : Fin 64) : val_main_v159 (F := Ideal) x0 x1 x2 (ix4 b s h e)
    = proj x0 x1 x2 b s ⟨2304 + (h.val * 64 + e.val), by omega⟩ := by
  rw [← proj_ref]
  unfold val_main_v159 val_main_v41
  generalize val_main_v34 (F := Ideal) x0 x1 x2 = R
  pointwise

/-- The ones below a head's entries. -/
theorem bvo_ref (i : S4x8192x8x16.Idx) : val_main_v160 (F := Ideal) i = 1 := by
  have e : i = ix4 (i 0) (i 1) (i 2) (i 3) := (ix4_eta i).symm
  rw [e]
  unfold val_main_v160 val_main_cst_22
  pointwise

/-- The second mixer's values by heads, with the ones below each head's. -/
theorem bvc_ref (b : Fin 4) (s : Fin 8192) (h : Fin 8) (e : Fin 80) : val_main_v161 (F := Ideal) x0 x1 x2 (ix4 b s h e)
    = if g : e.val < 64 then val_main_v159 (F := Ideal) x0 x1 x2 (ix4 b s h ⟨e.val, g⟩) else 1 := by
  unfold val_main_v161
  have o : ∀ i, val_main_v160 (F := Ideal) i = 1 := bvo_ref
  generalize val_main_v159 (F := Ideal) x0 x1 x2 = R
  generalize val_main_v160 (F := Ideal) = O at o
  pointwise
  simp only [o]

/-- The second mixer's values as the call returns them. -/
theorem bv_ref (b : Fin 4) (s : Fin 8192) (h : Fin 8) (e : Fin 80) : val_main_v164 (F := Ideal) x0 x1 x2 (ix3 b ⟨h.val * 80 + e.val, by omega⟩ s)
    = banded x0 x1 x2 b s 2304 (by omega) ⟨h.val * 80 + e.val, by omega⟩ := by
  have r : val_main_v164 (F := Ideal) x0 x1 x2 (ix3 b ⟨h.val * 80 + e.val, by omega⟩ s) = val_main_v161 (F := Ideal) x0 x1 x2 (ix4 b s h e) := by
    rw [val_main_v164_apply, val_main_v163_apply, val_main_v162_apply]
    generalize val_main_v161 (F := Ideal) x0 x1 x2 = R
    show R _ = R _
    refine congrArg R (funext fun a => Fin.ext ?_)
    obtain ⟨b, hb⟩ := b
    obtain ⟨s, hs⟩ := s
    obtain ⟨h, hh⟩ := h
    obtain ⟨e, he⟩ := e
    match a with
    | ⟨0, _⟩ => show ((b * 8192 + s) * 640 + (h * 80 + e)) / 5242880 = b; omega
    | ⟨1, _⟩ => show ((b * 8192 + s) * 640 + (h * 80 + e)) / 640 % 8192 = s; omega
    | ⟨2, _⟩ => show ((b * 8192 + s) * 640 + (h * 80 + e)) / 80 % 8 = h; omega
    | ⟨3, _⟩ => show ((b * 8192 + s) * 640 + (h * 80 + e)) % 80 = e; omega
  rw [r, bvc_ref]
  by_cases g : e.val < 64
  · rw [dif_pos g, bvh_ref]
    exact (banded_entry x0 x1 x2 b s 2304 (by omega) ⟨h.val * 80 + e.val, by omega⟩ (2304 + (h.val * 64 + e.val)) (by omega) (by show (h.val * 80 + e.val) % 80 < 64; omega)
      (by show _ = 2304 + ((h.val * 80 + e.val) / 80 * 64 + (h.val * 80 + e.val) % 80); omega)).symm
  · rw [dif_neg g]
    exact (banded_one x0 x1 x2 b s 2304 (by omega) _ (by show 64 ≤ (h.val * 80 + e.val) % 80; omega)).symm

end Cert.Proof.Even
-- ==== Proof.EvenRefG.lean ====
/- The reference of the even projection read at an index: the gate. -/
module
public import proofs.«01_k».proof.Proof.Gen.Reference4Ideal.Read
public import Idealize.ShloMosaic.Lib.Pointwise
public import proofs.«01_k».proof.Proof.EvenRef
public import Idealize.ShloMosaic.Lib.Tactic.CleanTypes
@[expose] public section
noncomputable section
open Idealize.ShloMosaic Idealize.ShloMosaic.TcCoe Idealize.SL.Sem
namespace Cert.Proof.Even
open Cert.Reference4Ideal Cert.Reference4Ideal.Gen Cert.Reference4Ideal.Read
open Cert.Proof.Proj (rms rot sil ang fold)
variable (x0 : (⟨S4x8192x1024, .f32⟩ : BufTy).Contents (Elt Ideal)) (x1 : (⟨S1x1024, .f32⟩ : BufTy).Contents (Elt Ideal))
  (x2 : (⟨S1x1024x3328, .f32⟩ : BufTy).Contents (Elt Ideal)) (x3 x4 x5 x6 : (⟨S1x64, .f32⟩ : BufTy).Contents (Elt Ideal))

/-- The gate as the call returns it. -/
theorem g_ref (b : Fin 4) (r : Fin 1024) (s : Fin 8192) : val_main_v165 (F := Ideal) x0 x1 x2 (ix3 b r s) = gated x0 x1 x2 b s r := by
  unfold gated
  simp only [← proj_ref]
  unfold val_main_v165 val_main_v144 val_main_call0_v5 val_main_call0_v4 val_main_call0_v3 val_main_call0_v2 val_main_call0_v1 val_main_call0_v0 val_main_call0_cst val_main_call0_cst_0 val_main_v143 val_main_v42 val_main_v38
  generalize val_main_v34 (F := Ideal) x0 x1 x2 = R
  pointwise [sil]
end Cert.Proof.Even
-- ==== Proof.EvenFinal.lean ====
/- The arrays the even projection leaves. -/
module
public import proofs.«01_k».proof.Proof.Gen.Kernel4Ideal.Value
public import proofs.«01_k».proof.Proof.EvenBlocks
public import proofs.«01_k».proof.Proof.EvenBody
public import proofs.«01_k».proof.Proof.EvenRefA
public import proofs.«01_k».proof.Proof.EvenRefB
public import proofs.«01_k».proof.Proof.EvenRefV
public import proofs.«01_k».proof.Proof.EvenRefG
public import Idealize.ShloMosaic.Lib.StableHlo.ReadAt
public import Idealize.ShloMosaic.Lib.Claim
public import Idealize.ShloMosaic.Lib.Pipeline.ValueKit.Geometry
@[expose] public section
noncomputable section
open Idealize.ShloMosaic Idealize.ShloMosaic.TcCoe Idealize.SL.Sem
namespace Cert.Proof.Even
open Cert.Kernel4Ideal Cert.Kernel4Ideal.Gen Cert.Kernel4Ideal.Value
open Cert.Proof.Proj (ang)
variable (m : (ℓ : Loc nD τ sig) → Buf (Elt Ideal) ℓ)

/-- Where window 9's block stands at a grid point. -/
theorem index9 : ∀ t : Fin cfg0.N, win0_9.index t 0 = (grid0.coords t 0).val ∧ win0_9.index t 1 = 0 ∧ win0_9.index t 2 = (grid0.coords t 1).val :=
  (by decide +kernel : ∀ t : Fin grid0.N, win0_9.index t 0 = (grid0.coords t 0).val ∧ win0_9.index t 1 = 0 ∧ win0_9.index t 2 = (grid0.coords t 1).val)

/-- Where window 11's block stands at a grid point. -/
theorem index11 : ∀ t : Fin cfg0.N, win0_11.index t 0 = (grid0.coords t 0).val ∧ win0_11.index t 1 = 0 ∧ win0_11.index t 2 = (grid0.coords t 1).val :=
  (by decide +kernel : ∀ t : Fin grid0.N, win0_11.index t 0 = (grid0.coords t 0).val ∧ win0_11.index t 1 = 0 ∧ win0_11.index t 2 = (grid0.coords t 1).val)

/-- Where window 12's block stands at a grid point. -/
theorem index12 : ∀ t : Fin cfg0.N, win0_12.index t 0 = (grid0.coords t 0).val ∧ win0_12.index t 1 = 0 ∧ win0_12.index t 2 = (grid0.coords t 1).val :=
  (by decide +kernel : ∀ t : Fin grid0.N, win0_12.index t 0 = (grid0.coords t 0).val ∧ win0_12.index t 1 = 0 ∧ win0_12.index t 2 = (grid0.coords t 1).val)

/-- Where window 14's block stands at a grid point. -/
theorem index14 : ∀ t : Fin cfg0.N, win0_14.index t 0 = (grid0.coords t 0).val ∧ win0_14.index t 1 = 0 ∧ win0_14.index t 2 = (grid0.coords t 1).val :=
  (by decide +kernel : ∀ t : Fin grid0.N, win0_14.index t 0 = (grid0.coords t 0).val ∧ win0_14.index t 1 = 0 ∧ win0_14.index t 2 = (grid0.coords t 1).val)

/-- Where window 15's block stands at a grid point. -/
theorem index15 : ∀ t : Fin cfg0.N, win0_15.index t 0 = (grid0.coords t 0).val ∧ win0_15.index t 1 = 0 ∧ win0_15.index t 2 = (grid0.coords t 1).val :=
  (by decide +kernel : ∀ t : Fin grid0.N, win0_15.index t 0 = (grid0.coords t 0).val ∧ win0_15.index t 1 = 0 ∧ win0_15.index t 2 = (grid0.coords t 1).val)

/-- Where window 10's block stands at a grid point. -/
theorem index10 : ∀ t : Fin cfg0.N, win0_10.index t 0 = (grid0.coords t 0).val * 8 + (grid0.coords t 1).val ∧ win0_10.index t 1 = 0 :=
  (by decide +kernel : ∀ t : Fin grid0.N, win0_10.index t 0 = (grid0.coords t 0).val * 8 + (grid0.coords t 1).val ∧ win0_10.index t 1 = 0)

/-- Where window 13's block stands at a grid point. -/
theorem index13 : ∀ t : Fin cfg0.N, win0_13.index t 0 = (grid0.coords t 0).val * 8 + (grid0.coords t 1).val ∧ win0_13.index t 1 = 0 :=
  (by decide +kernel : ∀ t : Fin grid0.N, win0_13.index t 0 = (grid0.coords t 0).val * 8 + (grid0.coords t 1).val ∧ win0_13.index t 1 = 0)

/-- Where window 9's block stands in its array. -/
theorem place9 (t : Fin cfg0.N) (d : Fin 512) (n : Fin 1024) (X : S4x512x8192.Idx → EReal) :
    (((cfg0.win 9).blk t).view.read (Elt Ideal) X : S1x512x1024.Idx → EReal) (ix3 0 d n) = X (ix3 (bt t) d (ps t n)) := by
  obtain ⟨h0, h1, h2⟩ := index9 t
  rw [View.read_apply]
  show X _ = X _
  congr 1
  funext a
  apply Fin.ext
  match a with
  | ⟨0, _⟩ => show win0_9.index t 0 * 1 + 1 * 0 = (grid0.coords t 0).val; rw [h0]; omega
  | ⟨1, _⟩ => show win0_9.index t 1 * 512 + 1 * d.val = d.val; rw [h1]; omega
  | ⟨2, _⟩ => show win0_9.index t 2 * 1024 + 1 * n.val = 1024 * (grid0.coords t 1).val + n.val; rw [h2]; omega

/-- Where window 11's block stands in its array. -/
theorem place11 (t : Fin cfg0.N) (d : Fin 160) (n : Fin 1024) (X : S4x160x8192.Idx → EReal) :
    (((cfg0.win 11).blk t).view.read (Elt Ideal) X : S1x160x1024.Idx → EReal) (ix3 0 d n) = X (ix3 (bt t) d (ps t n)) := by
  obtain ⟨h0, h1, h2⟩ := index11 t
  rw [View.read_apply]
  show X _ = X _
  congr 1
  funext a
  apply Fin.ext
  match a with
  | ⟨0, _⟩ => show win0_11.index t 0 * 1 + 1 * 0 = (grid0.coords t 0).val; rw [h0]; omega
  | ⟨1, _⟩ => show win0_11.index t 1 * 160 + 1 * d.val = d.val; rw [h1]; omega
  | ⟨2, _⟩ => show win0_11.index t 2 * 1024 + 1 * n.val = 1024 * (grid0.coords t 1).val + n.val; rw [h2]; omega

/-- Where window 12's block stands in its array. -/
theorem place12 (t : Fin cfg0.N) (d : Fin 512) (n : Fin 1024) (X : S4x512x8192.Idx → EReal) :
    (((cfg0.win 12).blk t).view.read (Elt Ideal) X : S1x512x1024.Idx → EReal) (ix3 0 d n) = X (ix3 (bt t) d (ps t n)) := by
  obtain ⟨h0, h1, h2⟩ := index12 t
  rw [View.read_apply]
  show X _ = X _
  congr 1
  funext a
  apply Fin.ext
  match a with
  | ⟨0, _⟩ => show win0_12.index t 0 * 1 + 1 * 0 = (grid0.coords t 0).val; rw [h0]; omega
  | ⟨1, _⟩ => show win0_12.index t 1 * 512 + 1 * d.val = d.val; rw [h1]; omega
  | ⟨2, _⟩ => show win0_12.index t 2 * 1024 + 1 * n.val = 1024 * (grid0.coords t 1).val + n.val; rw [h2]; omega

/-- Where window 14's block stands in its array. -/
theorem place14 (t : Fin cfg0.N) (d : Fin 640) (n : Fin 1024) (X : S4x640x8192.Idx → EReal) :
    (((cfg0.win 14).blk t).view.read (Elt Ideal) X : S1x640x1024.Idx → EReal) (ix3 0 d n) = X (ix3 (bt t) d (ps t n)) := by
  obtain ⟨h0, h1, h2⟩ := index14 t
  rw [View.read_apply]
  show X _ = X _
  congr 1
  funext a
  apply Fin.ext
  match a with
  | ⟨0, _⟩ => show win0_14.index t 0 * 1 + 1 * 0 = (grid0.coords t 0).val; rw [h0]; omega
  | ⟨1, _⟩ => show win0_14.index t 1 * 640 + 1 * d.val = d.val; rw [h1]; omega
  | ⟨2, _⟩ => show win0_14.index t 2 * 1024 + 1 * n.val = 1024 * (grid0.coords t 1).val + n.val; rw [h2]; omega

/-- Where window 15's block stands in its array. -/
theorem place15 (t : Fin cfg0.N) (d : Fin 1024) (n : Fin 1024) (X : S4x1024x8192.Idx → EReal) :
    (((cfg0.win 15).blk t).view.read (Elt Ideal) X : S1x1024x1024.Idx → EReal) (ix3 0 d n) = X (ix3 (bt t) d (ps t n)) := by
  obtain ⟨h0, h1, h2⟩ := index15 t
  rw [View.read_apply]
  show X _ = X _
  congr 1
  funext a
  apply Fin.ext
  match a with
  | ⟨0, _⟩ => show win0_15.index t 0 * 1 + 1 * 0 = (grid0.coords t 0).val; rw [h0]; omega
  | ⟨1, _⟩ => show win0_15.index t 1 * 1024 + 1 * d.val = d.val; rw [h1]; omega
  | ⟨2, _⟩ => show win0_15.index t 2 * 1024 + 1 * n.val = 1024 * (grid0.coords t 1).val + n.val; rw [h2]; omega

/-- Where window 10's block stands in its array. -/
theorem place10 (t : Fin cfg0.N) (n : Fin 1024) (d : Fin 128) (X : S32768x128.Idx → EReal) :
    (((cfg0.win 10).blk t).view.read (Elt Ideal) X : S1024x128.Idx → EReal) (ix2 n d) = X (ix2 (row (bt t) (ps t n)) d) := by
  obtain ⟨h0, h1⟩ := index10 t
  rw [View.read_apply]
  show X _ = X _
  congr 1
  funext a
  apply Fin.ext
  match a with
  | ⟨0, _⟩ => show win0_10.index t 0 * 1024 + 1 * n.val = (grid0.coords t 0).val * 8192 + (1024 * (grid0.coords t 1).val + n.val); rw [h0]; omega
  | ⟨1, _⟩ => show win0_10.index t 1 * 128 + 1 * d.val = d.val; rw [h1]; omega

/-- Where window 13's block stands in its array. -/
theorem place13 (t : Fin cfg0.N) (n : Fin 1024) (d : Fin 512) (X : S32768x512.Idx → EReal) :
    (((cfg0.win 13).blk t).view.read (Elt Ideal) X : S1024x512.Idx → EReal) (ix2 n d) = X (ix2 (row (bt t) (ps t n)) d) := by
  obtain ⟨h0, h1⟩ := index13 t
  rw [View.read_apply]
  show X _ = X _
  congr 1
  funext a
  apply Fin.ext
  match a with
  | ⟨0, _⟩ => show win0_13.index t 0 * 1024 + 1 * n.val = (grid0.coords t 0).val * 8192 + (1024 * (grid0.coords t 1).val + n.val); rw [h0]; omega
  | ⟨1, _⟩ => show win0_13.index t 1 * 512 + 1 * d.val = d.val; rw [h1]; omega

/-- A row of a projection is an entry of one of the heads, each of `k` rows. -/
theorem split {H k R : ℕ} (hk : 0 < k) (hR : H * k = R) (f : Fin R) : ∃ (h : Fin H) (e : Fin k) (q : h.val * k + e.val < R), f = ⟨h.val * k + e.val, q⟩ := by
  have g : f.val / k * k + f.val % k = f.val := by
    rw [Nat.mul_comm]
    exact Nat.div_add_mod f.val k
  exact ⟨⟨f.val / k, Nat.div_lt_of_lt_mul (by rw [Nat.mul_comm, hR]; exact f.isLt)⟩, ⟨f.val % k, Nat.mod_lt _ hk⟩, g.trans_lt f.isLt, Fin.ext g.symm⟩

section Arrays
variable (c : Dev nD)
open Cert.Reference4Ideal.Read
/-- The first mixer's queries the call leaves. -/
def r9 : S4x512x8192.Idx → EReal := val_main_v146 (F := Ideal) (ax m c) (ag m c) (ai m c) (aaq m c)
/-- The first mixer's keys the call leaves. -/
def r10 : S32768x128.Idx → EReal := val_main_v148 (F := Ideal) (ax m c) (ag m c) (ai m c) (aak m c)
/-- The first mixer's values the call leaves. -/
def r11 : S4x160x8192.Idx → EReal := val_main_v154 (F := Ideal) (ax m c) (ag m c) (ai m c)
/-- The second mixer's queries the call leaves. -/
def r12 : S4x512x8192.Idx → EReal := val_main_v156 (F := Ideal) (ax m c) (ag m c) (ai m c) (abq m c)
/-- The second mixer's keys the call leaves. -/
def r13 : S32768x512.Idx → EReal := val_main_v158 (F := Ideal) (ax m c) (ag m c) (ai m c) (abk m c)
/-- The second mixer's values the call leaves. -/
def r14 : S4x640x8192.Idx → EReal := val_main_v164 (F := Ideal) (ax m c) (ag m c) (ai m c)
/-- The gate the call leaves. -/
def r15 : S4x1024x8192.Idx → EReal := val_main_v165 (F := Ideal) (ax m c) (ag m c) (ai m c)

/-- The first mixer's queries a grid point writes back. -/
theorem flush9 (t : Fin cfg0.N) : (dats m 0 c).flushed 9 t = ((cfg0.win 9).blk t).view.read (Elt Ideal) (r9 m c) := by
  rw [flushed9_A]
  refine funext fun (j : S1x512x1024.Idx) => ?_
  have ej : j = ix3 0 (j 1) (j 2) := (ix3_eta j).symm.trans (congrArg (fun z => ix3 z (j 1) (j 2)) (Subsingleton.elim (α := Fin 1) _ _))
  rw [ej]
  generalize (j 1 : Fin 512) = f, (j 2 : Fin 1024) = n
  obtain ⟨h, e, q, rfl⟩ := split (H := 8) (k := 64) (by omega) rfl f
  refine Eq.trans ?_ (place9 t _ n (r9 m c)).symm
  refine Eq.trans ?_ (aq_ref (ax m c) (ag m c) (ai m c) (aaq m c) (bt t) (ps t n) h e).symm
  exact out9_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (ax m c) (ag m c) (ai m c) (aaq m c) (bt t) (ps t n) n (fun d => block_0 m c t n d) (fun d => block_1 m c t d) (fun r d => block_2 m c t r d) (fun e => block_3 m c t e n) (fun e => block_4 m c t e n) (fun e => block_5 m c t e n) h e

/-- The first mixer's queries the call leaves are the reference's. -/
theorem array9 : (dats m 0 c).arrAt 9 cfg0.N = r9 m c :=
  (dats m 0 c).arrAt_eq_of_cover 9 (r9 m c) (fun t _ => flush9 m c t)
    ((by decide +kernel : (cfg0.win 9).Covers).cover _ (Memref.isWhole_whole _))

/-- The first mixer's keys a grid point writes back. -/
theorem flush10 (t : Fin cfg0.N) : (dats m 0 c).flushed 10 t = ((cfg0.win 10).blk t).view.read (Elt Ideal) (r10 m c) := by
  rw [flushed10_A]
  refine funext fun (j : S1024x128.Idx) => ?_
  have ej : j = ix2 (j 0) (j 1) := (ix2_eta j).symm
  rw [ej]
  generalize (j 0 : Fin 1024) = n, (j 1 : Fin 128) = f
  obtain ⟨h, e, q, rfl⟩ := split (H := 2) (k := 64) (by omega) rfl f
  refine Eq.trans ?_ (place10 t n _ (r10 m c)).symm
  refine Eq.trans ?_ (ak_ref (ax m c) (ag m c) (ai m c) (aak m c) (bt t) (ps t n) h e).symm
  exact out10_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (ax m c) (ag m c) (ai m c) (aak m c) (bt t) (ps t n) n (fun d => block_0 m c t n d) (fun d => block_1 m c t d) (fun r d => block_2 m c t r d) (fun e => block_3 m c t e n) (fun e => block_4 m c t e n) (fun e => block_6 m c t e n) h e

/-- The first mixer's keys the call leaves are the reference's. -/
theorem array10 : (dats m 0 c).arrAt 10 cfg0.N = r10 m c :=
  (dats m 0 c).arrAt_eq_of_cover 10 (r10 m c) (fun t _ => flush10 m c t)
    ((by decide +kernel : (cfg0.win 10).Covers).cover _ (Memref.isWhole_whole _))

/-- The first mixer's values a grid point writes back. -/
theorem flush11 (t : Fin cfg0.N) : (dats m 0 c).flushed 11 t = ((cfg0.win 11).blk t).view.read (Elt Ideal) (r11 m c) := by
  rw [flushed11_A]
  refine funext fun (j : S1x160x1024.Idx) => ?_
  have ej : j = ix3 0 (j 1) (j 2) := (ix3_eta j).symm.trans (congrArg (fun z => ix3 z (j 1) (j 2)) (Subsingleton.elim (α := Fin 1) _ _))
  rw [ej]
  generalize (j 1 : Fin 160) = f, (j 2 : Fin 1024) = n
  obtain ⟨h, e, q, rfl⟩ := split (H := 2) (k := 80) (by omega) rfl f
  refine Eq.trans ?_ (place11 t _ n (r11 m c)).symm
  refine Eq.trans ?_ (av_ref (ax m c) (ag m c) (ai m c) (bt t) (ps t n) h e).symm
  exact out11_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (ax m c) (ag m c) (ai m c)  (bt t) (ps t n) n (fun d => block_0 m c t n d) (fun d => block_1 m c t d) (fun r d => block_2 m c t r d) ⟨h.val * 80 + e.val, by omega⟩

/-- The first mixer's values the call leaves are the reference's. -/
theorem array11 : (dats m 0 c).arrAt 11 cfg0.N = r11 m c :=
  (dats m 0 c).arrAt_eq_of_cover 11 (r11 m c) (fun t _ => flush11 m c t)
    ((by decide +kernel : (cfg0.win 11).Covers).cover _ (Memref.isWhole_whole _))

/-- The second mixer's queries a grid point writes back. -/
theorem flush12 (t : Fin cfg0.N) : (dats m 0 c).flushed 12 t = ((cfg0.win 12).blk t).view.read (Elt Ideal) (r12 m c) := by
  rw [flushed12_A]
  refine funext fun (j : S1x512x1024.Idx) => ?_
  have ej : j = ix3 0 (j 1) (j 2) := (ix3_eta j).symm.trans (congrArg (fun z => ix3 z (j 1) (j 2)) (Subsingleton.elim (α := Fin 1) _ _))
  rw [ej]
  generalize (j 1 : Fin 512) = f, (j 2 : Fin 1024) = n
  obtain ⟨h, e, q, rfl⟩ := split (H := 8) (k := 64) (by omega) rfl f
  refine Eq.trans ?_ (place12 t _ n (r12 m c)).symm
  refine Eq.trans ?_ (bq_ref (ax m c) (ag m c) (ai m c) (abq m c) (bt t) (ps t n) h e).symm
  exact out12_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (ax m c) (ag m c) (ai m c) (abq m c) (bt t) (ps t n) n (fun d => block_0 m c t n d) (fun d => block_1 m c t d) (fun r d => block_2 m c t r d) (fun e => block_7 m c t e n) h e

/-- The second mixer's queries the call leaves are the reference's. -/
theorem array12 : (dats m 0 c).arrAt 12 cfg0.N = r12 m c :=
  (dats m 0 c).arrAt_eq_of_cover 12 (r12 m c) (fun t _ => flush12 m c t)
    ((by decide +kernel : (cfg0.win 12).Covers).cover _ (Memref.isWhole_whole _))

/-- The second mixer's keys a grid point writes back. -/
theorem flush13 (t : Fin cfg0.N) : (dats m 0 c).flushed 13 t = ((cfg0.win 13).blk t).view.read (Elt Ideal) (r13 m c) := by
  rw [flushed13_A]
  refine funext fun (j : S1024x512.Idx) => ?_
  have ej : j = ix2 (j 0) (j 1) := (ix2_eta j).symm
  rw [ej]
  generalize (j 0 : Fin 1024) = n, (j 1 : Fin 512) = f
  obtain ⟨h, e, q, rfl⟩ := split (H := 8) (k := 64) (by omega) rfl f
  refine Eq.trans ?_ (place13 t n _ (r13 m c)).symm
  refine Eq.trans ?_ (bk_ref (ax m c) (ag m c) (ai m c) (abk m c) (bt t) (ps t n) h e).symm
  exact out13_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (ax m c) (ag m c) (ai m c) (abk m c) (bt t) (ps t n) n (fun d => block_0 m c t n d) (fun d => block_1 m c t d) (fun r d => block_2 m c t r d) (fun e => block_8 m c t e n) h e

/-- The second mixer's keys the call leaves are the reference's. -/
theorem array13 : (dats m 0 c).arrAt 13 cfg0.N = r13 m c :=
  (dats m 0 c).arrAt_eq_of_cover 13 (r13 m c) (fun t _ => flush13 m c t)
    ((by decide +kernel : (cfg0.win 13).Covers).cover _ (Memref.isWhole_whole _))

/-- The second mixer's values a grid point writes back. -/
theorem flush14 (t : Fin cfg0.N) : (dats m 0 c).flushed 14 t = ((cfg0.win 14).blk t).view.read (Elt Ideal) (r14 m c) := by
  rw [flushed14_A]
  refine funext fun (j : S1x640x1024.Idx) => ?_
  have ej : j = ix3 0 (j 1) (j 2) := (ix3_eta j).symm.trans (congrArg (fun z => ix3 z (j 1) (j 2)) (Subsingleton.elim (α := Fin 1) _ _))
  rw [ej]
  generalize (j 1 : Fin 640) = f, (j 2 : Fin 1024) = n
  obtain ⟨h, e, q, rfl⟩ := split (H := 8) (k := 80) (by omega) rfl f
  refine Eq.trans ?_ (place14 t _ n (r14 m c)).symm
  refine Eq.trans ?_ (bv_ref (ax m c) (ag m c) (ai m c) (bt t) (ps t n) h e).symm
  exact out14_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (ax m c) (ag m c) (ai m c)  (bt t) (ps t n) n (fun d => block_0 m c t n d) (fun d => block_1 m c t d) (fun r d => block_2 m c t r d) ⟨h.val * 80 + e.val, by omega⟩

/-- The second mixer's values the call leaves are the reference's. -/
theorem array14 : (dats m 0 c).arrAt 14 cfg0.N = r14 m c :=
  (dats m 0 c).arrAt_eq_of_cover 14 (r14 m c) (fun t _ => flush14 m c t)
    ((by decide +kernel : (cfg0.win 14).Covers).cover _ (Memref.isWhole_whole _))

/-- The gate a grid point writes back. -/
theorem flush15 (t : Fin cfg0.N) : (dats m 0 c).flushed 15 t = ((cfg0.win 15).blk t).view.read (Elt Ideal) (r15 m c) := by
  rw [flushed15_A]
  refine funext fun (j : S1x1024x1024.Idx) => ?_
  have ej : j = ix3 0 (j 1) (j 2) := (ix3_eta j).symm.trans (congrArg (fun z => ix3 z (j 1) (j 2)) (Subsingleton.elim (α := Fin 1) _ _))
  rw [ej]
  generalize (j 1 : Fin 1024) = f, (j 2 : Fin 1024) = n
  refine Eq.trans ?_ (place15 t _ n (r15 m c)).symm
  refine Eq.trans ?_ (g_ref (ax m c) (ag m c) (ai m c) (bt t) f (ps t n)).symm
  exact out15_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (ax m c) (ag m c) (ai m c)  (bt t) (ps t n) n (fun d => block_0 m c t n d) (fun d => block_1 m c t d) (fun r d => block_2 m c t r d) f

/-- The gate the call leaves are the reference's. -/
theorem array15 : (dats m 0 c).arrAt 15 cfg0.N = r15 m c :=
  (dats m 0 c).arrAt_eq_of_cover 15 (r15 m c) (fun t _ => flush15 m c t)
    ((by decide +kernel : (cfg0.win 15).Covers).cover _ (Memref.isWhole_whole _))
end Arrays
end Cert.Proof.Even
-- ==== Proof.EvenAlgebraic.lean ====
/- The even projection's claims: kernel and reference, run on arguments that agree, leave the same seven results. -/
module
public import proofs.«01_k».proof.Defs
public import proofs.«01_k».proof.Proof.EvenFinal
public import proofs.«01_k».proof.Proof.Gen.Reference4Ideal.Run
@[expose] public section
noncomputable section
open Idealize.ShloMosaic Idealize.ShloMosaic.TcCoe Idealize.SL.Sem
namespace Cert.Proof.Even

/-- Both programs leave the reference's results at the arguments. -/
theorem algebraic_holds : Cert.algebraic_Kernel4Ideal_Reference4Ideal (hKernel4Ideal := Cert.Kernel4Ideal.Gen.facts)
    (hReference4Ideal := Cert.Reference4Ideal.Gen.facts) := by
  intro m g m' g' _ hag
  refine ⟨fun c => r9 m c, fun c => r10 m c, fun c => r11 m c, fun c => r12 m c, fun c => r13 m c, fun c => r14 m c, fun c => r15 m c, ?_, ?_⟩
  · refine (θ_run _ _ _).mono (fun r h c => ?_) (Cert.Kernel4Ideal.Value.run_blocks m g)
    obtain ⟨k0, k1, k2, k3, k4, k5, k6, k⟩ := h c
    exact ⟨k0.trans (array9 m c), k1.trans (array10 m c), k2.trans (array11 m c), k3.trans (array12 m c), k4.trans (array13 m c), k5.trans (array14 m c), k6.trans (array15 m c), k⟩
  · refine (θ_run _ _ _).mono (fun r h c => ?_) (Cert.Reference4Ideal.Value.run m' g')
    obtain ⟨k0, k1, k2, k3, k4, k5, k6, k⟩ := h c
    obtain ⟨e0, e1, e2, e3, e4, e5, e6⟩ := hag c
    refine ⟨k0.trans ?_, k1.trans ?_, k2.trans ?_, k3.trans ?_, k4.trans ?_, k5.trans ?_, k6.trans ?_, k⟩ <;> clear k0 k1 k2 k3 k4 k5 k6 k
    · exact (Cert.Reference4Ideal.Read.val_main_v146_eq (StableHlo.launchContents m' c)).trans (congr (congr (congr (congrArg (Cert.Reference4Ideal.Read.val_main_v146 (F := Ideal)) e0) e1) e2) e3)
    · exact (Cert.Reference4Ideal.Read.val_main_v148_eq (StableHlo.launchContents m' c)).trans (congr (congr (congr (congrArg (Cert.Reference4Ideal.Read.val_main_v148 (F := Ideal)) e0) e1) e2) e4)
    · exact (Cert.Reference4Ideal.Read.val_main_v154_eq (StableHlo.launchContents m' c)).trans (congr (congr (congrArg (Cert.Reference4Ideal.Read.val_main_v154 (F := Ideal)) e0) e1) e2)
    · exact (Cert.Reference4Ideal.Read.val_main_v156_eq (StableHlo.launchContents m' c)).trans (congr (congr (congr (congrArg (Cert.Reference4Ideal.Read.val_main_v156 (F := Ideal)) e0) e1) e2) e5)
    · exact (Cert.Reference4Ideal.Read.val_main_v158_eq (StableHlo.launchContents m' c)).trans (congr (congr (congr (congrArg (Cert.Reference4Ideal.Read.val_main_v158 (F := Ideal)) e0) e1) e2) e6)
    · exact (Cert.Reference4Ideal.Read.val_main_v164_eq (StableHlo.launchContents m' c)).trans (congr (congr (congrArg (Cert.Reference4Ideal.Read.val_main_v164 (F := Ideal)) e0) e1) e2)
    · exact (Cert.Reference4Ideal.Read.val_main_v165_eq (StableHlo.launchContents m' c)).trans (congr (congr (congrArg (Cert.Reference4Ideal.Read.val_main_v165 (F := Ideal)) e0) e1) e2)

/-- The reference writes nothing but its results and leaves its arguments. -/
theorem reference_quiescent : Cert.quiescent_Reference4Ideal (hReference4Ideal := Cert.Reference4Ideal.Gen.facts) := fun m g _ =>
  (θ_run Cert.Reference4Ideal.defs _ _).mono (fun r h => And.intro (fun c => (h c).2.2.2.2.2.2.2)
    (Idealize.ShloMosaic.sem_eq_zero_of_no_sems (by decide) r.2)) (Cert.Reference4Ideal.Value.run m g)

/-- The named constant stands for the literal the kernel is compiled with. -/
theorem preserves_holds : Cert.preserves_Kernel4_Kernel4Ideal :=
  IdealRules.named_const.statement Cert.Kernel4Ideal.κ "q_fold" .f32 0x3E38AA3B#32 (((1 / 8) * (Real.log 2)⁻¹ : ℝ) : EReal) rfl
end Cert.Proof.Even
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Algebraic
public import proofs.«01_k».proof.Proof.ProjAlgebraic
public import proofs.«01_k».proof.Proof.LastAlgebraic
public import proofs.«01_k».proof.Proof.EvenAlgebraic
public import Idealize.ShloMosaic.Adequacy
public import Idealize.ShloMosaic.Init

@[expose] public section

noncomputable section

namespace Cert.Proof

open Idealize.ShloMosaic Idealize.SL.Sem Cert.Kernel

/-- The reference runs, keeps its arguments and leaves every semaphore at zero. -/
theorem reference_quiescent : Cert.quiescent_ReferenceIdeal (hReferenceIdeal := Cert.ReferenceIdeal.Gen.facts) := fun m g _ =>
  (θ_run Cert.ReferenceIdeal.defs _ _).mono (fun r h => And.intro (fun c => (h c).2) (Idealize.ShloMosaic.sem_eq_zero_of_no_sems (by decide) r.2))
    (Cert.ReferenceIdeal.Value.run m g)

/-- Every claim of this certificate. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Pre_finite.Gen.facts,
    fun m g _ => Cert.Kernel.Gen.frame m g, fun m g _ => Cert.KernelIdeal.Gen.frame m g, fun m g _ => Cert.KernelIdeal.Gen.frame m g,
    reference_quiescent, fun m g _ => reference_quiescent m g trivial,
    fun m g _ => Cert.Kernel2.Gen.frame m g, fun m g _ => Cert.Kernel2Ideal.Gen.frame m g, Proj.reference_quiescent,
    fun m g _ => Cert.Kernel3.Gen.frame m g, fun m g _ => Cert.Kernel3Ideal.Gen.frame m g, Last.reference_quiescent,
    fun m g _ => Cert.Kernel4.Gen.frame m g, fun m g _ => Cert.Kernel4Ideal.Gen.frame m g, Even.reference_quiescent,
    trivial, Attn.algebraic_holds, Proj.preserves_holds, Proj.algebraic_holds,
    trivial, Last.algebraic_holds, Even.preserves_holds, Even.algebraic_holds⟩

end Cert.Proof

end
